-- ==== Defs.lean ====
def Pre_SampleFfn (m : (ℓ : Loc Cert.SampleFfn.nD Cert.SampleFfn.τ Cert.SampleFfn.sig) → Buf (Elt Bits) ℓ) : Prop :=
  True

def Pre_SampleFfnIdeal (m : (ℓ : Loc Cert.SampleFfnIdeal.nD Cert.SampleFfnIdeal.τ Cert.SampleFfnIdeal.sig) → Buf (Elt Ideal) ℓ) : Prop :=
  True

def Pre_SampleFfnRefIdeal (m : (ℓ : Loc Cert.SampleFfnRefIdeal.nD Cert.SampleFfnRefIdeal.τ Cert.SampleFfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_PromptFfn (m : (ℓ : Loc Cert.PromptFfn.nD Cert.PromptFfn.τ Cert.PromptFfn.sig) → Buf (Elt Bits) ℓ) : Prop :=
  True

def Pre_PromptFfnIdeal (m : (ℓ : Loc Cert.PromptFfnIdeal.nD Cert.PromptFfnIdeal.τ Cert.PromptFfnIdeal.sig) → Buf (Elt Ideal) ℓ) : Prop :=
  True

def Pre_PromptFfnRefIdeal (m : (ℓ : Loc Cert.PromptFfnRefIdeal.nD Cert.PromptFfnRefIdeal.τ Cert.PromptFfnRefIdeal.sig) → Buf (Elt Ideal) ℓ) : Prop :=
  True

def Pre_SampleConv (m : (ℓ : Loc Cert.SampleConv.nD Cert.SampleConv.τ Cert.SampleConv.sig) → Buf (Elt Bits) ℓ) : Prop :=
  True

def Pre_SampleConvIdeal (m : (ℓ : Loc Cert.SampleConvIdeal.nD Cert.SampleConvIdeal.τ Cert.SampleConvIdeal.sig) → Buf (Elt Ideal) ℓ) : Prop :=
  True

def Pre_SampleConvRefIdeal (m : (ℓ : Loc Cert.SampleConvRefIdeal.nD Cert.SampleConvRefIdeal.τ Cert.SampleConvRefIdeal.sig) → Buf (Elt Ideal) ℓ) : Prop :=
  True

def quiescent_SampleFfn [hSampleFfn : Cert.SampleFfn.Facts] : Prop :=
  ∀ (m : (ℓ : Loc Cert.SampleFfn.nD Cert.SampleFfn.τ Cert.SampleFfn.sig) → Buf (Elt Bits) ℓ) (g : Dev Cert.SampleFfn.nD → PrngReg), Pre_SampleFfn m →
    θ_run (Cert.SampleFfn.defs (F := Bits)) (onTc (τ := Cert.SampleFfn.τ) (Cert.SampleFfn.main (F := Bits))) ⟨m, fun _ => 0, g⟩ (fun r => (∀ c : Dev Cert.SampleFfn.nD,
      r.2.mem ((c.tc : Thread Cert.SampleFfn.nD Cert.SampleFfn.τ).loc Cert.SampleFfn.main_arg0) = m ((c.tc : Thread Cert.SampleFfn.nD Cert.SampleFfn.τ).loc Cert.SampleFfn.main_arg0)
      ∧ r.2.mem ((c.tc : Thread Cert.SampleFfn.nD Cert.SampleFfn.τ).loc Cert.SampleFfn.main_arg1) = m ((c.tc : Thread Cert.SampleFfn.nD Cert.SampleFfn.τ).loc Cert.SampleFfn.main_arg1)
      ∧ r.2.mem ((c.tc : Thread Cert.SampleFfn.nD Cert.SampleFfn.τ).loc Cert.SampleFfn.main_arg2) = m ((c.tc : Thread Cert.SampleFfn.nD Cert.SampleFfn.τ).loc Cert.SampleFfn.main_arg2)
      ∧ r.2.mem ((c.tc : Thread Cert.SampleFfn.nD Cert.SampleFfn.τ).loc Cert.SampleFfn.main_arg3) = m ((c.tc : Thread Cert.SampleFfn.nD Cert.SampleFfn.τ).loc Cert.SampleFfn.main_arg3)
      ∧ r.2.mem ((c.tc : Thread Cert.SampleFfn.nD Cert.SampleFfn.τ).loc Cert.SampleFfn.main_arg4) = m ((c.tc : Thread Cert.SampleFfn.nD Cert.SampleFfn.τ).loc Cert.SampleFfn.main_arg4)
      ∧ r.2.mem ((c.tc : Thread Cert.SampleFfn.nD Cert.SampleFfn.τ).loc Cert.SampleFfn.main_arg5) = m ((c.tc : Thread Cert.SampleFfn.nD Cert.SampleFfn.τ).loc Cert.SampleFfn.main_arg5)
      ∧ r.2.mem ((c.tc : Thread Cert.SampleFfn.nD Cert.SampleFfn.τ).loc Cert.SampleFfn.main_arg6) = m ((c.tc : Thread Cert.SampleFfn.nD Cert.SampleFfn.τ).loc Cert.SampleFfn.main_arg6)
      ∧ r.2.mem ((c.tc : Thread Cert.SampleFfn.nD Cert.SampleFfn.τ).loc Cert.SampleFfn.main_arg7) = m ((c.tc : Thread Cert.SampleFfn.nD Cert.SampleFfn.τ).loc Cert.SampleFfn.main_arg7))
      ∧ r.2.sem = fun _ => 0)

def quiescent_SampleFfnIdeal [hSampleFfnIdeal : Cert.SampleFfnIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg), Pre_SampleFfnIdeal m →
    θ_run (Cert.SampleFfnIdeal.defs (F := Ideal)) (onTc (τ := Cert.SampleFfnIdeal.τ) (Cert.SampleFfnIdeal.main (F := Ideal))) ⟨m, fun _ => 0, g⟩ (fun r => (∀ c : Dev Cert.SampleFfnIdeal.nD,
      r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
      ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
      ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
      ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
      ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4)
      ∧ r.2.mem ((c.tc : Thread Cert.SampleFfnIdeal.nD Cert.SampleFfnIdeal.τ).loc Cert.SampleFfnIdeal.main_arg5) = m ((c.tc : Thread Cert.SampleFfnIdeal.nD Cert.SampleFfnIdeal.τ).loc Cert.SampleFfnIdeal.main_arg5)
      ∧ r.2.mem ((c.tc : Thread Cert.SampleFfnIdeal.nD Cert.SampleFfnIdeal.τ).loc Cert.SampleFfnIdeal.main_arg6) = m ((c.tc : Thread Cert.SampleFfnIdeal.nD Cert.SampleFfnIdeal.τ).loc Cert.SampleFfnIdeal.main_arg6)
      ∧ r.2.mem ((c.tc : Thread Cert.SampleFfnIdeal.nD Cert.SampleFfnIdeal.τ).loc Cert.SampleFfnIdeal.main_arg7) = m ((c.tc : Thread Cert.SampleFfnIdeal.nD Cert.SampleFfnIdeal.τ).loc Cert.SampleFfnIdeal.main_arg7))
      ∧ r.2.sem = fun _ => 0)

def quiescent_SampleFfnRefIdeal [hSampleFfnRefIdeal : Cert.SampleFfnRefIdeal.Facts] : Prop :=
  ∀ (m : (ℓ : Loc Cert.SampleFfnRefIdeal.nD Cert.SampleFfnRefIdeal.τ Cert.SampleFfnRefIdeal.sig) → Buf (Elt Ideal) ℓ) (g : Dev Cert.SampleFfnRefIdeal.nD → PrngReg), Pre_SampleFfnRefIdeal m →
    θ_run (Cert.SampleFfnRefIdeal.defs (F := Ideal)) (onTc (τ := Cert.SampleFfnRefIdeal.τ) (Cert.SampleFfnRefIdeal.main (F := Ideal))) ⟨m, fun _ => 0, g⟩ (fun r => (∀ c : Dev Cert.SampleFfnRefIdeal.nD,
      r.2.mem ((c.tc : Thread Cert.SampleFfnRefIdeal.nD Cert.SampleFfnRefIdeal.τ).loc Cert.SampleFfnRefIdeal.main_arg0) = m ((c.tc : Thread Cert.SampleFfnRefIdeal.nD Cert.SampleFfnRefIdeal.τ).loc Cert.SampleFfnRefIdeal.main_arg0)
      ∧ r.2.mem ((c.tc : Thread Cert.SampleFfnRefIdeal.nD Cert.SampleFfnRefIdeal.τ).loc Cert.SampleFfnRefIdeal.main_arg1) = m ((c.tc : Thread Cert.SampleFfnRefIdeal.nD Cert.SampleFfnRefIdeal.τ).loc Cert.SampleFfnRefIdeal.main_arg1)
      ∧ r.2.mem ((c.tc : Thread Cert.SampleFfnRefIdeal.nD Cert.SampleFfnRefIdeal.τ).loc Cert.SampleFfnRefIdeal.main_arg2) = m ((c.tc : Thread Cert.SampleFfnRefIdeal.nD Cert.SampleFfnRefIdeal.τ).loc Cert.SampleFfnRefIdeal.main_arg2)
      ∧ r.2.mem ((c.tc : Thread Cert.SampleFfnRefIdeal.nD Cert.SampleFfnRefIdeal.τ).loc Cert.SampleFfnRefIdeal.main_arg3) = m ((c.tc : Thread Cert.SampleFfnRefIdeal.nD Cert.SampleFfnRefIdeal.τ).loc Cert.SampleFfnRefIdeal.main_arg3)
      ∧ r.2.mem ((c.tc : Thread Cert.SampleFfnRefIdeal.nD Cert.SampleFfnRefIdeal.τ).loc Cert.SampleFfnRefIdeal.main_arg4) = m ((c.tc : Thread Cert.SampleFfnRefIdeal.nD Cert.SampleFfnRefIdeal.τ).loc Cert.SampleFfnRefIdeal.main_arg4)
      ∧ r.2.mem ((c.tc : Thread Cert.SampleFfnRefIdeal.nD Cert.SampleFfnRefIdeal.τ).loc Cert.SampleFfnRefIdeal.main_arg5) = m ((c.tc : Thread Cert.SampleFfnRefIdeal.nD Cert.SampleFfnRefIdeal.τ).loc Cert.SampleFfnRefIdeal.main_arg5)
      ∧ r.2.mem ((c.tc : Thread Cert.SampleFfnRefIdeal.nD Cert.SampleFfnRefIdeal.τ).loc Cert.SampleFfnRefIdeal.main_arg6) = m ((c.tc : Thread Cert.SampleFfnRefIdeal.nD Cert.SampleFfnRefIdeal.τ).loc Cert.SampleFfnRefIdeal.main_arg6)
      ∧ r.2.mem ((c.tc : Thread Cert.SampleFfnRefIdeal.nD Cert.SampleFfnRefIdeal.τ).loc Cert.SampleFfnRefIdeal.main_arg7) = m ((c.tc : Thread Cert.SampleFfnRefIdeal.nD Cert.SampleFfnRefIdeal.τ).loc Cert.SampleFfnRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_PromptFfn [hPromptFfn : Cert.PromptFfn.Facts] : Prop :=
  ∀ (m : (ℓ : Loc Cert.PromptFfn.nD Cert.PromptFfn.τ Cert.PromptFfn.sig) → Buf (Elt Bits) ℓ) (g : Dev Cert.PromptFfn.nD → PrngReg), Pre_PromptFfn m →
    θ_run (Cert.PromptFfn.defs (F := Bits)) (onTc (τ := Cert.PromptFfn.τ) (Cert.PromptFfn.main (F := Bits))) ⟨m, fun _ => 0, g⟩ (fun r => (∀ c : Dev Cert.PromptFfn.nD,
      r.2.mem ((c.tc : Thread Cert.PromptFfn.nD Cert.PromptFfn.τ).loc Cert.PromptFfn.main_arg0) = m ((c.tc : Thread Cert.PromptFfn.nD Cert.PromptFfn.τ).loc Cert.PromptFfn.main_arg0)
      ∧ r.2.mem ((c.tc : Thread Cert.PromptFfn.nD Cert.PromptFfn.τ).loc Cert.PromptFfn.main_arg1) = m ((c.tc : Thread Cert.PromptFfn.nD Cert.PromptFfn.τ).loc Cert.PromptFfn.main_arg1)
      ∧ r.2.mem ((c.tc : Thread Cert.PromptFfn.nD Cert.PromptFfn.τ).loc Cert.PromptFfn.main_arg2) = m ((c.tc : Thread Cert.PromptFfn.nD Cert.PromptFfn.τ).loc Cert.PromptFfn.main_arg2)
      ∧ r.2.mem ((c.tc : Thread Cert.PromptFfn.nD Cert.PromptFfn.τ).loc Cert.PromptFfn.main_arg3) = m ((c.tc : Thread Cert.PromptFfn.nD Cert.PromptFfn.τ).loc Cert.PromptFfn.main_arg3)
      ∧ r.2.mem ((c.tc : Thread Cert.PromptFfn.nD Cert.PromptFfn.τ).loc Cert.PromptFfn.main_arg4) = m ((c.tc : Thread Cert.PromptFfn.nD Cert.PromptFfn.τ).loc Cert.PromptFfn.main_arg4)
      ∧ r.2.mem ((c.tc : Thread Cert.PromptFfn.nD Cert.PromptFfn.τ).loc Cert.PromptFfn.main_arg5) = m ((c.tc : Thread Cert.PromptFfn.nD Cert.PromptFfn.τ).loc Cert.PromptFfn.main_arg5)
      ∧ r.2.mem ((c.tc : Thread Cert.PromptFfn.nD Cert.PromptFfn.τ).loc Cert.PromptFfn.main_arg6) = m ((c.tc : Thread Cert.PromptFfn.nD Cert.PromptFfn.τ).loc Cert.PromptFfn.main_arg6)
      ∧ r.2.mem ((c.tc : Thread Cert.PromptFfn.nD Cert.PromptFfn.τ).loc Cert.PromptFfn.main_arg7) = m ((c.tc : Thread Cert.PromptFfn.nD Cert.PromptFfn.τ).loc Cert.PromptFfn.main_arg7)
      ∧ r.2.mem ((c.tc : Thread Cert.PromptFfn.nD Cert.PromptFfn.τ).loc Cert.PromptFfn.main_arg8) = m ((c.tc : Thread Cert.PromptFfn.nD Cert.PromptFfn.τ).loc Cert.PromptFfn.main_arg8)
      ∧ r.2.mem ((c.tc : Thread Cert.PromptFfn.nD Cert.PromptFfn.τ).loc Cert.PromptFfn.main_arg9) = m ((c.tc : Thread Cert.PromptFfn.nD Cert.PromptFfn.τ).loc Cert.PromptFfn.main_arg9)
      ∧ r.2.mem ((c.tc : Thread Cert.PromptFfn.nD Cert.PromptFfn.τ).loc Cert.PromptFfn.main_arg10) = m ((c.tc : Thread Cert.PromptFfn.nD Cert.PromptFfn.τ).loc Cert.PromptFfn.main_arg10)
      ∧ r.2.mem ((c.tc : Thread Cert.PromptFfn.nD Cert.PromptFfn.τ).loc Cert.PromptFfn.main_arg11) = m ((c.tc : Thread Cert.PromptFfn.nD Cert.PromptFfn.τ).loc Cert.PromptFfn.main_arg11))
      ∧ r.2.sem = fun _ => 0)

def quiescent_PromptFfnIdeal [hPromptFfnIdeal : Cert.PromptFfnIdeal.Facts] : Prop :=
  ∀ (m : (ℓ : Loc Cert.PromptFfnIdeal.nD Cert.PromptFfnIdeal.τ Cert.PromptFfnIdeal.sig) → Buf (Elt Ideal) ℓ) (g : Dev Cert.PromptFfnIdeal.nD → PrngReg), Pre_PromptFfnIdeal m →
    θ_run (Cert.PromptFfnIdeal.defs (F := Ideal)) (onTc (τ := Cert.PromptFfnIdeal.τ) (Cert.PromptFfnIdeal.main (F := Ideal))) ⟨m, fun _ => 0, g⟩ (fun r => (∀ c : Dev Cert.PromptFfnIdeal.nD,
      r.2.mem ((c.tc : Thread Cert.PromptFfnIdeal.nD Cert.PromptFfnIdeal.τ).loc Cert.PromptFfnIdeal.main_arg0) = m ((c.tc : Thread Cert.PromptFfnIdeal.nD Cert.PromptFfnIdeal.τ).loc Cert.PromptFfnIdeal.main_arg0)
      ∧ r.2.mem ((c.tc : Thread Cert.PromptFfnIdeal.nD Cert.PromptFfnIdeal.τ).loc Cert.PromptFfnIdeal.main_arg1) = m ((c.tc : Thread Cert.PromptFfnIdeal.nD Cert.PromptFfnIdeal.τ).loc Cert.PromptFfnIdeal.main_arg1)
      ∧ r.2.mem ((c.tc : Thread Cert.PromptFfnIdeal.nD Cert.PromptFfnIdeal.τ).loc Cert.PromptFfnIdeal.main_arg2) = m ((c.tc : Thread Cert.PromptFfnIdeal.nD Cert.PromptFfnIdeal.τ).loc Cert.PromptFfnIdeal.main_arg2)
      ∧ r.2.mem ((c.tc : Thread Cert.PromptFfnIdeal.nD Cert.PromptFfnIdeal.τ).loc Cert.PromptFfnIdeal.main_arg3) = m ((c.tc : Thread Cert.PromptFfnIdeal.nD Cert.PromptFfnIdeal.τ).loc Cert.PromptFfnIdeal.main_arg3)
      ∧ r.2.mem ((c.tc : Thread Cert.PromptFfnIdeal.nD Cert.PromptFfnIdeal.τ).loc Cert.PromptFfnIdeal.main_arg4) = m ((c.tc : Thread Cert.PromptFfnIdeal.nD Cert.PromptFfnIdeal.τ).loc Cert.PromptFfnIdeal.main_arg4)
      ∧ r.2.mem ((c.tc : Thread Cert.PromptFfnIdeal.nD Cert.PromptFfnIdeal.τ).loc Cert.PromptFfnIdeal.main_arg5) = m ((c.tc : Thread Cert.PromptFfnIdeal.nD Cert.PromptFfnIdeal.τ).loc Cert.PromptFfnIdeal.main_arg5)
      ∧ r.2.mem ((c.tc : Thread Cert.PromptFfnIdeal.nD Cert.PromptFfnIdeal.τ).loc Cert.PromptFfnIdeal.main_arg6) = m ((c.tc : Thread Cert.PromptFfnIdeal.nD Cert.PromptFfnIdeal.τ).loc Cert.PromptFfnIdeal.main_arg6)
      ∧ r.2.mem ((c.tc : Thread Cert.PromptFfnIdeal.nD Cert.PromptFfnIdeal.τ).loc Cert.PromptFfnIdeal.main_arg7) = m ((c.tc : Thread Cert.PromptFfnIdeal.nD Cert.PromptFfnIdeal.τ).loc Cert.PromptFfnIdeal.main_arg7)
      ∧ r.2.mem ((c.tc : Thread Cert.PromptFfnIdeal.nD Cert.PromptFfnIdeal.τ).loc Cert.PromptFfnIdeal.main_arg8) = m ((c.tc : Thread Cert.PromptFfnIdeal.nD Cert.PromptFfnIdeal.τ).loc Cert.PromptFfnIdeal.main_arg8)
      ∧ r.2.mem ((c.tc : Thread Cert.PromptFfnIdeal.nD Cert.PromptFfnIdeal.τ).loc Cert.PromptFfnIdeal.main_arg9) = m ((c.tc : Thread Cert.PromptFfnIdeal.nD Cert.PromptFfnIdeal.τ).loc Cert.PromptFfnIdeal.main_arg9)
      ∧ r.2.mem ((c.tc : Thread Cert.PromptFfnIdeal.nD Cert.PromptFfnIdeal.τ).loc Cert.PromptFfnIdeal.main_arg10) = m ((c.tc : Thread Cert.PromptFfnIdeal.nD Cert.PromptFfnIdeal.τ).loc Cert.PromptFfnIdeal.main_arg10)
      ∧ r.2.mem ((c.tc : Thread Cert.PromptFfnIdeal.nD Cert.PromptFfnIdeal.τ).loc Cert.PromptFfnIdeal.main_arg11) = m ((c.tc : Thread Cert.PromptFfnIdeal.nD Cert.PromptFfnIdeal.τ).loc Cert.PromptFfnIdeal.main_arg11))
      ∧ r.2.sem = fun _ => 0)

def quiescent_PromptFfnRefIdeal [hPromptFfnRefIdeal : Cert.PromptFfnRefIdeal.Facts] : Prop :=
  ∀ (m : (ℓ : Loc Cert.PromptFfnRefIdeal.nD Cert.PromptFfnRefIdeal.τ Cert.PromptFfnRefIdeal.sig) → Buf (Elt Ideal) ℓ) (g : Dev Cert.PromptFfnRefIdeal.nD → PrngReg), Pre_PromptFfnRefIdeal m →
    θ_run (Cert.PromptFfnRefIdeal.defs (F := Ideal)) (onTc (τ := Cert.PromptFfnRefIdeal.τ) (Cert.PromptFfnRefIdeal.main (F := Ideal))) ⟨m, fun _ => 0, g⟩ (fun r => (∀ c : Dev Cert.PromptFfnRefIdeal.nD,
      r.2.mem ((c.tc : Thread Cert.PromptFfnRefIdeal.nD Cert.PromptFfnRefIdeal.τ).loc Cert.PromptFfnRefIdeal.main_arg0) = m ((c.tc : Thread Cert.PromptFfnRefIdeal.nD Cert.PromptFfnRefIdeal.τ).loc Cert.PromptFfnRefIdeal.main_arg0)
      ∧ r.2.mem ((c.tc : Thread Cert.PromptFfnRefIdeal.nD Cert.PromptFfnRefIdeal.τ).loc Cert.PromptFfnRefIdeal.main_arg1) = m ((c.tc : Thread Cert.PromptFfnRefIdeal.nD Cert.PromptFfnRefIdeal.τ).loc Cert.PromptFfnRefIdeal.main_arg1)
      ∧ r.2.mem ((c.tc : Thread Cert.PromptFfnRefIdeal.nD Cert.PromptFfnRefIdeal.τ).loc Cert.PromptFfnRefIdeal.main_arg2) = m ((c.tc : Thread Cert.PromptFfnRefIdeal.nD Cert.PromptFfnRefIdeal.τ).loc Cert.PromptFfnRefIdeal.main_arg2)
      ∧ r.2.mem ((c.tc : Thread Cert.PromptFfnRefIdeal.nD Cert.PromptFfnRefIdeal.τ).loc Cert.PromptFfnRefIdeal.main_arg3) = m ((c.tc : Thread Cert.PromptFfnRefIdeal.nD Cert.PromptFfnRefIdeal.τ).loc Cert.PromptFfnRefIdeal.main_arg3)
      ∧ r.2.mem ((c.tc : Thread Cert.PromptFfnRefIdeal.nD Cert.PromptFfnRefIdeal.τ).loc Cert.PromptFfnRefIdeal.main_arg4) = m ((c.tc : Thread Cert.PromptFfnRefIdeal.nD Cert.PromptFfnRefIdeal.τ).loc Cert.PromptFfnRefIdeal.main_arg4)
      ∧ r.2.mem ((c.tc : Thread Cert.PromptFfnRefIdeal.nD Cert.PromptFfnRefIdeal.τ).loc Cert.PromptFfnRefIdeal.main_arg5) = m ((c.tc : Thread Cert.PromptFfnRefIdeal.nD Cert.PromptFfnRefIdeal.τ).loc Cert.PromptFfnRefIdeal.main_arg5)
      ∧ r.2.mem ((c.tc : Thread Cert.PromptFfnRefIdeal.nD Cert.PromptFfnRefIdeal.τ).loc Cert.PromptFfnRefIdeal.main_arg6) = m ((c.tc : Thread Cert.PromptFfnRefIdeal.nD Cert.PromptFfnRefIdeal.τ).loc Cert.PromptFfnRefIdeal.main_arg6)
      ∧ r.2.mem ((c.tc : Thread Cert.PromptFfnRefIdeal.nD Cert.PromptFfnRefIdeal.τ).loc Cert.PromptFfnRefIdeal.main_arg7) = m ((c.tc : Thread Cert.PromptFfnRefIdeal.nD Cert.PromptFfnRefIdeal.τ).loc Cert.PromptFfnRefIdeal.main_arg7)
      ∧ r.2.mem ((c.tc : Thread Cert.PromptFfnRefIdeal.nD Cert.PromptFfnRefIdeal.τ).loc Cert.PromptFfnRefIdeal.main_arg8) = m ((c.tc : Thread Cert.PromptFfnRefIdeal.nD Cert.PromptFfnRefIdeal.τ).loc Cert.PromptFfnRefIdeal.main_arg8)
      ∧ r.2.mem ((c.tc : Thread Cert.PromptFfnRefIdeal.nD Cert.PromptFfnRefIdeal.τ).loc Cert.PromptFfnRefIdeal.main_arg9) = m ((c.tc : Thread Cert.PromptFfnRefIdeal.nD Cert.PromptFfnRefIdeal.τ).loc Cert.PromptFfnRefIdeal.main_arg9)
      ∧ r.2.mem ((c.tc : Thread Cert.PromptFfnRefIdeal.nD Cert.PromptFfnRefIdeal.τ).loc Cert.PromptFfnRefIdeal.main_arg10) = m ((c.tc : Thread Cert.PromptFfnRefIdeal.nD Cert.PromptFfnRefIdeal.τ).loc Cert.PromptFfnRefIdeal.main_arg10)
      ∧ r.2.mem ((c.tc : Thread Cert.PromptFfnRefIdeal.nD Cert.PromptFfnRefIdeal.τ).loc Cert.PromptFfnRefIdeal.main_arg11) = m ((c.tc : Thread Cert.PromptFfnRefIdeal.nD Cert.PromptFfnRefIdeal.τ).loc Cert.PromptFfnRefIdeal.main_arg11))
      ∧ r.2.sem = fun _ => 0)

def quiescent_SampleConv [hSampleConv : Cert.SampleConv.Facts] : Prop :=
  ∀ (m : (ℓ : Loc Cert.SampleConv.nD Cert.SampleConv.τ Cert.SampleConv.sig) → Buf (Elt Bits) ℓ) (g : Dev Cert.SampleConv.nD → PrngReg), Pre_SampleConv m →
    θ_run (Cert.SampleConv.defs (F := Bits)) (onTc (τ := Cert.SampleConv.τ) (Cert.SampleConv.main (F := Bits))) ⟨m, fun _ => 0, g⟩ (fun r => (∀ c : Dev Cert.SampleConv.nD,
      r.2.mem ((c.tc : Thread Cert.SampleConv.nD Cert.SampleConv.τ).loc Cert.SampleConv.main_arg0) = m ((c.tc : Thread Cert.SampleConv.nD Cert.SampleConv.τ).loc Cert.SampleConv.main_arg0)
      ∧ r.2.mem ((c.tc : Thread Cert.SampleConv.nD Cert.SampleConv.τ).loc Cert.SampleConv.main_arg1) = m ((c.tc : Thread Cert.SampleConv.nD Cert.SampleConv.τ).loc Cert.SampleConv.main_arg1)
      ∧ r.2.mem ((c.tc : Thread Cert.SampleConv.nD Cert.SampleConv.τ).loc Cert.SampleConv.main_arg2) = m ((c.tc : Thread Cert.SampleConv.nD Cert.SampleConv.τ).loc Cert.SampleConv.main_arg2)
      ∧ r.2.mem ((c.tc : Thread Cert.SampleConv.nD Cert.SampleConv.τ).loc Cert.SampleConv.main_arg3) = m ((c.tc : Thread Cert.SampleConv.nD Cert.SampleConv.τ).loc Cert.SampleConv.main_arg3)
      ∧ r.2.mem ((c.tc : Thread Cert.SampleConv.nD Cert.SampleConv.τ).loc Cert.SampleConv.main_arg4) = m ((c.tc : Thread Cert.SampleConv.nD Cert.SampleConv.τ).loc Cert.SampleConv.main_arg4)
      ∧ r.2.mem ((c.tc : Thread Cert.SampleConv.nD Cert.SampleConv.τ).loc Cert.SampleConv.main_arg5) = m ((c.tc : Thread Cert.SampleConv.nD Cert.SampleConv.τ).loc Cert.SampleConv.main_arg5))
      ∧ r.2.sem = fun _ => 0)

def quiescent_SampleConvIdeal [hSampleConvIdeal : Cert.SampleConvIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg), Pre_SampleConvIdeal m →
    θ_run (Cert.SampleConvIdeal.defs (F := Ideal)) (onTc (τ := Cert.SampleConvIdeal.τ) (Cert.SampleConvIdeal.main (F := Ideal))) ⟨m, fun _ => 0, g⟩ (fun r => (∀ c : Dev Cert.SampleConvIdeal.nD,
      r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
      ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1)
      ∧ r.2.mem ((c.tc : Thread Cert.SampleConvIdeal.nD Cert.SampleConvIdeal.τ).loc Cert.SampleConvIdeal.main_arg2) = m ((c.tc : Thread Cert.SampleConvIdeal.nD Cert.SampleConvIdeal.τ).loc Cert.SampleConvIdeal.main_arg2)
      ∧ r.2.mem ((c.tc : Thread Cert.SampleConvIdeal.nD Cert.SampleConvIdeal.τ).loc Cert.SampleConvIdeal.main_arg3) = m ((c.tc : Thread Cert.SampleConvIdeal.nD Cert.SampleConvIdeal.τ).loc Cert.SampleConvIdeal.main_arg3)
      ∧ r.2.mem ((c.tc : Thread Cert.SampleConvIdeal.nD Cert.SampleConvIdeal.τ).loc Cert.SampleConvIdeal.main_arg4) = m ((c.tc : Thread Cert.SampleConvIdeal.nD Cert.SampleConvIdeal.τ).loc Cert.SampleConvIdeal.main_arg4)
      ∧ r.2.mem ((c.tc : Thread Cert.SampleConvIdeal.nD Cert.SampleConvIdeal.τ).loc Cert.SampleConvIdeal.main_arg5) = m ((c.tc : Thread Cert.SampleConvIdeal.nD Cert.SampleConvIdeal.τ).loc Cert.SampleConvIdeal.main_arg5))
      ∧ r.2.sem = fun _ => 0)

def quiescent_SampleConvRefIdeal [hSampleConvRefIdeal : Cert.SampleConvRefIdeal.Facts] : Prop :=
  ∀ (m : (ℓ : Loc Cert.SampleConvRefIdeal.nD Cert.SampleConvRefIdeal.τ Cert.SampleConvRefIdeal.sig) → Buf (Elt Ideal) ℓ) (g : Dev Cert.SampleConvRefIdeal.nD → PrngReg), Pre_SampleConvRefIdeal m →
    θ_run (Cert.SampleConvRefIdeal.defs (F := Ideal)) (onTc (τ := Cert.SampleConvRefIdeal.τ) (Cert.SampleConvRefIdeal.main (F := Ideal))) ⟨m, fun _ => 0, g⟩ (fun r => (∀ c : Dev Cert.SampleConvRefIdeal.nD,
      r.2.mem ((c.tc : Thread Cert.SampleConvRefIdeal.nD Cert.SampleConvRefIdeal.τ).loc Cert.SampleConvRefIdeal.main_arg0) = m ((c.tc : Thread Cert.SampleConvRefIdeal.nD Cert.SampleConvRefIdeal.τ).loc Cert.SampleConvRefIdeal.main_arg0)
      ∧ r.2.mem ((c.tc : Thread Cert.SampleConvRefIdeal.nD Cert.SampleConvRefIdeal.τ).loc Cert.SampleConvRefIdeal.main_arg1) = m ((c.tc : Thread Cert.SampleConvRefIdeal.nD Cert.SampleConvRefIdeal.τ).loc Cert.SampleConvRefIdeal.main_arg1)
      ∧ r.2.mem ((c.tc : Thread Cert.SampleConvRefIdeal.nD Cert.SampleConvRefIdeal.τ).loc Cert.SampleConvRefIdeal.main_arg2) = m ((c.tc : Thread Cert.SampleConvRefIdeal.nD Cert.SampleConvRefIdeal.τ).loc Cert.SampleConvRefIdeal.main_arg2)
      ∧ r.2.mem ((c.tc : Thread Cert.SampleConvRefIdeal.nD Cert.SampleConvRefIdeal.τ).loc Cert.SampleConvRefIdeal.main_arg3) = m ((c.tc : Thread Cert.SampleConvRefIdeal.nD Cert.SampleConvRefIdeal.τ).loc Cert.SampleConvRefIdeal.main_arg3)
      ∧ r.2.mem ((c.tc : Thread Cert.SampleConvRefIdeal.nD Cert.SampleConvRefIdeal.τ).loc Cert.SampleConvRefIdeal.main_arg4) = m ((c.tc : Thread Cert.SampleConvRefIdeal.nD Cert.SampleConvRefIdeal.τ).loc Cert.SampleConvRefIdeal.main_arg4)
      ∧ r.2.mem ((c.tc : Thread Cert.SampleConvRefIdeal.nD Cert.SampleConvRefIdeal.τ).loc Cert.SampleConvRefIdeal.main_arg5) = m ((c.tc : Thread Cert.SampleConvRefIdeal.nD Cert.SampleConvRefIdeal.τ).loc Cert.SampleConvRefIdeal.main_arg5))
      ∧ r.2.sem = fun _ => 0)

def preserves_SampleFfn_SampleFfnIdeal : Prop :=
  True

def algebraic_SampleFfnIdeal_SampleFfnRefIdeal [hSampleFfnIdeal : Cert.SampleFfnIdeal.Facts] [hSampleFfnRefIdeal : Cert.SampleFfnRefIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg)
    (m' : (ℓ : Loc Cert.SampleFfnRefIdeal.nD Cert.SampleFfnRefIdeal.τ Cert.SampleFfnRefIdeal.sig) → Buf (Elt Ideal) ℓ) (g' : Dev Cert.SampleFfnRefIdeal.nD → PrngReg), Pre_SampleFfnIdeal m →
    (∀ c : Dev Cert.SampleFfnIdeal.nD,
      m' ((c.tc : Thread Cert.SampleFfnRefIdeal.nD Cert.SampleFfnRefIdeal.τ).loc Cert.SampleFfnRefIdeal.main_arg0) = m ((c.tc : Thread Cert.SampleFfnIdeal.nD Cert.SampleFfnIdeal.τ).loc Cert.SampleFfnIdeal.main_arg0)
      ∧ m' ((c.tc : Thread Cert.SampleFfnRefIdeal.nD Cert.SampleFfnRefIdeal.τ).loc Cert.SampleFfnRefIdeal.main_arg1) = m ((c.tc : Thread Cert.SampleFfnIdeal.nD Cert.SampleFfnIdeal.τ).loc Cert.SampleFfnIdeal.main_arg1)
      ∧ m' ((c.tc : Thread Cert.SampleFfnRefIdeal.nD Cert.SampleFfnRefIdeal.τ).loc Cert.SampleFfnRefIdeal.main_arg2) = m ((c.tc : Thread Cert.SampleFfnIdeal.nD Cert.SampleFfnIdeal.τ).loc Cert.SampleFfnIdeal.main_arg2)
      ∧ m' ((c.tc : Thread Cert.SampleFfnRefIdeal.nD Cert.SampleFfnRefIdeal.τ).loc Cert.SampleFfnRefIdeal.main_arg3) = m ((c.tc : Thread Cert.SampleFfnIdeal.nD Cert.SampleFfnIdeal.τ).loc Cert.SampleFfnIdeal.main_arg3)
      ∧ m' ((c.tc : Thread Cert.SampleFfnRefIdeal.nD Cert.SampleFfnRefIdeal.τ).loc Cert.SampleFfnRefIdeal.main_arg4) = m ((c.tc : Thread Cert.SampleFfnIdeal.nD Cert.SampleFfnIdeal.τ).loc Cert.SampleFfnIdeal.main_arg4)
      ∧ m' ((c.tc : Thread Cert.SampleFfnRefIdeal.nD Cert.SampleFfnRefIdeal.τ).loc Cert.SampleFfnRefIdeal.main_arg5) = m ((c.tc : Thread Cert.SampleFfnIdeal.nD Cert.SampleFfnIdeal.τ).loc Cert.SampleFfnIdeal.main_arg5)
      ∧ m' ((c.tc : Thread Cert.SampleFfnRefIdeal.nD Cert.SampleFfnRefIdeal.τ).loc Cert.SampleFfnRefIdeal.main_arg6) = m ((c.tc : Thread Cert.SampleFfnIdeal.nD Cert.SampleFfnIdeal.τ).loc Cert.SampleFfnIdeal.main_arg6)
      ∧ m' ((c.tc : Thread Cert.SampleFfnRefIdeal.nD Cert.SampleFfnRefIdeal.τ).loc Cert.SampleFfnRefIdeal.main_arg7) = m ((c.tc : Thread Cert.SampleFfnIdeal.nD Cert.SampleFfnIdeal.τ).loc Cert.SampleFfnIdeal.main_arg7)) →
    ∃ (v0 : (c : Dev Cert.SampleFfnIdeal.nD) → Buf (Elt Ideal) ((c.tc : Thread Cert.SampleFfnIdeal.nD Cert.SampleFfnIdeal.τ).loc Cert.SampleFfnIdeal.main_v6)),
      θ_run (Cert.SampleFfnIdeal.defs (F := Ideal)) (onTc (τ := Cert.SampleFfnIdeal.τ) (Cert.SampleFfnIdeal.main (F := Ideal))) ⟨m, fun _ => 0, g⟩ (fun r => ∀ c : Dev Cert.SampleFfnIdeal.nD,
          r.2.mem ((c.tc : Thread Cert.SampleFfnIdeal.nD Cert.SampleFfnIdeal.τ).loc Cert.SampleFfnIdeal.main_v6) = v0 c
          ∧ r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
          ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
          ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
          ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
          ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4)
          ∧ r.2.mem ((c.tc : Thread Cert.SampleFfnIdeal.nD Cert.SampleFfnIdeal.τ).loc Cert.SampleFfnIdeal.main_arg5) = m ((c.tc : Thread Cert.SampleFfnIdeal.nD Cert.SampleFfnIdeal.τ).loc Cert.SampleFfnIdeal.main_arg5)
          ∧ r.2.mem ((c.tc : Thread Cert.SampleFfnIdeal.nD Cert.SampleFfnIdeal.τ).loc Cert.SampleFfnIdeal.main_arg6) = m ((c.tc : Thread Cert.SampleFfnIdeal.nD Cert.SampleFfnIdeal.τ).loc Cert.SampleFfnIdeal.main_arg6)
          ∧ r.2.mem ((c.tc : Thread Cert.SampleFfnIdeal.nD Cert.SampleFfnIdeal.τ).loc Cert.SampleFfnIdeal.main_arg7) = m ((c.tc : Thread Cert.SampleFfnIdeal.nD Cert.SampleFfnIdeal.τ).loc Cert.SampleFfnIdeal.main_arg7))
      ∧ θ_run (Cert.SampleFfnRefIdeal.defs (F := Ideal)) (onTc (τ := Cert.SampleFfnRefIdeal.τ) (Cert.SampleFfnRefIdeal.main (F := Ideal))) ⟨m', fun _ => 0, g'⟩ (fun r => ∀ c : Dev Cert.SampleFfnRefIdeal.nD,
          r.2.mem ((c.tc : Thread Cert.SampleFfnRefIdeal.nD Cert.SampleFfnRefIdeal.τ).loc Cert.SampleFfnRefIdeal.main_v21) = v0 c
          ∧ r.2.mem ((c.tc : Thread Cert.SampleFfnRefIdeal.nD Cert.SampleFfnRefIdeal.τ).loc Cert.SampleFfnRefIdeal.main_arg0) = m' ((c.tc : Thread Cert.SampleFfnRefIdeal.nD Cert.SampleFfnRefIdeal.τ).loc Cert.SampleFfnRefIdeal.main_arg0)
          ∧ r.2.mem ((c.tc : Thread Cert.SampleFfnRefIdeal.nD Cert.SampleFfnRefIdeal.τ).loc Cert.SampleFfnRefIdeal.main_arg1) = m' ((c.tc : Thread Cert.SampleFfnRefIdeal.nD Cert.SampleFfnRefIdeal.τ).loc Cert.SampleFfnRefIdeal.main_arg1)
          ∧ r.2.mem ((c.tc : Thread Cert.SampleFfnRefIdeal.nD Cert.SampleFfnRefIdeal.τ).loc Cert.SampleFfnRefIdeal.main_arg2) = m' ((c.tc : Thread Cert.SampleFfnRefIdeal.nD Cert.SampleFfnRefIdeal.τ).loc Cert.SampleFfnRefIdeal.main_arg2)
          ∧ r.2.mem ((c.tc : Thread Cert.SampleFfnRefIdeal.nD Cert.SampleFfnRefIdeal.τ).loc Cert.SampleFfnRefIdeal.main_arg3) = m' ((c.tc : Thread Cert.SampleFfnRefIdeal.nD Cert.SampleFfnRefIdeal.τ).loc Cert.SampleFfnRefIdeal.main_arg3)
          ∧ r.2.mem ((c.tc : Thread Cert.SampleFfnRefIdeal.nD Cert.SampleFfnRefIdeal.τ).loc Cert.SampleFfnRefIdeal.main_arg4) = m' ((c.tc : Thread Cert.SampleFfnRefIdeal.nD Cert.SampleFfnRefIdeal.τ).loc Cert.SampleFfnRefIdeal.main_arg4)
          ∧ r.2.mem ((c.tc : Thread Cert.SampleFfnRefIdeal.nD Cert.SampleFfnRefIdeal.τ).loc Cert.SampleFfnRefIdeal.main_arg5) = m' ((c.tc : Thread Cert.SampleFfnRefIdeal.nD Cert.SampleFfnRefIdeal.τ).loc Cert.SampleFfnRefIdeal.main_arg5)
          ∧ r.2.mem ((c.tc : Thread Cert.SampleFfnRefIdeal.nD Cert.SampleFfnRefIdeal.τ).loc Cert.SampleFfnRefIdeal.main_arg6) = m' ((c.tc : Thread Cert.SampleFfnRefIdeal.nD Cert.SampleFfnRefIdeal.τ).loc Cert.SampleFfnRefIdeal.main_arg6)
          ∧ r.2.mem ((c.tc : Thread Cert.SampleFfnRefIdeal.nD Cert.SampleFfnRefIdeal.τ).loc Cert.SampleFfnRefIdeal.main_arg7) = m' ((c.tc : Thread Cert.SampleFfnRefIdeal.nD Cert.SampleFfnRefIdeal.τ).loc Cert.SampleFfnRefIdeal.main_arg7))

def preserves_InProj_InProjIdeal : Prop :=
  IdealRules.named_const.Statement Cert.InProjIdeal.κ "q_scale" .f32 0x3E38AA3B#32 (((Real.log 256)⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v18_0)) (v1 : (c : Dev Cert.InProjIdeal.nD) → Buf (Elt Ideal) ((c.tc : Thread Cert.InProjIdeal.nD Cert.InProjIdeal.τ).loc Cert.InProjIdeal.main_v18_9)) (v2 : (c : Dev Cert.InProjIdeal.nD) → Buf (Elt Ideal) ((c.tc : Thread Cert.InProjIdeal.nD Cert.InProjIdeal.τ).loc Cert.InProjIdeal.main_v18_10)) (v3 : (c : Dev Cert.InProjIdeal.nD) → Buf (Elt Ideal) ((c.tc : Thread Cert.InProjIdeal.nD Cert.InProjIdeal.τ).loc Cert.InProjIdeal.main_v18_11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v18_0) = v0 c
          ∧ r.2.mem ((c.tc : Thread Cert.InProjIdeal.nD Cert.InProjIdeal.τ).loc Cert.InProjIdeal.main_v18_9) = v1 c
          ∧ r.2.mem ((c.tc : Thread Cert.InProjIdeal.nD Cert.InProjIdeal.τ).loc Cert.InProjIdeal.main_v18_10) = v2 c
          ∧ r.2.mem ((c.tc : Thread Cert.InProjIdeal.nD Cert.InProjIdeal.τ).loc Cert.InProjIdeal.main_v18_11) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v61) = v0 c
          ∧ r.2.mem ((c.tc : Thread Cert.InProjRefIdeal.nD Cert.InProjRefIdeal.τ).loc Cert.InProjRefIdeal.main_v63) = v1 c
          ∧ r.2.mem ((c.tc : Thread Cert.InProjRefIdeal.nD Cert.InProjRefIdeal.τ).loc Cert.InProjRefIdeal.main_v64) = v2 c
          ∧ r.2.mem ((c.tc : Thread Cert.InProjRefIdeal.nD Cert.InProjRefIdeal.τ).loc Cert.InProjRefIdeal.main_v59) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_PromptFfn_PromptFfnIdeal : Prop :=
  True

def algebraic_PromptFfnIdeal_PromptFfnRefIdeal [hPromptFfnIdeal : Cert.PromptFfnIdeal.Facts] [hPromptFfnRefIdeal : Cert.PromptFfnRefIdeal.Facts] : Prop :=
  ∀ (m : (ℓ : Loc Cert.PromptFfnIdeal.nD Cert.PromptFfnIdeal.τ Cert.PromptFfnIdeal.sig) → Buf (Elt Ideal) ℓ) (g : Dev Cert.PromptFfnIdeal.nD → PrngReg)
    (m' : (ℓ : Loc Cert.PromptFfnRefIdeal.nD Cert.PromptFfnRefIdeal.τ Cert.PromptFfnRefIdeal.sig) → Buf (Elt Ideal) ℓ) (g' : Dev Cert.PromptFfnRefIdeal.nD → PrngReg), Pre_PromptFfnIdeal m →
    (∀ c : Dev Cert.PromptFfnIdeal.nD,
      m' ((c.tc : Thread Cert.PromptFfnRefIdeal.nD Cert.PromptFfnRefIdeal.τ).loc Cert.PromptFfnRefIdeal.main_arg0) = m ((c.tc : Thread Cert.PromptFfnIdeal.nD Cert.PromptFfnIdeal.τ).loc Cert.PromptFfnIdeal.main_arg0)
      ∧ m' ((c.tc : Thread Cert.PromptFfnRefIdeal.nD Cert.PromptFfnRefIdeal.τ).loc Cert.PromptFfnRefIdeal.main_arg1) = m ((c.tc : Thread Cert.PromptFfnIdeal.nD Cert.PromptFfnIdeal.τ).loc Cert.PromptFfnIdeal.main_arg1)
      ∧ m' ((c.tc : Thread Cert.PromptFfnRefIdeal.nD Cert.PromptFfnRefIdeal.τ).loc Cert.PromptFfnRefIdeal.main_arg2) = m ((c.tc : Thread Cert.PromptFfnIdeal.nD Cert.PromptFfnIdeal.τ).loc Cert.PromptFfnIdeal.main_arg2)
      ∧ m' ((c.tc : Thread Cert.PromptFfnRefIdeal.nD Cert.PromptFfnRefIdeal.τ).loc Cert.PromptFfnRefIdeal.main_arg3) = m ((c.tc : Thread Cert.PromptFfnIdeal.nD Cert.PromptFfnIdeal.τ).loc Cert.PromptFfnIdeal.main_arg3)
      ∧ m' ((c.tc : Thread Cert.PromptFfnRefIdeal.nD Cert.PromptFfnRefIdeal.τ).loc Cert.PromptFfnRefIdeal.main_arg4) = m ((c.tc : Thread Cert.PromptFfnIdeal.nD Cert.PromptFfnIdeal.τ).loc Cert.PromptFfnIdeal.main_arg4)
      ∧ m' ((c.tc : Thread Cert.PromptFfnRefIdeal.nD Cert.PromptFfnRefIdeal.τ).loc Cert.PromptFfnRefIdeal.main_arg5) = m ((c.tc : Thread Cert.PromptFfnIdeal.nD Cert.PromptFfnIdeal.τ).loc Cert.PromptFfnIdeal.main_arg5)
      ∧ m' ((c.tc : Thread Cert.PromptFfnRefIdeal.nD Cert.PromptFfnRefIdeal.τ).loc Cert.PromptFfnRefIdeal.main_arg6) = m ((c.tc : Thread Cert.PromptFfnIdeal.nD Cert.PromptFfnIdeal.τ).loc Cert.PromptFfnIdeal.main_arg6)
      ∧ m' ((c.tc : Thread Cert.PromptFfnRefIdeal.nD Cert.PromptFfnRefIdeal.τ).loc Cert.PromptFfnRefIdeal.main_arg7) = m ((c.tc : Thread Cert.PromptFfnIdeal.nD Cert.PromptFfnIdeal.τ).loc Cert.PromptFfnIdeal.main_arg7)
      ∧ m' ((c.tc : Thread Cert.PromptFfnRefIdeal.nD Cert.PromptFfnRefIdeal.τ).loc Cert.PromptFfnRefIdeal.main_arg8) = m ((c.tc : Thread Cert.PromptFfnIdeal.nD Cert.PromptFfnIdeal.τ).loc Cert.PromptFfnIdeal.main_arg8)
      ∧ m' ((c.tc : Thread Cert.PromptFfnRefIdeal.nD Cert.PromptFfnRefIdeal.τ).loc Cert.PromptFfnRefIdeal.main_arg9) = m ((c.tc : Thread Cert.PromptFfnIdeal.nD Cert.PromptFfnIdeal.τ).loc Cert.PromptFfnIdeal.main_arg9)
      ∧ m' ((c.tc : Thread Cert.PromptFfnRefIdeal.nD Cert.PromptFfnRefIdeal.τ).loc Cert.PromptFfnRefIdeal.main_arg10) = m ((c.tc : Thread Cert.PromptFfnIdeal.nD Cert.PromptFfnIdeal.τ).loc Cert.PromptFfnIdeal.main_arg10)
      ∧ m' ((c.tc : Thread Cert.PromptFfnRefIdeal.nD Cert.PromptFfnRefIdeal.τ).loc Cert.PromptFfnRefIdeal.main_arg11) = m ((c.tc : Thread Cert.PromptFfnIdeal.nD Cert.PromptFfnIdeal.τ).loc Cert.PromptFfnIdeal.main_arg11)) →
    ∃ (v0 : (c : Dev Cert.PromptFfnIdeal.nD) → Buf (Elt Ideal) ((c.tc : Thread Cert.PromptFfnIdeal.nD Cert.PromptFfnIdeal.τ).loc Cert.PromptFfnIdeal.main_v56_0)),
      θ_run (Cert.PromptFfnIdeal.defs (F := Ideal)) (onTc (τ := Cert.PromptFfnIdeal.τ) (Cert.PromptFfnIdeal.main (F := Ideal))) ⟨m, fun _ => 0, g⟩ (fun r => ∀ c : Dev Cert.PromptFfnIdeal.nD,
          r.2.mem ((c.tc : Thread Cert.PromptFfnIdeal.nD Cert.PromptFfnIdeal.τ).loc Cert.PromptFfnIdeal.main_v56_0) = v0 c
          ∧ r.2.mem ((c.tc : Thread Cert.PromptFfnIdeal.nD Cert.PromptFfnIdeal.τ).loc Cert.PromptFfnIdeal.main_arg0) = m ((c.tc : Thread Cert.PromptFfnIdeal.nD Cert.PromptFfnIdeal.τ).loc Cert.PromptFfnIdeal.main_arg0)
          ∧ r.2.mem ((c.tc : Thread Cert.PromptFfnIdeal.nD Cert.PromptFfnIdeal.τ).loc Cert.PromptFfnIdeal.main_arg1) = m ((c.tc : Thread Cert.PromptFfnIdeal.nD Cert.PromptFfnIdeal.τ).loc Cert.PromptFfnIdeal.main_arg1)
          ∧ r.2.mem ((c.tc : Thread Cert.PromptFfnIdeal.nD Cert.PromptFfnIdeal.τ).loc Cert.PromptFfnIdeal.main_arg2) = m ((c.tc : Thread Cert.PromptFfnIdeal.nD Cert.PromptFfnIdeal.τ).loc Cert.PromptFfnIdeal.main_arg2)
          ∧ r.2.mem ((c.tc : Thread Cert.PromptFfnIdeal.nD Cert.PromptFfnIdeal.τ).loc Cert.PromptFfnIdeal.main_arg3) = m ((c.tc : Thread Cert.PromptFfnIdeal.nD Cert.PromptFfnIdeal.τ).loc Cert.PromptFfnIdeal.main_arg3)
          ∧ r.2.mem ((c.tc : Thread Cert.PromptFfnIdeal.nD Cert.PromptFfnIdeal.τ).loc Cert.PromptFfnIdeal.main_arg4) = m ((c.tc : Thread Cert.PromptFfnIdeal.nD Cert.PromptFfnIdeal.τ).loc Cert.PromptFfnIdeal.main_arg4)
          ∧ r.2.mem ((c.tc : Thread Cert.PromptFfnIdeal.nD Cert.PromptFfnIdeal.τ).loc Cert.PromptFfnIdeal.main_arg5) = m ((c.tc : Thread Cert.PromptFfnIdeal.nD Cert.PromptFfnIdeal.τ).loc Cert.PromptFfnIdeal.main_arg5)
          ∧ r.2.mem ((c.tc : Thread Cert.PromptFfnIdeal.nD Cert.PromptFfnIdeal.τ).loc Cert.PromptFfnIdeal.main_arg6) = m ((c.tc : Thread Cert.PromptFfnIdeal.nD Cert.PromptFfnIdeal.τ).loc Cert.PromptFfnIdeal.main_arg6)
          ∧ r.2.mem ((c.tc : Thread Cert.PromptFfnIdeal.nD Cert.PromptFfnIdeal.τ).loc Cert.PromptFfnIdeal.main_arg7) = m ((c.tc : Thread Cert.PromptFfnIdeal.nD Cert.PromptFfnIdeal.τ).loc Cert.PromptFfnIdeal.main_arg7)
          ∧ r.2.mem ((c.tc : Thread Cert.PromptFfnIdeal.nD Cert.PromptFfnIdeal.τ).loc Cert.PromptFfnIdeal.main_arg8) = m ((c.tc : Thread Cert.PromptFfnIdeal.nD Cert.PromptFfnIdeal.τ).loc Cert.PromptFfnIdeal.main_arg8)
          ∧ r.2.mem ((c.tc : Thread Cert.PromptFfnIdeal.nD Cert.PromptFfnIdeal.τ).loc Cert.PromptFfnIdeal.main_arg9) = m ((c.tc : Thread Cert.PromptFfnIdeal.nD Cert.PromptFfnIdeal.τ).loc Cert.PromptFfnIdeal.main_arg9)
          ∧ r.2.mem ((c.tc : Thread Cert.PromptFfnIdeal.nD Cert.PromptFfnIdeal.τ).loc Cert.PromptFfnIdeal.main_arg10) = m ((c.tc : Thread Cert.PromptFfnIdeal.nD Cert.PromptFfnIdeal.τ).loc Cert.PromptFfnIdeal.main_arg10)
          ∧ r.2.mem ((c.tc : Thread Cert.PromptFfnIdeal.nD Cert.PromptFfnIdeal.τ).loc Cert.PromptFfnIdeal.main_arg11) = m ((c.tc : Thread Cert.PromptFfnIdeal.nD Cert.PromptFfnIdeal.τ).loc Cert.PromptFfnIdeal.main_arg11))
      ∧ θ_run (Cert.PromptFfnRefIdeal.defs (F := Ideal)) (onTc (τ := Cert.PromptFfnRefIdeal.τ) (Cert.PromptFfnRefIdeal.main (F := Ideal))) ⟨m', fun _ => 0, g'⟩ (fun r => ∀ c : Dev Cert.PromptFfnRefIdeal.nD,
          r.2.mem ((c.tc : Thread Cert.PromptFfnRefIdeal.nD Cert.PromptFfnRefIdeal.τ).loc Cert.PromptFfnRefIdeal.main_v20) = v0 c
          ∧ r.2.mem ((c.tc : Thread Cert.PromptFfnRefIdeal.nD Cert.PromptFfnRefIdeal.τ).loc Cert.PromptFfnRefIdeal.main_arg0) = m' ((c.tc : Thread Cert.PromptFfnRefIdeal.nD Cert.PromptFfnRefIdeal.τ).loc Cert.PromptFfnRefIdeal.main_arg0)
          ∧ r.2.mem ((c.tc : Thread Cert.PromptFfnRefIdeal.nD Cert.PromptFfnRefIdeal.τ).loc Cert.PromptFfnRefIdeal.main_arg1) = m' ((c.tc : Thread Cert.PromptFfnRefIdeal.nD Cert.PromptFfnRefIdeal.τ).loc Cert.PromptFfnRefIdeal.main_arg1)
          ∧ r.2.mem ((c.tc : Thread Cert.PromptFfnRefIdeal.nD Cert.PromptFfnRefIdeal.τ).loc Cert.PromptFfnRefIdeal.main_arg2) = m' ((c.tc : Thread Cert.PromptFfnRefIdeal.nD Cert.PromptFfnRefIdeal.τ).loc Cert.PromptFfnRefIdeal.main_arg2)
          ∧ r.2.mem ((c.tc : Thread Cert.PromptFfnRefIdeal.nD Cert.PromptFfnRefIdeal.τ).loc Cert.PromptFfnRefIdeal.main_arg3) = m' ((c.tc : Thread Cert.PromptFfnRefIdeal.nD Cert.PromptFfnRefIdeal.τ).loc Cert.PromptFfnRefIdeal.main_arg3)
          ∧ r.2.mem ((c.tc : Thread Cert.PromptFfnRefIdeal.nD Cert.PromptFfnRefIdeal.τ).loc Cert.PromptFfnRefIdeal.main_arg4) = m' ((c.tc : Thread Cert.PromptFfnRefIdeal.nD Cert.PromptFfnRefIdeal.τ).loc Cert.PromptFfnRefIdeal.main_arg4)
          ∧ r.2.mem ((c.tc : Thread Cert.PromptFfnRefIdeal.nD Cert.PromptFfnRefIdeal.τ).loc Cert.PromptFfnRefIdeal.main_arg5) = m' ((c.tc : Thread Cert.PromptFfnRefIdeal.nD Cert.PromptFfnRefIdeal.τ).loc Cert.PromptFfnRefIdeal.main_arg5)
          ∧ r.2.mem ((c.tc : Thread Cert.PromptFfnRefIdeal.nD Cert.PromptFfnRefIdeal.τ).loc Cert.PromptFfnRefIdeal.main_arg6) = m' ((c.tc : Thread Cert.PromptFfnRefIdeal.nD Cert.PromptFfnRefIdeal.τ).loc Cert.PromptFfnRefIdeal.main_arg6)
          ∧ r.2.mem ((c.tc : Thread Cert.PromptFfnRefIdeal.nD Cert.PromptFfnRefIdeal.τ).loc Cert.PromptFfnRefIdeal.main_arg7) = m' ((c.tc : Thread Cert.PromptFfnRefIdeal.nD Cert.PromptFfnRefIdeal.τ).loc Cert.PromptFfnRefIdeal.main_arg7)
          ∧ r.2.mem ((c.tc : Thread Cert.PromptFfnRefIdeal.nD Cert.PromptFfnRefIdeal.τ).loc Cert.PromptFfnRefIdeal.main_arg8) = m' ((c.tc : Thread Cert.PromptFfnRefIdeal.nD Cert.PromptFfnRefIdeal.τ).loc Cert.PromptFfnRefIdeal.main_arg8)
          ∧ r.2.mem ((c.tc : Thread Cert.PromptFfnRefIdeal.nD Cert.PromptFfnRefIdeal.τ).loc Cert.PromptFfnRefIdeal.main_arg9) = m' ((c.tc : Thread Cert.PromptFfnRefIdeal.nD Cert.PromptFfnRefIdeal.τ).loc Cert.PromptFfnRefIdeal.main_arg9)
          ∧ r.2.mem ((c.tc : Thread Cert.PromptFfnRefIdeal.nD Cert.PromptFfnRefIdeal.τ).loc Cert.PromptFfnRefIdeal.main_arg10) = m' ((c.tc : Thread Cert.PromptFfnRefIdeal.nD Cert.PromptFfnRefIdeal.τ).loc Cert.PromptFfnRefIdeal.main_arg10)
          ∧ r.2.mem ((c.tc : Thread Cert.PromptFfnRefIdeal.nD Cert.PromptFfnRefIdeal.τ).loc Cert.PromptFfnRefIdeal.main_arg11) = m' ((c.tc : Thread Cert.PromptFfnRefIdeal.nD Cert.PromptFfnRefIdeal.τ).loc Cert.PromptFfnRefIdeal.main_arg11))

def preserves_SampleConv_SampleConvIdeal : Prop :=
  True

def algebraic_SampleConvIdeal_SampleConvRefIdeal [hSampleConvIdeal : Cert.SampleConvIdeal.Facts] [hSampleConvRefIdeal : Cert.SampleConvRefIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg)
    (m' : (ℓ : Loc Cert.SampleConvRefIdeal.nD Cert.SampleConvRefIdeal.τ Cert.SampleConvRefIdeal.sig) → Buf (Elt Ideal) ℓ) (g' : Dev Cert.SampleConvRefIdeal.nD → PrngReg), Pre_SampleConvIdeal m →
    (∀ c : Dev Cert.SampleConvIdeal.nD,
      m' ((c.tc : Thread Cert.SampleConvRefIdeal.nD Cert.SampleConvRefIdeal.τ).loc Cert.SampleConvRefIdeal.main_arg0) = m ((c.tc : Thread Cert.SampleConvIdeal.nD Cert.SampleConvIdeal.τ).loc Cert.SampleConvIdeal.main_arg0)
      ∧ m' ((c.tc : Thread Cert.SampleConvRefIdeal.nD Cert.SampleConvRefIdeal.τ).loc Cert.SampleConvRefIdeal.main_arg1) = m ((c.tc : Thread Cert.SampleConvIdeal.nD Cert.SampleConvIdeal.τ).loc Cert.SampleConvIdeal.main_arg1)
      ∧ m' ((c.tc : Thread Cert.SampleConvRefIdeal.nD Cert.SampleConvRefIdeal.τ).loc Cert.SampleConvRefIdeal.main_arg2) = m ((c.tc : Thread Cert.SampleConvIdeal.nD Cert.SampleConvIdeal.τ).loc Cert.SampleConvIdeal.main_arg2)
      ∧ m' ((c.tc : Thread Cert.SampleConvRefIdeal.nD Cert.SampleConvRefIdeal.τ).loc Cert.SampleConvRefIdeal.main_arg3) = m ((c.tc : Thread Cert.SampleConvIdeal.nD Cert.SampleConvIdeal.τ).loc Cert.SampleConvIdeal.main_arg3)
      ∧ m' ((c.tc : Thread Cert.SampleConvRefIdeal.nD Cert.SampleConvRefIdeal.τ).loc Cert.SampleConvRefIdeal.main_arg4) = m ((c.tc : Thread Cert.SampleConvIdeal.nD Cert.SampleConvIdeal.τ).loc Cert.SampleConvIdeal.main_arg4)
      ∧ m' ((c.tc : Thread Cert.SampleConvRefIdeal.nD Cert.SampleConvRefIdeal.τ).loc Cert.SampleConvRefIdeal.main_arg5) = m ((c.tc : Thread Cert.SampleConvIdeal.nD Cert.SampleConvIdeal.τ).loc Cert.SampleConvIdeal.main_arg5)) →
    ∃ (v0 : (c : Dev Cert.SampleConvIdeal.nD) → Buf (Elt Ideal) ((c.tc : Thread Cert.SampleConvIdeal.nD Cert.SampleConvIdeal.τ).loc Cert.SampleConvIdeal.main_v4_1)),
      θ_run (Cert.SampleConvIdeal.defs (F := Ideal)) (onTc (τ := Cert.SampleConvIdeal.τ) (Cert.SampleConvIdeal.main (F := Ideal))) ⟨m, fun _ => 0, g⟩ (fun r => ∀ c : Dev Cert.SampleConvIdeal.nD,
          r.2.mem ((c.tc : Thread Cert.SampleConvIdeal.nD Cert.SampleConvIdeal.τ).loc Cert.SampleConvIdeal.main_v4_1) = v0 c
          ∧ r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
          ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1)
          ∧ r.2.mem ((c.tc : Thread Cert.SampleConvIdeal.nD Cert.SampleConvIdeal.τ).loc Cert.SampleConvIdeal.main_arg2) = m ((c.tc : Thread Cert.SampleConvIdeal.nD Cert.SampleConvIdeal.τ).loc Cert.SampleConvIdeal.main_arg2)
          ∧ r.2.mem ((c.tc : Thread Cert.SampleConvIdeal.nD Cert.SampleConvIdeal.τ).loc Cert.SampleConvIdeal.main_arg3) = m ((c.tc : Thread Cert.SampleConvIdeal.nD Cert.SampleConvIdeal.τ).loc Cert.SampleConvIdeal.main_arg3)
          ∧ r.2.mem ((c.tc : Thread Cert.SampleConvIdeal.nD Cert.SampleConvIdeal.τ).loc Cert.SampleConvIdeal.main_arg4) = m ((c.tc : Thread Cert.SampleConvIdeal.nD Cert.SampleConvIdeal.τ).loc Cert.SampleConvIdeal.main_arg4)
          ∧ r.2.mem ((c.tc : Thread Cert.SampleConvIdeal.nD Cert.SampleConvIdeal.τ).loc Cert.SampleConvIdeal.main_arg5) = m ((c.tc : Thread Cert.SampleConvIdeal.nD Cert.SampleConvIdeal.τ).loc Cert.SampleConvIdeal.main_arg5))
      ∧ θ_run (Cert.SampleConvRefIdeal.defs (F := Ideal)) (onTc (τ := Cert.SampleConvRefIdeal.τ) (Cert.SampleConvRefIdeal.main (F := Ideal))) ⟨m', fun _ => 0, g'⟩ (fun r => ∀ c : Dev Cert.SampleConvRefIdeal.nD,
          r.2.mem ((c.tc : Thread Cert.SampleConvRefIdeal.nD Cert.SampleConvRefIdeal.τ).loc Cert.SampleConvRefIdeal.main_v3) = v0 c
          ∧ r.2.mem ((c.tc : Thread Cert.SampleConvRefIdeal.nD Cert.SampleConvRefIdeal.τ).loc Cert.SampleConvRefIdeal.main_arg0) = m' ((c.tc : Thread Cert.SampleConvRefIdeal.nD Cert.SampleConvRefIdeal.τ).loc Cert.SampleConvRefIdeal.main_arg0)
          ∧ r.2.mem ((c.tc : Thread Cert.SampleConvRefIdeal.nD Cert.SampleConvRefIdeal.τ).loc Cert.SampleConvRefIdeal.main_arg1) = m' ((c.tc : Thread Cert.SampleConvRefIdeal.nD Cert.SampleConvRefIdeal.τ).loc Cert.SampleConvRefIdeal.main_arg1)
          ∧ r.2.mem ((c.tc : Thread Cert.SampleConvRefIdeal.nD Cert.SampleConvRefIdeal.τ).loc Cert.SampleConvRefIdeal.main_arg2) = m' ((c.tc : Thread Cert.SampleConvRefIdeal.nD Cert.SampleConvRefIdeal.τ).loc Cert.SampleConvRefIdeal.main_arg2)
          ∧ r.2.mem ((c.tc : Thread Cert.SampleConvRefIdeal.nD Cert.SampleConvRefIdeal.τ).loc Cert.SampleConvRefIdeal.main_arg3) = m' ((c.tc : Thread Cert.SampleConvRefIdeal.nD Cert.SampleConvRefIdeal.τ).loc Cert.SampleConvRefIdeal.main_arg3)
          ∧ r.2.mem ((c.tc : Thread Cert.SampleConvRefIdeal.nD Cert.SampleConvRefIdeal.τ).loc Cert.SampleConvRefIdeal.main_arg4) = m' ((c.tc : Thread Cert.SampleConvRefIdeal.nD Cert.SampleConvRefIdeal.τ).loc Cert.SampleConvRefIdeal.main_arg4)
          ∧ r.2.mem ((c.tc : Thread Cert.SampleConvRefIdeal.nD Cert.SampleConvRefIdeal.τ).loc Cert.SampleConvRefIdeal.main_arg5) = m' ((c.tc : Thread Cert.SampleConvRefIdeal.nD Cert.SampleConvRefIdeal.τ).loc Cert.SampleConvRefIdeal.main_arg5))

def Claim : Prop :=
  ∃ (hSampleFfn : Cert.SampleFfn.Facts) (hSampleFfnIdeal : Cert.SampleFfnIdeal.Facts) (hSampleFfnRefIdeal : Cert.SampleFfnRefIdeal.Facts) (hInProj : Cert.InProj.Facts) (hInProjIdeal : Cert.InProjIdeal.Facts) (hInProjRefIdeal : Cert.InProjRefIdeal.Facts) (hPromptFfn : Cert.PromptFfn.Facts) (hPromptFfnIdeal : Cert.PromptFfnIdeal.Facts) (hPromptFfnRefIdeal : Cert.PromptFfnRefIdeal.Facts) (hSampleConv : Cert.SampleConv.Facts) (hSampleConvIdeal : Cert.SampleConvIdeal.Facts) (hSampleConvRefIdeal : Cert.SampleConvRefIdeal.Facts),
    quiescent_SampleFfn (hSampleFfn := hSampleFfn)
    ∧ quiescent_SampleFfnIdeal (hSampleFfnIdeal := hSampleFfnIdeal)
    ∧ quiescent_SampleFfnRefIdeal (hSampleFfnRefIdeal := hSampleFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_PromptFfn (hPromptFfn := hPromptFfn)
    ∧ quiescent_PromptFfnIdeal (hPromptFfnIdeal := hPromptFfnIdeal)
    ∧ quiescent_PromptFfnRefIdeal (hPromptFfnRefIdeal := hPromptFfnRefIdeal)
    ∧ quiescent_SampleConv (hSampleConv := hSampleConv)
    ∧ quiescent_SampleConvIdeal (hSampleConvIdeal := hSampleConvIdeal)
    ∧ quiescent_SampleConvRefIdeal (hSampleConvRefIdeal := hSampleConvRefIdeal)
    ∧ preserves_SampleFfn_SampleFfnIdeal
    ∧ algebraic_SampleFfnIdeal_SampleFfnRefIdeal (hSampleFfnIdeal := hSampleFfnIdeal) (hSampleFfnRefIdeal := hSampleFfnRefIdeal)
    ∧ preserves_InProj_InProjIdeal
    ∧ algebraic_InProjIdeal_InProjRefIdeal (hInProjIdeal := hInProjIdeal) (hInProjRefIdeal := hInProjRefIdeal)
    ∧ preserves_PromptFfn_PromptFfnIdeal
    ∧ algebraic_PromptFfnIdeal_PromptFfnRefIdeal (hPromptFfnIdeal := hPromptFfnIdeal) (hPromptFfnRefIdeal := hPromptFfnRefIdeal)
    ∧ preserves_SampleConv_SampleConvIdeal
    ∧ algebraic_SampleConvIdeal_SampleConvRefIdeal (hSampleConvIdeal := hSampleConvIdeal) (hSampleConvRefIdeal := hSampleConvRefIdeal)
-- ==== SampleFfn.lean ====
abbrev S1024x1024 : Shape := ⟨2, ![1024, 1024]⟩
abbrev S1024x512 : Shape := ⟨2, ![1024, 512]⟩
abbrev S1024 : Shape := ⟨1, ![1024]⟩
abbrev S1024x2816 : Shape := ⟨2, ![1024, 2816]⟩
abbrev S2816x1024 : Shape := ⟨2, ![2816, 1024]⟩
abbrev S11x256x1024 : Shape := ⟨3, ![11, 256, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 15
  | .vmem => 13
  | .smem => 0
  | _ => 0

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S1024x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S11x256x1024, .bf16⟩
  | .hbm, ⟨10, _⟩ => ⟨S1024x1024, .bf16⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S11x256x1024, .bf16⟩
  | .local _ .vmem, ⟨11, _⟩ => ⟨S512x1024, .f32⟩
  | .local _ .vmem, ⟨12, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![2], ![false]⟩

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
def k0_mult5 : BitVec 32 :=
  let c1024_i32 : BitVec 32 := 1024#32
  c1024_i32
def k0_mult6 : BitVec 32 :=
  let c1280_i32 : BitVec 32 := 1280#32
  c1280_i32
def k0_mult7 : BitVec 32 :=
  let c1536_i32 : BitVec 32 := 1536#32
  c1536_i32
def k0_mult8 : BitVec 32 :=
  let c1792_i32 : BitVec 32 := 1792#32
  c1792_i32
def k0_mult9 : BitVec 32 :=
  let c2048_i32 : BitVec 32 := 2048#32
  c2048_i32
def k0_mult10 : BitVec 32 :=
  let c2304_i32 : BitVec 32 := 2304#32
  c2304_i32
def k0_mult11 : BitVec 32 :=
  let c2560_i32 : BitVec 32 := 2560#32
  c2560_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SampleFfnRefIdeal.lean ====
abbrev S1024x1024 : Shape := ⟨2, ![1024, 1024]⟩
abbrev S1024x512 : Shape := ⟨2, ![1024, 512]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1024x1 : Shape := ⟨2, ![1024, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S1024x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x1, .f32⟩
  | .hbm, ⟨22, _⟩ => ⟨S1024x1024, .f32⟩
  | .hbm, ⟨23, _⟩ => ⟨S1024x1024, .f32⟩
  | .hbm, ⟨24, _⟩ => ⟨S1x1024, .f32⟩
  | .hbm, ⟨25, _⟩ => ⟨S1024x1024, .f32⟩
  | .hbm, ⟨26, _⟩ => ⟨S1024x1024, .f32⟩
  | .hbm, ⟨27, _⟩ => ⟨S1024x2816, .f32⟩
  | .hbm, ⟨28, _⟩ => ⟨S1024x2816, .f32⟩
  | .hbm, ⟨29, _⟩ => ⟨S1024x2816, .f32⟩
  | .hbm, ⟨30, _⟩ => ⟨S_, .f32⟩
  | .hbm, ⟨31, _⟩ => ⟨S1024x2816, .f32⟩
  | .hbm, ⟨32, _⟩ => ⟨S1024x2816, .f32⟩
  | .hbm, ⟨33, _⟩ => ⟨S_, .f32⟩
  | .hbm, ⟨34, _⟩ => ⟨S1024x2816, .f32⟩
  | .hbm, ⟨35, _⟩ => ⟨S1024x2816, .f32⟩
  | .hbm, ⟨36, _⟩ => ⟨S1024x2816, .f32⟩
  | .hbm, ⟨37, _⟩ => ⟨S1024x2816, .f32⟩
  | .hbm, ⟨38, _⟩ => ⟨S1024x2816, .f32⟩
  | .hbm, ⟨39, _⟩ => ⟨S1024x1024, .f32⟩
  | .hbm, ⟨40, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x2560 : Shape := ⟨2, ![1024, 2560]⟩
abbrev S64 : Shape := ⟨1, ![64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S16384x512 : Shape := ⟨2, ![16384, 512]⟩
abbrev S8x512x2048 : Shape := ⟨3, ![8, 512, 2048]⟩
abbrev S8x128x8192 : Shape := ⟨3, ![8, 128, 8192]⟩
abbrev S1024x1024 : Shape := ⟨2, ![1024, 1024]⟩
abbrev S1024x512 : Shape := ⟨2, ![1024, 512]⟩
abbrev S1x256x2048 : Shape := ⟨3, ![1, 256, 2048]⟩
abbrev S1x64x8192 : Shape := ⟨3, ![1, 64, 8192]⟩
abbrev S1x512x1024 : Shape := ⟨3, ![1, 512, 1024]⟩
abbrev S4x1024x128 : Shape := ⟨3, ![4, 1024, 128]⟩
abbrev S1024x1 : Shape := ⟨2, ![1024, 1]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S256x512 : Shape := ⟨2, ![256, 512]⟩
abbrev S1x256x512 : Shape := ⟨3, ![1, 256, 512]⟩
abbrev S1x64x128 : Shape := ⟨3, ![1, 64, 128]⟩
abbrev S64x128 : Shape := ⟨2, ![64, 128]⟩
abbrev S64x512 : Shape := ⟨2, ![64, 512]⟩
abbrev S1x64x512 : Shape := ⟨3, ![1, 64, 512]⟩
abbrev S512x1024 : Shape := ⟨2, ![512, 1024]⟩

abbrev nBuf : Space → Nat
  | .hbm => 52
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .bf16⟩
  | .hbm, ⟨30, _⟩ => ⟨S1x1024, .f32⟩
  | .hbm, ⟨31, _⟩ => ⟨S1024x2560, .bf16⟩
  | .hbm, ⟨32, _⟩ => ⟨S1x64, .f32⟩
  | .hbm, ⟨33, _⟩ => ⟨S8x64, .f32⟩
  | .hbm, ⟨34, _⟩ => ⟨S512, .f32⟩
  | .hbm, ⟨35, _⟩ => ⟨S1x512, .f32⟩
  | .hbm, ⟨36, _⟩ => ⟨S1x64, .f32⟩
  | .hbm, ⟨37, _⟩ => ⟨S8x64, .f32⟩
  | .hbm, ⟨38, _⟩ => ⟨S512, .f32⟩
  | .hbm, ⟨39, _⟩ => ⟨S1x512, .f32⟩
  | .hbm, ⟨40, _⟩ => ⟨S16384x512, .bf16⟩
  | .hbm, ⟨41, _⟩ => ⟨S16384x512, .bf16⟩
  | .hbm, ⟨42, _⟩ => ⟨S16384x512, .bf16⟩
  | .hbm, ⟨43, _⟩ => ⟨S8x512x2048, .bf16⟩
  | .hbm, ⟨44, _⟩ => ⟨S8x512x2048, .bf16⟩
  | .hbm, ⟨45, _⟩ => ⟨S8x512x2048, .bf16⟩
  | .hbm, ⟨46, _⟩ => ⟨S8x128x8192, .bf16⟩
  | .hbm, ⟨47, _⟩ => ⟨S8x128x8192, .bf16⟩
  | .hbm, ⟨48, _⟩ => ⟨S8x128x8192, .bf16⟩
  | .hbm, ⟨49, _⟩ => ⟨S8x512x2048, .f32⟩
  | .hbm, ⟨50, _⟩ => ⟨S8x512x2048, .f32⟩
  | .hbm, ⟨51, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S1x256x2048, .bf16⟩
  | .local _ .vmem, ⟨17, _⟩ => ⟨S1x256x2048, .bf16⟩
  | .local _ .vmem, ⟨18, _⟩ => ⟨S1x256x2048, .bf16⟩
  | .local _ .vmem, ⟨19, _⟩ => ⟨S1x64x8192, .bf16⟩
  | .local _ .vmem, ⟨20, _⟩ => ⟨S1x64x8192, .bf16⟩
  | .local _ .vmem, ⟨21, _⟩ => ⟨S1x64x8192, .bf16⟩
  | .local _ .vmem, ⟨22, _⟩ => ⟨S1x64x8192, .bf16⟩
  | .local _ .vmem, ⟨23, _⟩ => ⟨S1x64x8192, .bf16⟩
  | .local _ .vmem, ⟨24, _⟩ => ⟨S1x64x8192, .bf16⟩
  | .local _ .vmem, ⟨25, _⟩ => ⟨S1x512x1024, .f32⟩
  | .local _ .vmem, ⟨26, _⟩ => ⟨S1x512x1024, .f32⟩
  | .local _ .vmem, ⟨27, _⟩ => ⟨S1x512x1024, .f32⟩
  | .local _ .vmem, ⟨28, _⟩ => ⟨S1x512x1024, .f32⟩
  | .local _ .vmem, ⟨29, _⟩ => ⟨S1024x512, .f32⟩
  | .local _ .vmem, ⟨30, _⟩ => ⟨S1024x512, .f32⟩
  | .local _ .vmem, ⟨31, _⟩ => ⟨S4x1024x128, .f32⟩
  | .local _ .vmem, ⟨32, _⟩ => ⟨S4x1024x128, .f32⟩
  | .local _ .vmem, ⟨33, _⟩ => ⟨S4x1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v18_2 : Ref sig .tc := ⟨.hbm, 42, rfl⟩
abbrev main_v18_3 : Ref sig .tc := ⟨.hbm, 43, rfl⟩
abbrev main_v18_4 : Ref sig .tc := ⟨.hbm, 44, rfl⟩
abbrev main_v18_5 : Ref sig .tc := ⟨.hbm, 45, rfl⟩
abbrev main_v18_6 : Ref sig .tc := ⟨.hbm, 46, rfl⟩
abbrev main_v18_7 : Ref sig .tc := ⟨.hbm, 47, rfl⟩
abbrev main_v18_8 : Ref sig .tc := ⟨.hbm, 48, rfl⟩
abbrev main_v18_9 : Ref sig .tc := ⟨.hbm, 49, rfl⟩
abbrev main_v18_10 : Ref sig .tc := ⟨.hbm, 50, rfl⟩
abbrev main_v18_11 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InProjIdeal.lean ====
variable {F : FTy → Type} [FloatOps F] [Named F]
def κ : String → Option EReal := fun
  | "q_scale" => some (((Real.log 256)⁻¹ : ℝ) : EReal)
  | _ => none
-- ==== InProjRefIdeal.lean ====
abbrev S16384x1024 : Shape := ⟨2, ![16384, 1024]⟩
abbrev S1024 : Shape := ⟨1, ![1024]⟩
abbrev S1024x2560 : Shape := ⟨2, ![1024, 2560]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩
abbrev S16384x512 : Shape := ⟨2, ![16384, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x512 : Shape := ⟨3, ![8, 2048, 512]⟩
abbrev S8x512x2048 : Shape := ⟨3, ![8, 512, 2048]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2560, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S8x2048x8x64, .f32⟩
  | .hbm, ⟨28, _⟩ => ⟨S8x2048x8x64, .f32⟩
  | .hbm, ⟨29, _⟩ => ⟨S_, .f32⟩
  | .hbm, ⟨30, _⟩ => ⟨S8x2048x8, .f32⟩
  | .hbm, ⟨31, _⟩ => ⟨S8x2048x8x1, .f32⟩
  | .hbm, ⟨32, _⟩ => ⟨S_, .f32⟩
  | .hbm, ⟨33, _⟩ => ⟨S8x2048x8x1, .f32⟩
  | .hbm, ⟨34, _⟩ => ⟨S8x2048x8x1, .f32⟩
  | .hbm, ⟨35, _⟩ => ⟨S_, .f32⟩
  | .hbm, ⟨36, _⟩ => ⟨S8x2048x8x1, .f32⟩
  | .hbm, ⟨37, _⟩ => ⟨S8x2048x8x1, .f32⟩
  | .hbm, ⟨38, _⟩ => ⟨S8x2048x8x1, .f32⟩
  | .hbm, ⟨39, _⟩ => ⟨S8x2048x8x64, .f32⟩
  | .hbm, ⟨40, _⟩ => ⟨S8x2048x8x64, .f32⟩
  | .hbm, ⟨41, _⟩ => ⟨S1x1x1x64, .f32⟩
  | .hbm, ⟨42, _⟩ => ⟨S8x2048x8x64, .f32⟩
  | .hbm, ⟨43, _⟩ => ⟨S8x2048x8x64, .f32⟩
  | .hbm, ⟨44, _⟩ => ⟨S_, .f32⟩
  | .hbm, ⟨45, _⟩ => ⟨S8x2048x8x64, .f32⟩
  | .hbm, ⟨46, _⟩ => ⟨S8x2048x8x64, .f32⟩
  | .hbm, ⟨47, _⟩ => ⟨S_, .f32⟩
  | .hbm, ⟨48, _⟩ => ⟨S_, .f32⟩
  | .hbm, ⟨49, _⟩ => ⟨S8x2048x8x64, .f32⟩
  | .hbm, ⟨50, _⟩ => ⟨S8x2048x8x64, .f32⟩
  | .hbm, ⟨51, _⟩ => ⟨S8x2048x8x64, .f32⟩
  | .hbm, ⟨52, _⟩ => ⟨S8x2048x8x64, .f32⟩
  | .hbm, ⟨53, _⟩ => ⟨S_, .f32⟩
  | .hbm, ⟨54, _⟩ => ⟨S8x2048x8, .f32⟩
  | .hbm, ⟨55, _⟩ => ⟨S8x2048x8x1, .f32⟩
  | .hbm, ⟨56, _⟩ => ⟨S_, .f32⟩
  | .hbm, ⟨57, _⟩ => ⟨S8x2048x8x1, .f32⟩
  | .hbm, ⟨58, _⟩ => ⟨S8x2048x8x1, .f32⟩
  | .hbm, ⟨59, _⟩ => ⟨S_, .f32⟩
  | .hbm, ⟨60, _⟩ => ⟨S8x2048x8x1, .f32⟩
  | .hbm, ⟨61, _⟩ => ⟨S8x2048x8x1, .f32⟩
  | .hbm, ⟨62, _⟩ => ⟨S8x2048x8x1, .f32⟩
  | .hbm, ⟨63, _⟩ => ⟨S8x2048x8x64, .f32⟩
  | .hbm, ⟨64, _⟩ => ⟨S8x2048x8x64, .f32⟩
  | .hbm, ⟨65, _⟩ => ⟨S1x1x1x64, .f32⟩
  | .hbm, ⟨66, _⟩ => ⟨S8x2048x8x64, .f32⟩
  | .hbm, ⟨67, _⟩ => ⟨S8x2048x8x64, .f32⟩
  | .hbm, ⟨68, _⟩ => ⟨S8x2048x512, .f32⟩
  | .hbm, ⟨69, _⟩ => ⟨S16384x512, .f32⟩
  | .hbm, ⟨70, _⟩ => ⟨S16384x512, .f32⟩
  | .hbm, ⟨71, _⟩ => ⟨S_, .f32⟩
  | .hbm, ⟨72, _⟩ => ⟨S16384x512, .f32⟩
  | .hbm, ⟨73, _⟩ => ⟨S16384x512, .f32⟩
  | .hbm, ⟨74, _⟩ => ⟨S_, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S8x2048x8x64, .bf16⟩
  | .hbm, ⟨79, _⟩ => ⟨S16384x512, .bf16⟩
  | .hbm, ⟨80, _⟩ => ⟨S8x2048x512, .f32⟩
  | .hbm, ⟨81, _⟩ => ⟨S8x512x2048, .f32⟩
  | .hbm, ⟨82, _⟩ => ⟨S8x512x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== PromptFfn.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S128x8x512 : Shape := ⟨3, ![128, 8, 512]⟩
abbrev S128x512x2048 : Shape := ⟨3, ![128, 512, 2048]⟩
abbrev S11x256x1024 : Shape := ⟨3, ![11, 256, 1024]⟩
abbrev S1x1024 : Shape := ⟨2, ![1, 1024]⟩
abbrev S8 : Shape := ⟨1, ![8]⟩
abbrev S8x1 : Shape := ⟨2, ![8, 1]⟩
abbrev S_ : Shape := ⟨0, ![]⟩
abbrev S2048 : Shape := ⟨1, ![2048]⟩
abbrev S1x2048 : Shape := ⟨2, ![1, 2048]⟩
abbrev S8x2048 : Shape := ⟨2, ![8, 2048]⟩
abbrev S1x8x1x2048 : Shape := ⟨4, ![1, 8, 1, 2048]⟩
abbrev S4x8x1x2048 : Shape := ⟨4, ![4, 8, 1, 2048]⟩
abbrev S32x2048 : Shape := ⟨2, ![32, 2048]⟩
abbrev S512x1024 : Shape := ⟨2, ![512, 1024]⟩
abbrev S1x8x256 : Shape := ⟨3, ![1, 8, 256]⟩
abbrev S1x256x2048 : Shape := ⟨3, ![1, 256, 2048]⟩
abbrev S3x256x2048 : Shape := ⟨3, ![3, 256, 2048]⟩
abbrev S2x3 : Shape := ⟨2, ![2, 3]⟩
abbrev S1x1 : Shape := ⟨2, ![1, 1]⟩
abbrev S256x2048 : Shape := ⟨2, ![256, 2048]⟩
abbrev S512 : Shape := ⟨1, ![512]⟩
abbrev S512x1 : Shape := ⟨2, ![512, 1]⟩
abbrev S8x256 : Shape := ⟨2, ![8, 256]⟩
abbrev S256x128 : Shape := ⟨2, ![256, 128]⟩
abbrev S120x256 : Shape := ⟨2, ![120, 256]⟩
abbrev S128x256 : Shape := ⟨2, ![128, 256]⟩
abbrev S1x256x128 : Shape := ⟨3, ![1, 256, 128]⟩
abbrev S32x256 : Shape := ⟨2, ![32, 256]⟩
abbrev S32 : Shape := ⟨1, ![32]⟩
abbrev S32x1 : Shape := ⟨2, ![32, 1]⟩
abbrev S1x256 : Shape := ⟨2, ![1, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 86
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S128x8x512, .f32⟩
  | .hbm, ⟨8, _⟩ => ⟨S128x8x512, .f32⟩
  | .hbm, ⟨9, _⟩ => ⟨S128x8x512, .f32⟩
  | .hbm, ⟨10, _⟩ => ⟨S128x512x2048, .f32⟩
  | .hbm, ⟨11, _⟩ => ⟨S128x512x2048, .f32⟩
  | .hbm, ⟨12, _⟩ => ⟨S2816x1024, .bf16⟩
  | .hbm, ⟨13, _⟩ => ⟨S11x256x1024, .bf16⟩
  | .hbm, ⟨14, _⟩ => ⟨S16384x1024, .bf16⟩
  | .hbm, ⟨15, _⟩ => ⟨S1024x1024, .bf16⟩
  | .hbm, ⟨16, _⟩ => ⟨S1x1024, .f32⟩
  | .hbm, ⟨17, _⟩ => ⟨S1024x2816, .bf16⟩
  | .hbm, ⟨18, _⟩ => ⟨S1024x2816, .bf16⟩
  | .hbm, ⟨19, _⟩ => ⟨S8, .i32⟩
  | .hbm, ⟨20, _⟩ => ⟨S8x1, .i32⟩
  | .hbm, ⟨21, _⟩ => ⟨S_, .i32⟩
  | .hbm, ⟨22, _⟩ => ⟨S8x1, .i32⟩
  | .hbm, ⟨23, _⟩ => ⟨S8x1, .i32⟩
  | .hbm, ⟨24, _⟩ => ⟨S2048, .i32⟩
  | .hbm, ⟨25, _⟩ => ⟨S1x2048, .i32⟩
  | .hbm, ⟨26, _⟩ => ⟨S8x2048, .i32⟩
  | .hbm, ⟨27, _⟩ => ⟨S8x2048, .i32⟩
  | .hbm, ⟨28, _⟩ => ⟨S8x2048, .i32⟩
  | .hbm, ⟨29, _⟩ => ⟨S_, .f32⟩
  | .hbm, ⟨30, _⟩ => ⟨S8x2048, .f32⟩
  | .hbm, ⟨31, _⟩ => ⟨S_, .i32⟩
  | .hbm, ⟨32, _⟩ => ⟨S8x2048, .i32⟩
  | .hbm, ⟨33, _⟩ => ⟨S8x2048, .i1⟩
  | .hbm, ⟨34, _⟩ => ⟨S_, .i32⟩
  | .hbm, ⟨35, _⟩ => ⟨S8x2048, .i32⟩
  | .hbm, ⟨36, _⟩ => ⟨S8x2048, .i1⟩
  | .hbm, ⟨37, _⟩ => ⟨S8x2048, .i1⟩
  | .hbm, ⟨38, _⟩ => ⟨S_, .i32⟩
  | .hbm, ⟨39, _⟩ => ⟨S8x2048, .i32⟩
  | .hbm, ⟨40, _⟩ => ⟨S8x2048, .i32⟩
  | .hbm, ⟨41, _⟩ => ⟨S_, .i32⟩
  | .hbm, ⟨42, _⟩ => ⟨S8x2048, .i32⟩
  | .hbm, ⟨43, _⟩ => ⟨S8x2048, .i1⟩
  | .hbm, ⟨44, _⟩ => ⟨S8x2048, .i1⟩
  | .hbm, ⟨45, _⟩ => ⟨S8x2048, .f32⟩
  | .hbm, ⟨46, _⟩ => ⟨S8x2048, .f32⟩
  | .hbm, ⟨47, _⟩ => ⟨S_, .i32⟩
  | .hbm, ⟨48, _⟩ => ⟨S8x2048, .i32⟩
  | .hbm, ⟨49, _⟩ => ⟨S8x2048, .i1⟩
  | .hbm, ⟨50, _⟩ => ⟨S_, .i32⟩
  | .hbm, ⟨51, _⟩ => ⟨S8x2048, .i32⟩
  | .hbm, ⟨52, _⟩ => ⟨S8x2048, .i1⟩
  | .hbm, ⟨53, _⟩ => ⟨S8x2048, .i1⟩
  | .hbm, ⟨54, _⟩ => ⟨S_, .i32⟩
  | .hbm, ⟨55, _⟩ => ⟨S8x2048, .i32⟩
  | .hbm, ⟨56, _⟩ => ⟨S8x2048, .i32⟩
  | .hbm, ⟨57, _⟩ => ⟨S_, .i32⟩
  | .hbm, ⟨58, _⟩ => ⟨S8x2048, .i32⟩
  | .hbm, ⟨59, _⟩ => ⟨S8x2048, .i1⟩
  | .hbm, ⟨60, _⟩ => ⟨S8x2048, .i1⟩
  | .hbm, ⟨61, _⟩ => ⟨S8x2048, .f32⟩
  | .hbm, ⟨62, _⟩ => ⟨S8x2048, .f32⟩
  | .hbm, ⟨63, _⟩ => ⟨S_, .i32⟩
  | .hbm, ⟨64, _⟩ => ⟨S8x2048, .i32⟩
  | .hbm, ⟨65, _⟩ => ⟨S8x2048, .i1⟩
  | .hbm, ⟨66, _⟩ => ⟨S_, .i32⟩
  | .hbm, ⟨67, _⟩ => ⟨S8x2048, .i32⟩
  | .hbm, ⟨68, _⟩ => ⟨S8x2048, .i1⟩
  | .hbm, ⟨69, _⟩ => ⟨S8x2048, .i1⟩
  | .hbm, ⟨70, _⟩ => ⟨S_, .i32⟩
  | .hbm, ⟨71, _⟩ => ⟨S8x2048, .i32⟩
  | .hbm, ⟨72, _⟩ => ⟨S8x2048, .i32⟩
  | .hbm, ⟨73, _⟩ => ⟨S_, .i32⟩
  | .hbm, ⟨74, _⟩ => ⟨S8x2048, .i32⟩
  | .hbm, ⟨75, _⟩ => ⟨S8x2048, .i1⟩
  | .hbm, ⟨76, _⟩ => ⟨S8x2048, .i1⟩
  | .hbm, ⟨77, _⟩ => ⟨S8x2048, .f32⟩
  | .hbm, ⟨78, _⟩ => ⟨S8x2048, .f32⟩
  | .hbm, ⟨79, _⟩ => ⟨S1x8x1x2048, .f32⟩
  | .hbm, ⟨80, _⟩ => ⟨S4x8x1x2048, .f32⟩
  | .hbm, ⟨81, _⟩ => ⟨S32x2048, .f32⟩
  | .hbm, ⟨82, _⟩ => ⟨S16384x1024, .f32⟩
  | .hbm, ⟨83, _⟩ => ⟨S128x8x512, .f32⟩
  | .hbm, ⟨84, _⟩ => ⟨S128x512x2048, .f32⟩
  | .hbm, ⟨85, _⟩ => ⟨S128x512x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S11x256x1024, .bf16⟩
  | .local _ .vmem, ⟨9, _⟩ => ⟨S1x8x256, .f32⟩
  | .local _ .vmem, ⟨10, _⟩ => ⟨S1x8x256, .f32⟩
  | .local _ .vmem, ⟨11, _⟩ => ⟨S1x8x256, .f32⟩
  | .local _ .vmem, ⟨12, _⟩ => ⟨S1x8x256, .f32⟩
  | .local _ .vmem, ⟨13, _⟩ => ⟨S1x8x256, .f32⟩
  | .local _ .vmem, ⟨14, _⟩ => ⟨S1x8x256, .f32⟩
  | .local _ .vmem, ⟨15, _⟩ => ⟨S32x2048, .f32⟩
  | .local _ .vmem, ⟨16, _⟩ => ⟨S512x1024, .f32⟩
  | .local _ .vmem, ⟨17, _⟩ => ⟨S512x1024, .f32⟩
  | .local _ .vmem, ⟨18, _⟩ => ⟨S1x8x256, .f32⟩
  | .local _ .vmem, ⟨19, _⟩ => ⟨S1x8x256, .f32⟩
  | .local _ .vmem, ⟨20, _⟩ => ⟨S1x256x2048, .f32⟩
  | .local _ .vmem, ⟨21, _⟩ => ⟨S1x256x2048, .f32⟩
  | .local _ .vmem, ⟨22, _⟩ => ⟨S1x256x2048, .f32⟩
  | .local _ .vmem, ⟨23, _⟩ => ⟨S1x256x2048, .f32⟩
  | .local _ .vmem, ⟨24, _⟩ => ⟨S512x1024, .bf16⟩
  | .local _ .vmem, ⟨25, _⟩ => ⟨S3x256x2048, .f32⟩
  | .local _ .vmem, ⟨26, _⟩ => ⟨S3x256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56_0 : Ref sig .tc := ⟨.hbm, 82, rfl⟩
abbrev main_v56_1 : Ref sig .tc := ⟨.hbm, 83, rfl⟩
abbrev main_v56_2 : Ref sig .tc := ⟨.hbm, 84, rfl⟩
abbrev main_v56_3 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![256], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def k0_mult1 : BitVec 32 :=
  let c0_i32_498 : BitVec 32 := 0#32
  c0_i32_498
def k0_mult2 : BitVec 32 :=
  let c256_i32_513 : BitVec 32 := 256#32
  c256_i32_513
def k0_cond2 (i : grid0.Coords) : BitVec 1 :=
  let arg0 : BitVec 32 := BitVec.ofNat 32 (i 0).val
  let c2_i32 : BitVec 32 := 2#32
  let v13 : BitVec 32 := Scalar.addi arg0 c2_i32
  let c256_i32 : BitVec 32 := 256#32
  let v14 : BitVec 1 := Scalar.cmpi .slt v13 c256_i32
  let v15 : BitVec 32 := Scalar.extui v14
  let c0_i32_5 : BitVec 32 := 0#32
  let v16 : BitVec 1 := Scalar.cmpi .ne v15 c0_i32_5
  v16

def k0_mult3 (i : grid0.Coords) : BitVec 32 :=
  let arg0 : BitVec 32 := BitVec.ofNat 32 (i 0).val
  let c2_i32 : BitVec 32 := 2#32
  let v13 : BitVec 32 := Scalar.addi arg0 c2_i32
  let c2_i32_512 : BitVec 32 := 2#32
  let c0_i32_513 : BitVec 32 := 0#32
  let v1237 : BitVec 1 := Scalar.cmpi .eq c2_i32_512 c0_i32_513
  let c1_i32_514 : BitVec 32 := 1#32
  let v1238 : BitVec 32 := Scalar.select v1237 c1_i32_514 c2_i32_512
  let v1239 : BitVec 32 := Scalar.remsi v13 v1238
  let c0_i32_516 : BitVec 32 := 0#32
  let v1241 : BitVec 1 := Scalar.cmpi .slt v1239 c0_i32_516
  let c0_i32_517 : BitVec 32 := 0#32
  let v1242 : BitVec 1 := Scalar.cmpi .slt v1238 c0_i32_517
  let v1243 : BitVec 1 := Scalar.xori v1241 v1242
  let c0_i32_515 : BitVec 32 := 0#32
  let v1240 : BitVec 1 := Scalar.cmpi .ne v1239 c0_i32_515
  let v1244 : BitVec 1 := Scalar.andi v1243 v1240
  let v1245 : BitVec 32 := Scalar.addi v1239 v1238
  let v1246 : BitVec 32 := Scalar.select v1244 v1245 v1239
  let c256_i32_518 : BitVec 32 := 256#32
  let v1247 : BitVec 32 := Scalar.muli v1246 c256_i32_518
  v1247
def k0_off1 (i : grid0.Coords) : Fin 2 → Nat :=
  let c0_i32_519 : BitVec 32 := 0#32
  let arg0 : BitVec 32 := BitVec.ofNat 32 (i 0).val
  let c2_i32 : BitVec 32 := 2#32
  let v13 : BitVec 32 := Scalar.addi arg0 c2_i32
  let c3_i32_498 : BitVec 32 := 3#32
  let c0_i32_499 : BitVec 32 := 0#32
  let v1209 : BitVec 1 := Scalar.cmpi .eq c3_i32_498 c0_i32_499
  let c1_i32_500 : BitVec 32 := 1#32
  let v1210 : BitVec 32 := Scalar.select v1209 c1_i32_500 c3_i32_498
  let v1211 : BitVec 32 := Scalar.remsi v13 v1210
  let c0_i32_502 : BitVec 32 := 0#32
  let v1213 : BitVec 1 := Scalar.cmpi .slt v1211 c0_i32_502
  let c0_i32_503 : BitVec 32 := 0#32
  let v1214 : BitVec 1 := Scalar.cmpi .slt v1210 c0_i32_503
  let v1215 : BitVec 1 := Scalar.xori v1213 v1214
  let c0_i32_501 : BitVec 32 := 0#32
  let v1212 : BitVec 1 := Scalar.cmpi .ne v1211 c0_i32_501
  let v1216 : BitVec 1 := Scalar.andi v1215 v1212
  let v1217 : BitVec 32 := Scalar.addi v1211 v1210
  let v1218 : BitVec 32 := Scalar.select v1216 v1217 v1211
  ![0, v1218.toNat]
def k0_off2 (i : grid0.Coords) : Fin 3 → Nat :=
  let arg0 : BitVec 32 := BitVec.ofNat 32 (i 0).val
  let c2_i32 : BitVec 32 := 2#32
  let v13 : BitVec 32 := Scalar.addi arg0 c2_i32
  let c3_i32_498 : BitVec 32 := 3#32
  let c0_i32_499 : BitVec 32 := 0#32
  let v1209 : BitVec 1 := Scalar.cmpi .eq c3_i32_498 c0_i32_499
  let c1_i32_500 : BitVec 32 := 1#32
  let v1210 : BitVec 32 := Scalar.select v1209 c1_i32_500 c3_i32_498
  let v1211 : BitVec 32 := Scalar.remsi v13 v1210
  let c0_i32_502 : BitVec 32 := 0#32
  let v1213 : BitVec 1 := Scalar.cmpi .slt v1211 c0_i32_502
  let c0_i32_503 : BitVec 32 := 0#32
  let v1214 : BitVec 1 := Scalar.cmpi .slt v1210 c0_i32_503
  let v1215 : BitVec 1 := Scalar.xori v1213 v1214
  let c0_i32_501 : BitVec 32 := 0#32
  let v1212 : BitVec 1 := Scalar.cmpi .ne v1211 c0_i32_501
  let v1216 : BitVec 1 := Scalar.andi v1215 v1212
  let v1217 : BitVec 32 := Scalar.addi v1211 v1210
  let v1218 : BitVec 32 := Scalar.select v1216 v1217 v1211
  let c0_i32_520 : BitVec 32 := 0#32
  let c0_i32_521 : BitVec 32 := 0#32
  ![v1218.toNat, 0, 0]
def k0_off3 (i : grid0.Coords) : Fin 3 → Nat :=
  let c0_i32_511 : BitVec 32 := 0#32
  let arg0 : BitVec 32 := BitVec.ofNat 32 (i 0).val
  let c2_i32 : BitVec 32 := 2#32
  let v13 : BitVec 32 := Scalar.addi arg0 c2_i32
  let c0_i32_505 : BitVec 32 := 0#32
  let v1220 : BitVec 1 := Scalar.cmpi .sgt v13 c0_i32_505
  let v1221 : BitVec 32 := Scalar.extui v1220
  let c0_i32_506 : BitVec 32 := 0#32
  let v1222 : BitVec 1 := Scalar.cmpi .slt v13 c0_i32_506
  let v1223 : BitVec 32 := Scalar.extui v1222
  let v1224 : BitVec 32 := Scalar.subi v1221 v1223
  let c2_i32_504 : BitVec 32 := 2#32
  let c0_i32_507 : BitVec 32 := 0#32
  let v1225 : BitVec 1 := Scalar.cmpi .sgt c2_i32_504 c0_i32_507
  let v1226 : BitVec 32 := Scalar.extui v1225
  let c0_i32_508 : BitVec 32 := 0#32
  let v1227 : BitVec 1 := Scalar.cmpi .slt c2_i32_504 c0_i32_508
  let v1228 : BitVec 32 := Scalar.extui v1227
  let v1229 : BitVec 32 := Scalar.subi v1226 v1228
  let v1230 : BitVec 1 := Scalar.cmpi .ne v1224 v1229
  let v1231 : BitVec 32 := Scalar.remsi v13 c2_i32_504
  let c0_i32_509 : BitVec 32 := 0#32
  let v1232 : BitVec 1 := Scalar.cmpi .ne v1231 c0_i32_509
  let v1233 : BitVec 1 := Scalar.andi v1230 v1232
  let v1219 : BitVec 32 := Scalar.divsi v13 c2_i32_504
  let c1_i32_510 : BitVec 32 := 1#32
  let v1234 : BitVec 32 := Scalar.subi v1219 c1_i32_510
  let v1235 : BitVec 32 := Scalar.select v1233 v1234 v1219
  let v1236 : BitVec 32 := Scalar.addi c0_i32_511 v1235
  let c2_i32_512 : BitVec 32 := 2#32
  let c0_i32_513 : BitVec 32 := 0#32
  let v1237 : BitVec 1 := Scalar.cmpi .eq c2_i32_512 c0_i32_513
  let c1_i32_514 : BitVec 32 := 1#32
  let v1238 : BitVec 32 := Scalar.select v1237 c1_i32_514 c2_i32_512
  let v1239 : BitVec 32 := Scalar.remsi v13 v1238
  let c0_i32_516 : BitVec 32 := 0#32
  let v1241 : BitVec 1 := Scalar.cmpi .slt v1239 c0_i32_516
  let c0_i32_517 : BitVec 32 := 0#32
  let v1242 : BitVec 1 := Scalar.cmpi .slt v1238 c0_i32_517
  let v1243 : BitVec 1 := Scalar.xori v1241 v1242
  let c0_i32_515 : BitVec 32 := 0#32
  let v1240 : BitVec 1 := Scalar.cmpi .ne v1239 c0_i32_515
  let v1244 : BitVec 1 := Scalar.andi v1243 v1240
  let v1245 : BitVec 32 := Scalar.addi v1239 v1238
  let v1246 : BitVec 32 := Scalar.select v1244 v1245 v1239
  let c256_i32_518 : BitVec 32 := 256#32
  let v1247 : BitVec 32 := Scalar.muli v1246 c256_i32_518
  let v1248 : BitVec 32 := v1247
  let c0_i32_522 : BitVec 32 := 0#32
  ![v1236.toNat, v1248.toNat, 0]
def k0_off4 (i : grid0.Coords) : Fin 2 → Nat :=
  let c1_i32_523 : BitVec 32 := 1#32
  let arg0 : BitVec 32 := BitVec.ofNat 32 (i 0).val
  let c2_i32 : BitVec 32 := 2#32
  let v13 : BitVec 32 := Scalar.addi arg0 c2_i32
  let c3_i32_498 : BitVec 32 := 3#32
  let c0_i32_499 : BitVec 32 := 0#32
  let v1209 : BitVec 1 := Scalar.cmpi .eq c3_i32_498 c0_i32_499
  let c1_i32_500 : BitVec 32 := 1#32
  let v1210 : BitVec 32 := Scalar.select v1209 c1_i32_500 c3_i32_498
  let v1211 : BitVec 32 := Scalar.remsi v13 v1210
  let c0_i32_502 : BitVec 32 := 0#32
  let v1213 : BitVec 1 := Scalar.cmpi .slt v1211 c0_i32_502
  let c0_i32_503 : BitVec 32 := 0#32
  let v1214 : BitVec 1 := Scalar.cmpi .slt v1210 c0_i32_503
  let v1215 : BitVec 1 := Scalar.xori v1213 v1214
  let c0_i32_501 : BitVec 32 := 0#32
  let v1212 : BitVec 1 := Scalar.cmpi .ne v1211 c0_i32_501
  let v1216 : BitVec 1 := Scalar.andi v1215 v1212
  let v1217 : BitVec 32 := Scalar.addi v1211 v1210
  let v1218 : BitVec 32 := Scalar.select v1216 v1217 v1211
  ![1, v1218.toNat]
def k0_mult4 (i : grid0.Coords) : BitVec 32 :=
  let arg0 : BitVec 32 := BitVec.ofNat 32 (i 0).val
  let c2_i32_21 : BitVec 32 := 2#32
  let c0_i32_22 : BitVec 32 := 0#32
  let v48 : BitVec 1 := Scalar.cmpi .eq c2_i32_21 c0_i32_22
  let c1_i32_23 : BitVec 32 := 1#32
  let v49 : BitVec 32 := Scalar.select v48 c1_i32_23 c2_i32_21
  let v50 : BitVec 32 := Scalar.remsi arg0 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let c256_i32_27 : BitVec 32 := 256#32
  let v58 : BitVec 32 := Scalar.muli v57 c256_i32_27
  v58
def k0_off5 (i : grid0.Coords) : Fin 2 → Nat :=
  let c0_i32_28 : BitVec 32 := 0#32
  let arg0 : BitVec 32 := BitVec.ofNat 32 (i 0).val
  let c3_i32 : BitVec 32 := 3#32
  let c0_i32_8 : BitVec 32 := 0#32
  let v20 : BitVec 1 := Scalar.cmpi .eq c3_i32 c0_i32_8
  let c1_i32_9 : BitVec 32 := 1#32
  let v21 : BitVec 32 := Scalar.select v20 c1_i32_9 c3_i32
  let v22 : BitVec 32 := Scalar.remsi arg0 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  ![0, v29.toNat]
def k0_off6 (i : grid0.Coords) : Fin 3 → Nat :=
  let arg0 : BitVec 32 := BitVec.ofNat 32 (i 0).val
  let c3_i32 : BitVec 32 := 3#32
  let c0_i32_8 : BitVec 32 := 0#32
  let v20 : BitVec 1 := Scalar.cmpi .eq c3_i32 c0_i32_8
  let c1_i32_9 : BitVec 32 := 1#32
  let v21 : BitVec 32 := Scalar.select v20 c1_i32_9 c3_i32
  let v22 : BitVec 32 := Scalar.remsi arg0 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c0_i32_29 : BitVec 32 := 0#32
  let c0_i32_30 : BitVec 32 := 0#32
  ![v29.toNat, 0, 0]
def k0_off7 (i : grid0.Coords) : Fin 3 → Nat :=
  let c0_i32_20 : BitVec 32 := 0#32
  let arg0 : BitVec 32 := BitVec.ofNat 32 (i 0).val
  let c0_i32_14 : BitVec 32 := 0#32
  let v31 : BitVec 1 := Scalar.cmpi .sgt arg0 c0_i32_14
  let v32 : BitVec 32 := Scalar.extui v31
  let c0_i32_15 : BitVec 32 := 0#32
  let v33 : BitVec 1 := Scalar.cmpi .slt arg0 c0_i32_15
  let v34 : BitVec 32 := Scalar.extui v33
  let v35 : BitVec 32 := Scalar.subi v32 v34
  let c2_i32_13 : BitVec 32 := 2#32
  let c0_i32_16 : BitVec 32 := 0#32
  let v36 : BitVec 1 := Scalar.cmpi .sgt c2_i32_13 c0_i32_16
  let v37 : BitVec 32 := Scalar.extui v36
  let c0_i32_17 : BitVec 32 := 0#32
  let v38 : BitVec 1 := Scalar.cmpi .slt c2_i32_13 c0_i32_17
  let v39 : BitVec 32 := Scalar.extui v38
  let v40 : BitVec 32 := Scalar.subi v37 v39
  let v41 : BitVec 1 := Scalar.cmpi .ne v35 v40
  let v42 : BitVec 32 := Scalar.remsi arg0 c2_i32_13
  let c0_i32_18 : BitVec 32 := 0#32
  let v43 : BitVec 1 := Scalar.cmpi .ne v42 c0_i32_18
  let v44 : BitVec 1 := Scalar.andi v41 v43
  let v30 : BitVec 32 := Scalar.divsi arg0 c2_i32_13
  let c1_i32_19 : BitVec 32 := 1#32
  let v45 : BitVec 32 := Scalar.subi v30 c1_i32_19
  let v46 : BitVec 32 := Scalar.select v44 v45 v30
  let v47 : BitVec 32 := Scalar.addi c0_i32_20 v46
  let c2_i32_21 : BitVec 32 := 2#32
  let c0_i32_22 : BitVec 32 := 0#32
  let v48 : BitVec 1 := Scalar.cmpi .eq c2_i32_21 c0_i32_22
  let c1_i32_23 : BitVec 32 := 1#32
  let v49 : BitVec 32 := Scalar.select v48 c1_i32_23 c2_i32_21
  let v50 : BitVec 32 := Scalar.remsi arg0 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let c256_i32_27 : BitVec 32 := 256#32
  let v58 : BitVec 32 := Scalar.muli v57 c256_i32_27
  let v59 : BitVec 32 := v58
  let c0_i32_31 : BitVec 32 := 0#32
  ![v47.toNat, v59.toNat, 0]
def k0_off8 (i : grid0.Coords) : Fin 2 → Nat :=
  let c1_i32_32 : BitVec 32 := 1#32
  let arg0 : BitVec 32 := BitVec.ofNat 32 (i 0).val
  let c3_i32 : BitVec 32 := 3#32
  let c0_i32_8 : BitVec 32 := 0#32
  let v20 : BitVec 1 := Scalar.cmpi .eq c3_i32 c0_i32_8
  let c1_i32_9 : BitVec 32 := 1#32
  let v21 : BitVec 32 := Scalar.select v20 c1_i32_9 c3_i32
  let v22 : BitVec 32 := Scalar.remsi arg0 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  ![1, v29.toNat]
def k0_off9 (i : grid0.Coords) : Fin 3 → Nat :=
  let arg0 : BitVec 32 := BitVec.ofNat 32 (i 0).val
  let c3_i32 : BitVec 32 := 3#32
  let c0_i32_8 : BitVec 32 := 0#32
  let v20 : BitVec 1 := Scalar.cmpi .eq c3_i32 c0_i32_8
  let c1_i32_9 : BitVec 32 := 1#32
  let v21 : BitVec 32 := Scalar.select v20 c1_i32_9 c3_i32
  let v22 : BitVec 32 := Scalar.remsi arg0 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let v72 : Index := Scalar.indexCast v29
  let c0 : Index := 0#32
  let c0_36 : Index := 0#32
  ![v72.toNat, 0, 0]
def k0_mult5 (i : grid0.Coords) : BitVec 32 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_481 : BitVec 32 := 1#32
  let v1178 : BitVec 32 := Scalar.muli v9 c1_i32_481
  let c0_i32_482 : BitVec 32 := 0#32
  let v1179 : BitVec 32 := Scalar.addi v1178 c0_i32_482
  let c256_i32_483 : BitVec 32 := 256#32
  let v1180 : BitVec 32 := Scalar.muli v1179 c256_i32_483
  v1180
def k0_off10 (i : grid0.Coords) : Fin 2 → Nat :=
  let c0_484 : Index := 0#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_481 : BitVec 32 := 1#32
  let v1178 : BitVec 32 := Scalar.muli v9 c1_i32_481
  let c0_i32_482 : BitVec 32 := 0#32
  let v1179 : BitVec 32 := Scalar.addi v1178 c0_i32_482
  let c256_i32_483 : BitVec 32 := 256#32
  let v1180 : BitVec 32 := Scalar.muli v1179 c256_i32_483
  let v1181 : BitVec 32 := v1180
  let v1182 : Index := Scalar.indexCast v1181
  ![0, v1182.toNat]
def k0_off11 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_481 : BitVec 32 := 1#32
  let v1178 : BitVec 32 := Scalar.muli v9 c1_i32_481
  let c0_i32_482 : BitVec 32 := 0#32
  let v1179 : BitVec 32 := Scalar.addi v1178 c0_i32_482
  let v1200 : Index := Scalar.indexCast v1179
  let c0_491 : Index := 0#32
  let c0_492 : Index := 0#32
  ![v1200.toNat, 0, 0]
def k0_cond4 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c5_i32_496 : BitVec 32 := 5#32
  let v1206 : BitVec 1 := Scalar.cmpi .sge v9 c5_i32_496
  let v1207 : BitVec 32 := Scalar.extui v1206
  let c0_i32_497 : BitVec 32 := 0#32
  let v1208 : BitVec 1 := Scalar.cmpi .ne v1207 c0_i32_497
  v1208

def k0_mult6 (i : grid0.Coords) : BitVec 32 :=
  let c8_i32_502 : BitVec 32 := 8#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1212 : BitVec 32 := Scalar.addi c8_i32_502 v9
  let c5_i32_503 : BitVec 32 := 5#32
  let v1213 : BitVec 32 := Scalar.subi v1212 c5_i32_503
  let c256_i32_504 : BitVec 32 := 256#32
  let v1214 : BitVec 32 := Scalar.muli v1213 c256_i32_504
  v1214
def k0_off12 (i : grid0.Coords) : Fin 2 → Nat :=
  let c0_505 : Index := 0#32
  let c8_i32_502 : BitVec 32 := 8#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1212 : BitVec 32 := Scalar.addi c8_i32_502 v9
  let c5_i32_503 : BitVec 32 := 5#32
  let v1213 : BitVec 32 := Scalar.subi v1212 c5_i32_503
  let c256_i32_504 : BitVec 32 := 256#32
  let v1214 : BitVec 32 := Scalar.muli v1213 c256_i32_504
  let v1215 : BitVec 32 := v1214
  let v1216 : Index := Scalar.indexCast v1215
  ![0, v1216.toNat]
def k0_off13 (i : grid0.Coords) : Fin 3 → Nat :=
  let c8_i32_502 : BitVec 32 := 8#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1212 : BitVec 32 := Scalar.addi c8_i32_502 v9
  let c5_i32_503 : BitVec 32 := 5#32
  let v1213 : BitVec 32 := Scalar.subi v1212 c5_i32_503
  let v1234 : Index := Scalar.indexCast v1213
  let c0_512 : Index := 0#32
  let c0_513 : Index := 0#32
  ![v1234.toNat, 0, 0]
def cc0_transform_0 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_14 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_16 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PromptFfnRefIdeal.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S128x8x512 : Shape := ⟨3, ![128, 8, 512]⟩
abbrev S128x512x2048 : Shape := ⟨3, ![128, 512, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S128x8x512, .f32⟩
  | .hbm, ⟨8, _⟩ => ⟨S128x8x512, .f32⟩
  | .hbm, ⟨9, _⟩ => ⟨S128x8x512, .f32⟩
  | .hbm, ⟨10, _⟩ => ⟨S128x512x2048, .f32⟩
  | .hbm, ⟨11, _⟩ => ⟨S128x512x2048, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩

abbrev nD : Nat := 1
abbrev τ : Topo := Topo.v7x

variable {F : FTy → Type} [FloatOps F]
-- ==== SampleConv.lean ====
abbrev S128x30x512 : Shape := ⟨3, ![128, 30, 512]⟩
abbrev S1024x512 : Shape := ⟨2, ![1024, 512]⟩
abbrev S31x512 : Shape := ⟨2, ![31, 512]⟩
abbrev S512 : Shape := ⟨1, ![512]⟩
abbrev S30x128x512 : Shape := ⟨3, ![30, 128, 512]⟩
abbrev S1x512 : Shape := ⟨2, ![1, 512]⟩
abbrev S30x32x512 : Shape := ⟨3, ![30, 32, 512]⟩
abbrev S256x512 : Shape := ⟨2, ![256, 512]⟩
abbrev S4x256x128 : Shape := ⟨3, ![4, 256, 128]⟩
abbrev S256x128 : Shape := ⟨2, ![256, 128]⟩
abbrev S1x256x128 : Shape := ⟨3, ![1, 256, 128]⟩
abbrev S1x32x128 : Shape := ⟨3, ![1, 32, 128]⟩
abbrev S32x128 : Shape := ⟨2, ![32, 128]⟩
abbrev S32x512 : Shape := ⟨2, ![32, 512]⟩
abbrev S1x32x512 : Shape := ⟨3, ![1, 32, 512]⟩
abbrev S32 : Shape := ⟨1, ![32]⟩
abbrev S32x1 : Shape := ⟨2, ![32, 1]⟩

abbrev nBuf : Space → Nat
  | .hbm => 12
  | .vmem => 14
  | .smem => 0
  | _ => 0

abbrev bufTy : (tb : Table) → Fin (tcTables nBuf tb) → BufTy
  | .hbm, ⟨0, _⟩ => ⟨S128x30x512, .f32⟩
  | .hbm, ⟨1, _⟩ => ⟨S1024x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S30x128x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1024x512, .f32⟩
  | .hbm, ⟨11, _⟩ => ⟨S30x128x512, .f32⟩
  | .local _ .vmem, ⟨0, _⟩ => ⟨S30x32x512, .f32⟩
  | .local _ .vmem, ⟨1, _⟩ => ⟨S30x32x512, .f32⟩
  | .local _ .vmem, ⟨2, _⟩ => ⟨S256x512, .f32⟩
  | .local _ .vmem, ⟨3, _⟩ => ⟨S256x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S30x32x512, .f32⟩
  | .local _ .vmem, ⟨11, _⟩ => ⟨S30x32x512, .f32⟩
  | .local _ .vmem, ⟨12, _⟩ => ⟨S4x256x128, .f32⟩
  | .local _ .vmem, ⟨13, _⟩ => ⟨S4x256x128, .f32⟩
  | _, _ => ⟨S128x30x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S30x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S30x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SampleConvRefIdeal.lean ====
abbrev S128x30x512 : Shape := ⟨3, ![128, 30, 512]⟩
abbrev S1024x512 : Shape := ⟨2, ![1024, 512]⟩
abbrev S31x512 : Shape := ⟨2, ![31, 512]⟩
abbrev S512 : Shape := ⟨1, ![512]⟩
abbrev S128x8x512 : Shape := ⟨3, ![128, 8, 512]⟩
abbrev S128x38x512 : Shape := ⟨3, ![128, 38, 512]⟩
abbrev S30x128x512 : Shape := ⟨3, ![30, 128, 512]⟩

abbrev nBuf : Space → Nat
  | .hbm => 10
  | .vmem => 0
  | .smem => 0
  | _ => 0

abbrev bufTy : (tb : Table) → Fin (tcTables nBuf tb) → BufTy
  | .hbm, ⟨0, _⟩ => ⟨S128x30x512, .f32⟩
  | .hbm, ⟨1, _⟩ => ⟨S1024x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S128x8x512, .f32⟩
  | .hbm, ⟨7, _⟩ => ⟨S128x38x512, .f32⟩
  | .hbm, ⟨8, _⟩ => ⟨S128x30x512, .f32⟩
  | .hbm, ⟨9, _⟩ => ⟨S30x128x512, .f32⟩
  | _, _ => ⟨S128x30x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== Proof.Ffn.lean ====
/- The feed-forward block of one row over the extended reals: the gated linear unit of the normalised row, and the sum over the
   hidden columns taken in chunks. -/
module

public import Idealize.ShloMosaic.Lib.Pointwise
public import Idealize.ShloMosaic.Lib.Pipeline.ValueKit

@[expose] public section

noncomputable section

namespace Cert.Ffn

open Idealize.ShloMosaic

/-- One entry of the normalised row: the row divided by the root of its mean square, times the gain. -/
def norm (x g : Fin 1024 → EReal) (d : Fin 1024) : EReal :=
  x d * Ideal.rsqrt (Ideal.div (∑ k : Fin 1024, x k * x k) (Ideal.ofBits .f32 0x44800000#32) + Ideal.ofBits .f32 0x358637BD#32) * g d

/-- The gated linear unit of one hidden column of a row `h`. -/
def act (h : Fin 1024 → EReal) (wg wu : Fin 1024 → Fin 2816 → EReal) (f : Fin 2816) : EReal :=
  (∑ d, h d * wg d f) * Ideal.logistic (∑ d, h d * wg d f) * ∑ d, h d * wu d f

/-- The share of one hidden column in an entry of the row. -/
def part (h : Fin 1024 → EReal) (wg wu : Fin 1024 → Fin 2816 → EReal) (wd : Fin 2816 → Fin 1024 → EReal) (n : Fin 1024)
    (f : Fin 2816) : EReal :=
  act h wg wu f * wd f n

/-- The share of the 256 hidden columns from the column `o` on. -/
def chunk (h : Fin 1024 → EReal) (wg wu : Fin 1024 → Fin 2816 → EReal) (wd : Fin 2816 → Fin 1024 → EReal) (n : Fin 1024)
    (o : ℕ) (ho : o + 256 ≤ 2816) : EReal :=
  ∑ k : Fin 256, part h wg wu wd n ⟨o + k.val, by omega⟩

/-- The row after the feed-forward block. -/
def row (x g : Fin 1024 → EReal) (wg wu : Fin 1024 → Fin 2816 → EReal) (wd : Fin 2816 → Fin 1024 → EReal) (n : Fin 1024) : EReal :=
  x n + ∑ f, part (norm x g) wg wu wd n f

/-- The sum over the hidden columns is the sum over the chunks. -/
theorem sum_part (h : Fin 1024 → EReal) (wg wu : Fin 1024 → Fin 2816 → EReal) (wd : Fin 2816 → Fin 1024 → EReal) (n : Fin 1024) :
    ∑ f, part h wg wu wd n f = ∑ j : Fin 11, chunk h wg wu wd n (j.val * 256) (by omega) := by
  unfold chunk
  exact (Fin.sum_mul_add_congr (fun s k ha => rfl)).symm

/-- The feed-forward block with the chunks added one after the other. -/
theorem row_eq (x g : Fin 1024 → EReal) (wg wu : Fin 1024 → Fin 2816 → EReal) (wd : Fin 2816 → Fin 1024 → EReal) (n : Fin 1024) :
    row x g wg wu wd n = x n + chunk (norm x g) wg wu wd n 0 (by omega) + chunk (norm x g) wg wu wd n 256 (by omega) + chunk (norm x g) wg wu wd n 512 (by omega)
      + chunk (norm x g) wg wu wd n 768 (by omega) + chunk (norm x g) wg wu wd n 1024 (by omega) + chunk (norm x g) wg wu wd n 1280 (by omega)
      + chunk (norm x g) wg wu wd n 1536 (by omega) + chunk (norm x g) wg wu wd n 1792 (by omega) + chunk (norm x g) wg wu wd n 2048 (by omega)
      + chunk (norm x g) wg wu wd n 2304 (by omega) + chunk (norm x g) wg wu wd n 2560 (by omega) := by
  unfold row
  rw [sum_part]
  simp only [Fin.sum_univ_succ, Fin.sum_univ_zero, add_zero, ← add_assoc]
  rfl

/-- A chunk of hidden columns, written out with the rows of the down projection in two coordinates. -/
theorem chunk_eq (h : Fin 1024 → EReal) (wg wu : Fin 1024 → Fin 2816 → EReal) (wd : Fin 2816 → Fin 1024 → EReal) (n : Fin 1024)
    (o : ℕ) (ho : o + 256 ≤ 2816) :
    chunk h wg wu wd n o ho = ∑ k : Fin 256, (∑ d, h d * wg d ⟨o + k.val, by omega⟩)
      * Ideal.div 1 (1 + Ideal.exp (-∑ d, h d * wg d ⟨o + k.val, by omega⟩)) * (∑ d, h d * wu d ⟨o + k.val, by omega⟩) * wd ⟨o + k.val, by omega⟩ n := rfl

end Cert.Ffn

end
-- ==== Proof.SampleFfn.lean ====
/- The output projection and the feed-forward block of the sample: what the call writes is what the layer's own lines
   compute of the same arrays. -/
module

public import proofs.«01_k».proof.Defs
public import proofs.«01_k».proof.Proof.Gen.SampleFfnIdeal.Value
public import proofs.«01_k».proof.Proof.Gen.SampleFfnRefIdeal.Run
public import proofs.«01_k».proof.Proof.Gen.SampleFfnRefIdeal.Read
public import Idealize.ShloMosaic.Lib.Pipeline.ValueKit
public import proofs.«01_k».proof.Proof.Ffn
public import Idealize.ShloMosaic.Lib.Tactic

@[expose] public section

set_option maxRecDepth 16384

noncomputable section

namespace Cert.SampleFfnIdeal.Val

open Cert.SampleFfnIdeal Cert.SampleFfnIdeal.Gen Idealize.ShloMosaic Idealize.ShloMosaic.TcCoe Idealize.SL.Sem
open Idealize.ShloMosaic.Pipeline (Dat)

/-- The row of the residual stream after the output projection, in the two parts of the mixed row. -/
def mid (x0 : Vec Ideal S512x1024 .f32) (x1 : Vec Ideal S512x512 .f32)
    (x2 : Vec Ideal S512x512 .f32) (x3 : Vec Ideal S1024x1024 .bf16) (r : Fin 512) (n : Fin 1024) : EReal :=
  x0 (ix2 r n) + ∑ k : Fin 512, x1 (ix2 r k) * x3 (ix2 ⟨k.val, by omega⟩ n) + ∑ k : Fin 512, x2 (ix2 r k) * x3 (ix2 ⟨512 + k.val, by omega⟩ n)

set_option maxHeartbeats 1000000 in
/-- What a grid point leaves in the result's block: the feed-forward block of its rows. -/
theorem out_apply (c : Dev nD) (t : Fin cfg0.N) (x0 : Vec Ideal S512x1024 .f32) (x1 : Vec Ideal S512x512 .f32)
    (x2 : Vec Ideal S512x512 .f32) (x3 : Vec Ideal S1024x1024 .bf16) (x4 : Vec Ideal S1x1024 .f32) (x5 : Vec Ideal S1024x2816 .bf16)
    (x6 : Vec Ideal S1024x2816 .bf16) (x7 : Vec Ideal S11x256x1024 .bf16) (wd : Fin 2816 → Fin 1024 → EReal)
    (h7 : ∀ (j : Fin 11) (o : ℕ) (_ : o = j.val * 256) (k : Fin 256) (n : Fin 1024) (h : o + k.val < 2816), wd ⟨o + k.val, h⟩ n = x7 (ix3 j k n))
    (r : Fin 512) (n : Fin 1024) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) x0 x1 x2 x3 x4 x5 x6 x7 (ix2 r n)
      = Ffn.row (mid x0 x1 x2 x3 r) (fun d => x4 (ix2 0 d)) (fun d f => x5 (ix2 d f)) (fun d f => x6 (ix2 d f)) wd n := by
  frame_out
  have hX : ∀ n, k0_pay2 x0 x1 (View.ld x3 (Rect.unit ![0, 0] ![512, 1024] inb_S1024x1024_S512x1024_0_0)) x2
      (View.ld x3 (Rect.unit ![512, 0] ![512, 1024] inb_S1024x1024_S512x1024_512_0)) (ix2 r n) = mid x0 x1 x2 x3 r n := by
    intro n; unfold mid; pointwise [k0_pay2]
  have hH : ∀ d, k0_pay3 x0 x1 (View.ld x3 (Rect.unit ![0, 0] ![512, 1024] inb_S1024x1024_S512x1024_0_0)) x2
      (View.ld x3 (Rect.unit ![512, 0] ![512, 1024] inb_S1024x1024_S512x1024_512_0)) x4 (ix2 r d)
      = Ffn.norm (mid x0 x1 x2 x3 r) (fun d => x4 (ix2 0 d)) d := by
    intro d; unfold Ffn.norm; pointwise [k0_pay3, hX]
  generalize k0_pay2 x0 x1 _ x2 _ = X at hX ⊢
  generalize k0_pay3 x0 x1 _ x2 _ _ = H at hH ⊢
  unfold_payloads
  pointwise [hX, hH]
  rw [Ffn.row_eq]
  simp only [Ffn.chunk_eq, zero_sub, h7 0 0 rfl, h7 1 256 rfl, h7 2 512 rfl, h7 3 768 rfl, h7 4 1024 rfl, h7 5 1280 rfl, h7 6 1536 rfl,
    h7 7 1792 rfl, h7 8 2048 rfl, h7 9 2304 rfl, h7 10 2560 rfl]
  simp only [Nat.zero_add]

/-- The same residual stream, at the reference's shapes. -/
def mid' (x0 : (⟨S1024x1024, .f32⟩ : BufTy).Contents (Elt Ideal)) (x1 x2 : (⟨S1024x512, .f32⟩ : BufTy).Contents (Elt Ideal))
    (x3 : (⟨S1024x1024, .f32⟩ : BufTy).Contents (Elt Ideal)) (r n : Fin 1024) : EReal :=
  x0 (ix2 r n) + ∑ k : Fin 512, x1 (ix2 r k) * x3 (ix2 ⟨k.val, by omega⟩ n) + ∑ k : Fin 512, x2 (ix2 r k) * x3 (ix2 ⟨512 + k.val, by omega⟩ n)

/-- The residual stream after the output projection, of the reference. -/
theorem ref_mid (x0 : (⟨S1024x1024, .f32⟩ : BufTy).Contents (Elt Ideal)) (x1 x2 : (⟨S1024x512, .f32⟩ : BufTy).Contents (Elt Ideal)) (x3 : (⟨S1024x1024, .f32⟩ : BufTy).Contents (Elt Ideal)) (r n : Fin 1024) :
    SampleFfnRefIdeal.Read.val_main_v2 (F := Ideal) x0 x1 x2 x3 (ix2 r n) = mid' x0 x1 x2 x3 r n := by
  pointwise [SampleFfnRefIdeal.Read.val_main_v0, SampleFfnRefIdeal.Read.val_main_v1, SampleFfnRefIdeal.Read.val_main_v2]
  unfold mid'
  rw [add_assoc]

/-- What the reference returns: the feed-forward block of every row. -/
theorem ref_apply (x0 : (⟨S1024x1024, .f32⟩ : BufTy).Contents (Elt Ideal)) (x1 x2 : (⟨S1024x512, .f32⟩ : BufTy).Contents (Elt Ideal)) (x3 : (⟨S1024x1024, .f32⟩ : BufTy).Contents (Elt Ideal)) (x4 : (⟨S1024, .f32⟩ : BufTy).Contents (Elt Ideal)) (x5 x6 : (⟨S1024x2816, .f32⟩ : BufTy).Contents (Elt Ideal)) (x7 : (⟨S2816x1024, .f32⟩ : BufTy).Contents (Elt Ideal)) (r n : Fin 1024) :
    SampleFfnRefIdeal.Read.val_main_v21 (F := Ideal) x0 x1 x2 x3 x4 x5 x6 x7 (ix2 r n)
      = Ffn.row (mid' x0 x1 x2 x3 r) (fun d => x4 (ix1 d)) (fun d f => x5 (ix2 d f)) (fun d f => x6 (ix2 d f)) (fun f n => x7 (ix2 f n)) n := by
  pointwise [SampleFfnRefIdeal.Read.val_main_v21,SampleFfnRefIdeal.Read.val_main_v20,SampleFfnRefIdeal.Read.val_main_v19,SampleFfnRefIdeal.Read.val_main_v18,SampleFfnRefIdeal.Read.val_main_v17,SampleFfnRefIdeal.Read.val_main_v16,SampleFfnRefIdeal.Read.val_main_v15,SampleFfnRefIdeal.Read.val_main_v14,SampleFfnRefIdeal.Read.val_main_v13,SampleFfnRefIdeal.Read.val_main_v12,SampleFfnRefIdeal.Read.val_main_v11,SampleFfnRefIdeal.Read.val_main_v10,SampleFfnRefIdeal.Read.val_main_v9,SampleFfnRefIdeal.Read.val_main_v8,SampleFfnRefIdeal.Read.val_main_v7,SampleFfnRefIdeal.Read.val_main_v6,SampleFfnRefIdeal.Read.val_main_v5,SampleFfnRefIdeal.Read.val_main_v4,SampleFfnRefIdeal.Read.val_main_v3,SampleFfnRefIdeal.Read.val_main_cst,SampleFfnRefIdeal.Read.val_main_cst_0,SampleFfnRefIdeal.Read.val_main_cst_1,SampleFfnRefIdeal.Read.val_main_call0_v0,SampleFfnRefIdeal.Read.val_main_call0_v1,SampleFfnRefIdeal.Read.val_main_call0_v2,SampleFfnRefIdeal.Read.val_main_call0_v3,SampleFfnRefIdeal.Read.val_main_call0_v4,SampleFfnRefIdeal.Read.val_main_call0_v5,SampleFfnRefIdeal.Read.val_main_call0_cst,SampleFfnRefIdeal.Read.val_main_call0_cst_0, ref_mid]
  rfl

variable (m : (ℓ : Loc nD τ sig) → Buf (Elt Ideal) ℓ)

/-- Which block of its array each window takes at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0, 0] ∧ win0_8.index t = ![t.val, 0] :=
  (by decide +kernel : ∀ t : Fin grid0.N, _)

/-- The result array is the reference's, of the arguments. -/
theorem final (c : Dev nD) : (dats m 0 c).arrAt 8 cfg0.N
    = SampleFfnRefIdeal.Read.val_main_v21 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  blk_simp
  have hidx := idx t
  have hN : t.val < 2 := t.isLt
  obtain ⟨r, n, rfl⟩ : ∃ (r : Fin 512) (n : Fin 1024), y = ix2 r n := ⟨y 0, y 1, eq_ix2 y⟩
  have e : (win0_8.blk t).view.emb (ix2 r n) = ix2 (⟨t.val * 512 + r.val, by omega⟩ : Fin 1024) n := by blk_ext [idx t]
  rw [after0_8, outsAt0, e, ref_apply,
    out_apply c t _ _ _ _ _ _ _ _ (fun f n => m ((c.tc : Thread nD τ).loc main_arg7) (ix2 f n)) ?_ r n]
  · congr 1
    · funext n
      unfold mid mid'
      blk_point [iblk, V, idx t]
    · funext d
      blk_point [iblk, V, idx t]
    · funext d f
      blk_point [iblk, V, idx t]
    · funext d f
      blk_point [iblk, V, idx t]
  · intro j o ho k n h
    subst ho
    have e7 : (win0_7.blk t).view.emb (ix3 j k n) = ix3 j k n := by blk_ext [idx t]
    have e8 : iblk m c 7 t (ix3 j k n) = V m c main_v1 (ix3 j k n) := congrArg (V m c main_v1) e7
    rw [e8]
    entry_read
    pointwise

/-- The value claim of the last call: on the samples' tokens, the output projection and the feed-forward block are the reference's. -/
theorem algebraic : algebraic_SampleFfnIdeal_SampleFfnRefIdeal := by
  intro m g m' g' _ hargs
  refine ⟨fun c => SampleFfnRefIdeal.Value.res_main_v21 m' c, ?_, ?_⟩
  · refine (θ_run defs _ _).mono (fun r h c => ⟨(h c).1.trans ((final m c).trans ?_), (h c).2⟩) (Value.run_blocks m g)
    obtain ⟨h0, h1, h2, h3, h4, h5, h6, h7⟩ := hargs c
    show _ = SampleFfnRefIdeal.Value.res_main_v21 m' c
    rw [SampleFfnRefIdeal.Read.val_main_v21_eq, h0, h1, h2, h3, h4, h5, h6, h7]
  · exact SampleFfnRefIdeal.Value.run m' g'

/-- The reference's frame: its run, read at the arguments; it has no semaphore. -/
theorem frame_ref : quiescent_SampleFfnRefIdeal := fun m g _ =>
  (θ_run SampleFfnRefIdeal.defs _ _).mono (fun r h => ⟨fun c => (h c).2, sem_eq_zero_of_no_sems (by decide) r.2⟩)
    (SampleFfnRefIdeal.Value.run m g)

end Cert.SampleFfnIdeal.Val
end
-- ==== Proof.Proj.lean ====
/- The input projection of one row over the extended reals: a projected column of the normalised row, and the division of a
   projected row by the root of its heads' mean squares. -/
module

public import proofs.«01_k».proof.Proof.Ffn
public import Idealize.ShloMosaic.Lib.Pointwise
public import Idealize.ShloMosaic.Lib.Pipeline.ValueKit
public import Idealize.ShloMosaic.Lib.IdealHost

@[expose] public section

noncomputable section

namespace Cert.Proj

open Idealize.ShloMosaic

/-- One column of a row's projection: the normalised row against a column of weights. -/
def col (x g : Fin 1024 → EReal) (w : Fin 1024 → EReal) : EReal := ∑ k, Ffn.norm x g k * w k

/-- The sum of squares of the head that the lane `n` lies in. -/
def headSq (z : Fin 512 → EReal) (n : Fin 512) : EReal :=
  ∑ d : Fin 64, z ⟨n.val / 64 * 64 + d.val, by omega⟩ * z ⟨n.val / 64 * 64 + d.val, by omega⟩

/-- One lane of a projected row divided by the root of its head's mean square, times the gain. -/
def head (z : Fin 512 → EReal) (g : EReal) (n : Fin 512) : EReal :=
  z n * Ideal.rsqrt (Ideal.div (headSq z n) (Ideal.ofBits .f32 0x42800000#32) + Ideal.ofBits .f32 0x358637BD#32) * g

/-- A sum over all lanes that counts only one head's is the sum over that head's. -/
theorem sum_head (f : Fin 512 → EReal) (n : Fin 512) :
    ∑ k : Fin 512, f k * (if k.val / 64 = n.val / 64 then 1 else 0) = ∑ d : Fin 64, f ⟨n.val / 64 * 64 + d.val, by omega⟩ := by
  simp only [mul_ite, mul_one, mul_zero]
  rw [← Finset.sum_filter]
  refine Finset.sum_bij' (fun k _ => (⟨k.val % 64, by omega⟩ : Fin 64)) (fun d _ => (⟨n.val / 64 * 64 + d.val, by omega⟩ : Fin 512))
    (fun _ _ => Finset.mem_univ _) ?_ ?_ ?_ ?_
  · intro d _
    simp only [Finset.mem_filter, Finset.mem_univ, true_and]
    omega
  · intro k hk
    simp only [Finset.mem_filter, Finset.mem_univ, true_and] at hk
    apply Fin.ext; show n.val / 64 * 64 + k.val % 64 = k.val; omega
  · intro d _
    apply Fin.ext; show (n.val / 64 * 64 + d.val) % 64 = d.val; omega
  · intro k hk
    simp only [Finset.mem_filter, Finset.mem_univ, true_and] at hk
    congr 1
    apply Fin.ext; show k.val = n.val / 64 * 64 + k.val % 64; omega

/-- A product with the float of 1/64 is a quotient by the float of 64. -/
theorem mul_inv64 (a : EReal) : a * Ideal.ofBits .f32 0x3C800000#32 = Ideal.div a (Ideal.ofBits .f32 0x42800000#32) := by
  have h1 : Ideal.ofBits .f32 0x3C800000#32 = ((1 / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div_coe (by norm_num)]

/-- The two spellings of the factor of the queries, 1 / (8 log 2). -/
theorem scale (a : EReal) : Ideal.div (a * Ideal.ofBits .f32 0x3E000000#32) (Ideal.log (Ideal.ofBits .f32 0x40000000#32))
    = a * (((Real.log 256)⁻¹ : ℝ) : EReal) := by
  have h1 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Real.log 256 = 8 * Real.log 2 := by
    rw [show (256 : ℝ) = 2 ^ 8 by norm_num, Real.log_pow]; norm_num
  have h4 : Real.log 2 ≠ 0 := (Real.log_pos (by norm_num)).ne'
  rw [h1, h2, Ideal.log_coe, if_neg (by norm_num), Ideal.div_coe h4, mul_assoc, ← EReal.coe_mul]
  congr 2
  rw [h3, mul_inv, one_div, one_div]

end Cert.Proj

end
-- ==== Proof.InProj.lean ====
/- The input projection of the prompt: what the call writes of queries, keys, values and gated channels is what the layer's own
   lines compute of the same arrays. -/
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit
public import proofs.«01_k».proof.Proof.Proj
public import Idealize.ShloMosaic.Lib.StableHlo.RunRead
public import Idealize.ShloMosaic.Lib.StableHlo.ReadAt
public import Idealize.ShloMosaic.Lib.Tactic

@[expose] public section

set_option maxRecDepth 16384

noncomputable section

namespace Cert.InProjIdeal.Val

open Cert.InProjIdeal Cert.InProjIdeal.Gen Idealize.ShloMosaic Idealize.ShloMosaic.TcCoe Idealize.SL.Sem
open Idealize.ShloMosaic.Pipeline (Dat)

/-- A row times one column of weights, the normalised row's. -/
theorem h_apply (x0 : Vec Ideal S1024x1024 .f32) (x1 : Vec Ideal S1x1024 .f32) (r d : Fin 1024) :
    k0_pay1 x0 x1 (ix2 r d) = Ffn.norm (fun d => x0 (ix2 r d)) (fun d => x1 (ix2 0 d)) d := by
  unfold Ffn.norm
  pointwise [k0_pay1]

/-- What a block's row is projected to: the columns from `o` of the normalised row times the weights. -/
def zrow (x g : Fin 1024 → EReal) (w : Fin 1024 → Fin 2560 → EReal) (o : ℕ) (ho : o ≤ 2048) (n : Fin 512) : EReal :=
  Proj.col x g (fun k => w k ⟨o + n.val, by omega⟩)

theorem zrow_zero (x g : Fin 1024 → EReal) (w : Fin 1024 → Fin 2560 → EReal) (ho : 0 ≤ 2048) (n : Fin 512) :
    zrow x g w 0 ho n = Proj.col x g (fun k => w k ⟨n.val, by omega⟩) := by
  simp only [zrow, Nat.zero_add]

/-- The gate of the convolution's channels. -/
def gate (x g : Fin 1024 → EReal) (w : Fin 1024 → Fin 2560 → EReal) (n : Fin 512) : EReal :=
  zrow x g w 1536 (by decide) n * Ideal.div 1 (1 + Ideal.exp (-zrow x g w 2048 (by decide) n))

variable (m : (ℓ : Loc nD τ sig) → Buf (Elt Ideal) ℓ)

set_option maxHeartbeats 1000000 in
theorem out17 (c : Dev nD) (t : Fin cfg0.N) (r : Fin 1024) (n : Fin 512) :
    (outsAt0 m c t).2.2.2.2.2.2.2.2.2.2.2 (ix2 r n) = gate (fun d => iblk m c 0 t (ix2 r d)) (fun d => iblk m c 1 t (ix2 0 d)) (fun k j => iblk m c 2 t (ix2 k j)) n := by
  unfold outsAt0
  generalize iblk m c 0 t = x0, iblk m c 1 t = x1, iblk m c 2 t = x2, iblk m c 3 t = x3, iblk m c 4 t = x4, iblk m c 5 t = x5
  dsimp only
  frame_out
  have hH := h_apply x0 x1 r
  generalize k0_pay1 x0 x1 = H at hH ⊢
  unfold_payloads
  pointwise [hH]
  rw [zero_sub]
  rfl
set_option maxHeartbeats 1000000 in
theorem out16 (c : Dev nD) (t : Fin cfg0.N) (r : Fin 1024) (n : Fin 512) :
    (outsAt0 m c t).2.2.2.2.2.2.2.2.2.2.1 (ix3 0 n r) = zrow (fun d => iblk m c 0 t (ix2 r d)) (fun d => iblk m c 1 t (ix2 0 d)) (fun k j => iblk m c 2 t (ix2 k j)) 1024 (by decide) n := by
  unfold outsAt0
  generalize iblk m c 0 t = x0, iblk m c 1 t = x1, iblk m c 2 t = x2, iblk m c 3 t = x3, iblk m c 4 t = x4, iblk m c 5 t = x5
  dsimp only
  frame_out
  have hH := h_apply x0 x1 r
  generalize k0_pay1 x0 x1 = H at hH ⊢
  unfold_payloads
  pointwise [hH]
  rfl
set_option maxHeartbeats 1000000 in
theorem out15 (c : Dev nD) (t : Fin cfg0.N) (r : Fin 1024) (n : Fin 512)
    (h5 : ∀ k n : Fin 512, iblk m c 5 t (ix2 k n) = (if k.val / 64 = n.val / 64 then (1 : EReal) else 0)) :
    (outsAt0 m c t).2.2.2.2.2.2.2.2.2.1 (ix3 0 n r) = Proj.head (zrow (fun d => iblk m c 0 t (ix2 r d)) (fun d => iblk m c 1 t (ix2 0 d)) (fun k j => iblk m c 2 t (ix2 k j)) 512 (by decide)) (iblk m c 4 t (ix2 0 n)) n := by
  unfold outsAt0
  generalize iblk m c 0 t = x0, iblk m c 1 t = x1, iblk m c 2 t = x2, iblk m c 3 t = x3, iblk m c 4 t = x4, iblk m c 5 t = x5 at h5 ⊢
  dsimp only
  frame_out
  have hH := h_apply x0 x1 r
  generalize k0_pay1 x0 x1 = H at hH ⊢
  unfold_payloads
  pointwise [hH]
  simp only [h5]
  rw [Proj.sum_head (fun k => _) n, Proj.mul_inv64]
  rfl
set_option maxHeartbeats 1000000 in
theorem out6 (c : Dev nD) (t : Fin cfg0.N) (r : Fin 1024) (n : Fin 512)
    (h5 : ∀ k n : Fin 512, iblk m c 5 t (ix2 k n) = (if k.val / 64 = n.val / 64 then (1 : EReal) else 0)) :
    (outsAt0 m c t).1 (ix2 r n) = Proj.head (zrow (fun d => iblk m c 0 t (ix2 r d)) (fun d => iblk m c 1 t (ix2 0 d)) (fun k j => iblk m c 2 t (ix2 k j)) 0 (by decide)) (iblk m c 3 t (ix2 0 n)) n * (((Real.log 256)⁻¹ : ℝ) : EReal) := by
  unfold outsAt0
  generalize iblk m c 0 t = x0, iblk m c 1 t = x1, iblk m c 2 t = x2, iblk m c 3 t = x3, iblk m c 4 t = x4, iblk m c 5 t = x5 at h5 ⊢
  dsimp only
  frame_out
  have hH := h_apply x0 x1 r
  generalize k0_pay1 x0 x1 = H at hH ⊢
  unfold_payloads
  pointwise [hH]
  simp only [h5]
  rw [Proj.sum_head (fun k => _) n, Proj.mul_inv64]
  refine congrArg₂ (fun a b : EReal => a * b) ?_ ?_
  · simp only [Proj.head, Proj.headSq, zrow_zero]
    rfl
  · rfl

/-- A projected entry of the reference. -/
theorem ref_z (x0 : (⟨S16384x1024, .f32⟩ : BufTy).Contents (Elt Ideal)) (x1 : (⟨S1024, .f32⟩ : BufTy).Contents (Elt Ideal)) (x2 : (⟨S1024x2560, .f32⟩ : BufTy).Contents (Elt Ideal)) (R : Fin 16384) (j : Fin 2560) :
    InProjRefIdeal.Read.val_main_v13 (F := Ideal) x0 x1 x2 (ix2 R j) = Proj.col (fun d => x0 (ix2 R d)) (fun d => x1 (ix1 d)) (fun k => x2 (ix2 k j)) := by
  unfold Proj.col Ffn.norm
  pointwise [InProjRefIdeal.Read.val_main_v13, InProjRefIdeal.Read.val_main_v12, InProjRefIdeal.Read.val_main_v11, InProjRefIdeal.Read.val_main_v10, InProjRefIdeal.Read.val_main_v9, InProjRefIdeal.Read.val_main_v8, InProjRefIdeal.Read.val_main_v7, InProjRefIdeal.Read.val_main_v6, InProjRefIdeal.Read.val_main_v5, InProjRefIdeal.Read.val_main_v4, InProjRefIdeal.Read.val_main_v3, InProjRefIdeal.Read.val_main_v2, InProjRefIdeal.Read.val_main_v1, InProjRefIdeal.Read.val_main_v0, InProjRefIdeal.Read.val_main_cst_0, InProjRefIdeal.Read.val_main_cst_1, InProjRefIdeal.Read.val_main_cst]

theorem ref_u (x0 : (⟨S16384x1024, .f32⟩ : BufTy).Contents (Elt Ideal)) (x1 : (⟨S1024, .f32⟩ : BufTy).Contents (Elt Ideal)) (x2 : (⟨S1024x2560, .f32⟩ : BufTy).Contents (Elt Ideal)) (R : Fin 16384) (n : Fin 512) :
    InProjRefIdeal.Read.val_main_v59 (F := Ideal) x0 x1 x2 (ix2 R n) = gate (fun d => x0 (ix2 R d)) (fun d => x1 (ix1 d)) (fun k j => x2 (ix2 k j)) n := by
  pointwise [InProjRefIdeal.Read.val_main_v59, InProjRefIdeal.Read.val_main_v58, InProjRefIdeal.Read.val_main_v57, InProjRefIdeal.Read.val_main_v56, InProjRefIdeal.Read.val_main_v55, InProjRefIdeal.Read.val_main_v54, InProjRefIdeal.Read.val_main_v53, InProjRefIdeal.Read.val_main_v18, InProjRefIdeal.Read.val_main_v17, InProjRefIdeal.Read.val_main_cst_10, InProjRefIdeal.Read.val_main_cst_11, ref_z]
  rfl

theorem ref_v (x0 : (⟨S16384x1024, .f32⟩ : BufTy).Contents (Elt Ideal)) (x1 : (⟨S1024, .f32⟩ : BufTy).Contents (Elt Ideal)) (x2 : (⟨S1024x2560, .f32⟩ : BufTy).Contents (Elt Ideal)) (b : Fin 8) (n : Fin 512) (s : Fin 2048) (R : Fin 16384) (hR : R.val = b.val * 2048 + s.val) :
    InProjRefIdeal.Read.val_main_v64 (F := Ideal) x0 x1 x2 (ix3 b n s) = zrow (fun d => x0 (ix2 R d)) (fun d => x1 (ix1 d)) (fun k j => x2 (ix2 k j)) 1024 (by decide) n := by
  have hb : b.val * 2048 + s.val < 16384 := by omega
  obtain rfl : R = ⟨b.val * 2048 + s.val, hb⟩ := Fin.ext hR
  unfold zrow
  pointwise [InProjRefIdeal.Read.val_main_v64, InProjRefIdeal.Read.val_main_v52, InProjRefIdeal.Read.val_main_v16, ref_z]

theorem ref_k (x0 : (⟨S16384x1024, .f32⟩ : BufTy).Contents (Elt Ideal)) (x1 : (⟨S1024, .f32⟩ : BufTy).Contents (Elt Ideal)) (x2 : (⟨S1024x2560, .f32⟩ : BufTy).Contents (Elt Ideal)) (x3 : (⟨S64, .f32⟩ : BufTy).Contents (Elt Ideal)) (b : Fin 8) (n : Fin 512) (s : Fin 2048) (R : Fin 16384) (hR : R.val = b.val * 2048 + s.val) :
    InProjRefIdeal.Read.val_main_v63 (F := Ideal) x0 x1 x2 x3 (ix3 b n s) = Proj.head (zrow (fun d => x0 (ix2 R d)) (fun d => x1 (ix1 d)) (fun k j => x2 (ix2 k j)) 512 (by decide)) (x3 (ix1 ⟨n.val % 64, by omega⟩)) n := by
  have hb : b.val * 2048 + s.val < 16384 := by omega
  obtain rfl : R = ⟨b.val * 2048 + s.val, hb⟩ := Fin.ext hR
  unfold Proj.head Proj.headSq zrow
  pointwise [InProjRefIdeal.Read.val_main_v63, InProjRefIdeal.Read.val_main_v62, InProjRefIdeal.Read.val_main_v51, InProjRefIdeal.Read.val_main_v50, InProjRefIdeal.Read.val_main_v49, InProjRefIdeal.Read.val_main_v48, InProjRefIdeal.Read.val_main_v47, InProjRefIdeal.Read.val_main_v46, InProjRefIdeal.Read.val_main_v45, InProjRefIdeal.Read.val_main_v44, InProjRefIdeal.Read.val_main_v43, InProjRefIdeal.Read.val_main_v42, InProjRefIdeal.Read.val_main_v41, InProjRefIdeal.Read.val_main_v40, InProjRefIdeal.Read.val_main_v39, InProjRefIdeal.Read.val_main_v38, InProjRefIdeal.Read.val_main_v15, InProjRefIdeal.Read.val_main_cst_7, InProjRefIdeal.Read.val_main_cst_8, InProjRefIdeal.Read.val_main_cst_9, ref_z]

theorem ref_q (x0 : (⟨S16384x1024, .f32⟩ : BufTy).Contents (Elt Ideal)) (x1 : (⟨S1024, .f32⟩ : BufTy).Contents (Elt Ideal)) (x2 : (⟨S1024x2560, .f32⟩ : BufTy).Contents (Elt Ideal)) (x3 : (⟨S64, .f32⟩ : BufTy).Contents (Elt Ideal)) (R : Fin 16384) (n : Fin 512) :
    InProjRefIdeal.Read.val_main_v61 (F := Ideal) x0 x1 x2 x3 (ix2 R n) = Proj.head (zrow (fun d => x0 (ix2 R d)) (fun d => x1 (ix1 d)) (fun k j => x2 (ix2 k j)) 0 (by decide)) (x3 (ix1 ⟨n.val % 64, by omega⟩)) n * (((Real.log 256)⁻¹ : ℝ) : EReal) := by
  rw [← Proj.scale]
  unfold Proj.head Proj.headSq
  simp only [zrow_zero]
  pointwise [InProjRefIdeal.Read.val_main_v61, InProjRefIdeal.Read.val_main_v60, InProjRefIdeal.Read.val_main_v37, InProjRefIdeal.Read.val_main_v36, InProjRefIdeal.Read.val_main_v35, InProjRefIdeal.Read.val_main_v34, InProjRefIdeal.Read.val_main_v33, InProjRefIdeal.Read.val_main_v32, InProjRefIdeal.Read.val_main_v31, InProjRefIdeal.Read.val_main_v30, InProjRefIdeal.Read.val_main_v29, InProjRefIdeal.Read.val_main_v28, InProjRefIdeal.Read.val_main_v27, InProjRefIdeal.Read.val_main_v26, InProjRefIdeal.Read.val_main_v25, InProjRefIdeal.Read.val_main_v24, InProjRefIdeal.Read.val_main_v23, InProjRefIdeal.Read.val_main_v22, InProjRefIdeal.Read.val_main_v21, InProjRefIdeal.Read.val_main_v20, InProjRefIdeal.Read.val_main_v19, InProjRefIdeal.Read.val_main_v14, InProjRefIdeal.Read.val_main_cst_2, InProjRefIdeal.Read.val_main_cst_3, InProjRefIdeal.Read.val_main_cst_4, InProjRefIdeal.Read.val_main_cst_5, InProjRefIdeal.Read.val_main_cst_6, ref_z]

/-- Which block of its array each window takes at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_15.index t = ![t.val / 2, 0, t.val % 2] ∧ win0_16.index t = ![t.val / 2, 0, t.val % 2] ∧ win0_17.index t = ![t.val, 0] :=
  (by decide +kernel : ∀ t : Fin grid0.N, _)

/-- The head of a lane, as the host's lines compute it: a quotient rounded down. -/
def lane (k : Fin 512) : BitVec 32 :=
  Scalar.select
    (IntOp.andi
      (IntOp.cmpi CmpIPredicate.ne
        (if BitVec.ofNat 32 k.val = 0 then 0 else if (BitVec.ofNat 32 k.val).msb = true then -1 else 1 : BitVec 32)
        (if 64#32 = 0 then 0 else if BitVec.msb 64#32 = true then -1 else 1 : BitVec 32))
      (IntOp.cmpi CmpIPredicate.ne (IntOp.remsi ArithUnit.host (BitVec.ofNat 32 k.val) 64#32) 0#32))
    (IntOp.subi (IntOp.divsi ArithUnit.host (BitVec.ofNat 32 k.val) 64#32) 1#32)
    (IntOp.divsi ArithUnit.host (BitVec.ofNat 32 k.val) 64#32)

/-- It is the lane's number over 64. -/
theorem lane_eq : ∀ k : Fin 512, lane k = BitVec.ofNat 32 (k.val / 64) := by decide +kernel

/-- The matrix of ones on the heads' lanes, as the call is given it. -/
theorem seg_apply (c : Dev nD) (t : Fin cfg0.N) (k n : Fin 512) :
    iblk m c 5 t (ix2 k n) = (if k.val / 64 = n.val / 64 then (1 : EReal) else 0) := by
  have hidx := idx t
  have e7 : (win0_5.blk t).view.emb (ix2 k n) = ix2 k n := by blk_ext [idx t]
  have e8 : iblk m c 5 t (ix2 k n) = V m c main_v7 (ix2 k n) := congrArg (V m c main_v7) e7
  rw [e8]
  after_reads_at
  show FloatOps.uitofp (F := Ideal) .bf16 (IntOp.cmpi .eq (lane k) (lane n)) = _
  rw [lane_eq, lane_eq]
  have hk : (BitVec.ofNat 32 (k.val / 64) = BitVec.ofNat 32 (n.val / 64)) ↔ k.val / 64 = n.val / 64 := by
    constructor
    · intro h
      have h' := congrArg BitVec.toNat h
      simp only [BitVec.toNat_ofNat] at h'
      omega
    · intro h
      rw [h]
  by_cases h : k.val / 64 = n.val / 64
  · rw [if_pos h, h]
    simp [IntOp.cmpi, FloatOps.uitofp]
  · rw [if_neg h]
    simp [IntOp.cmpi, FloatOps.uitofp, hk, h]

/-- The gains of the queries, one of each lane, as the call is given them. -/
theorem gain_q (c : Dev nD) (t : Fin cfg0.N) (n : Fin 512) :
    iblk m c 3 t (ix2 0 n) = m ((c.tc : Thread nD τ).loc main_arg3) (ix1 ⟨n.val % 64, by omega⟩) := by
  have hidx := idx t
  have e7 : (win0_3.blk t).view.emb (ix2 0 n) = ix2 0 n := by blk_ext [idx t]
  have e8 : iblk m c 3 t (ix2 0 n) = V m c main_v13 (ix2 0 n) := congrArg (V m c main_v13) e7
  rw [e8]
  after_reads_simp
  pointwise

/-- The gains of the keys, one of each lane, as the call is given them. -/
theorem gain_k (c : Dev nD) (t : Fin cfg0.N) (n : Fin 512) :
    iblk m c 4 t (ix2 0 n) = m ((c.tc : Thread nD τ).loc main_arg4) (ix1 ⟨n.val % 64, by omega⟩) := by
  have hidx := idx t
  have e7 : (win0_4.blk t).view.emb (ix2 0 n) = ix2 0 n := by blk_ext [idx t]
  have e8 : iblk m c 4 t (ix2 0 n) = V m c main_v17 (ix2 0 n) := congrArg (V m c main_v17) e7
  rw [e8]
  after_reads_simp
  pointwise

/-- The rows, the gains and the weights of a grid point, as the call is given them. -/
theorem given (c : Dev nD) (t : Fin cfg0.N) (r : Fin 1024) (R : Fin 16384) (hR : R.val = t.val * 1024 + r.val) :
    (∀ d : Fin 1024, iblk m c 0 t (ix2 r d) = m ((c.tc : Thread nD τ).loc main_arg0) (ix2 R d))
      ∧ (∀ d : Fin 1024, iblk m c 1 t (ix2 0 d) = m ((c.tc : Thread nD τ).loc main_arg1) (ix1 d))
      ∧ (∀ (k : Fin 1024) (j : Fin 2560), iblk m c 2 t (ix2 k j) = m ((c.tc : Thread nD τ).loc main_arg2) (ix2 k j)) := by
  have hidx := idx t
  have hN : t.val < 16 := t.isLt
  have hb : t.val * 1024 + r.val < 16384 := by omega
  obtain rfl : R = ⟨t.val * 1024 + r.val, hb⟩ := Fin.ext hR
  refine ⟨fun d => ?_, fun d => ?_, fun k j => ?_⟩
  · blk_point [iblk, V, idx t]
  · have e7 : (win0_1.blk t).view.emb (ix2 0 d) = ix2 0 d := by blk_ext [idx t]
    have e8 : iblk m c 1 t (ix2 0 d) = V m c main_v8 (ix2 0 d) := congrArg (V m c main_v8) e7
    rw [e8]
    after_reads_simp
    pointwise
  · have e7 : (win0_2.blk t).view.emb (ix2 k j) = ix2 k j := by blk_ext [idx t]
    have e8 : iblk m c 2 t (ix2 k j) = V m c main_v9 (ix2 k j) := congrArg (V m c main_v9) e7
    rw [e8]
    after_reads_simp
    pointwise

theorem final6 (c : Dev nD) : (dats m 0 c).arrAt 6 cfg0.N
    = InProjRefIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  have hidx := idx t
  have hN : t.val < 16 := t.isLt
  obtain ⟨r, n, rfl⟩ : ∃ (r : Fin 1024) (n : Fin 512), y = ix2 r n := ⟨y 0, y 1, eq_ix2 y⟩
  let R : Fin 16384 := ⟨t.val * 1024 + r.val, by omega⟩
  have e : (win0_6.blk t).view.emb (ix2 r n) = ix2 (⟨t.val * 1024 + r.val, by omega⟩ : Fin 16384) n := by blk_ext [idx t]
  obtain ⟨g0, g1, g2⟩ := given m c t r R rfl
  rw [after0_6, e, ref_q, out6 m c t r n (seg_apply m c t)]
  simp only [g0, g1, g2, gain_q]
  all_goals rfl

theorem final15 (c : Dev nD) : (dats m 0 c).arrAt 15 cfg0.N
    = InProjRefIdeal.Read.val_main_v63 (F := Ideal) (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 15 _ (by decide +kernel) fun t hf y => ?_
  blk_simp
  have hidx := idx t
  have hN : t.val < 16 := t.isLt
  obtain ⟨z, n, r, rfl⟩ : ∃ (z : Fin 1) (n : Fin 512) (r : Fin 1024), y = ix3 z n r := ⟨y 0, y 1, y 2, eq_ix3 y⟩
  obtain rfl : z = 0 := by omega
  let R : Fin 16384 := ⟨t.val * 1024 + r.val, by omega⟩
  have e : (win0_15.blk t).view.emb (ix3 0 n r) = ix3 (⟨t.val / 2, by omega⟩ : Fin 8) n (⟨t.val % 2 * 1024 + r.val, by omega⟩ : Fin 2048) := by blk_ext [idx t]
  obtain ⟨g0, g1, g2⟩ := given m c t r R rfl
  rw [after0_15, e, ref_k _ _ _ _ _ _ _ R (by show t.val * 1024 + r.val = t.val / 2 * 2048 + (t.val % 2 * 1024 + r.val); omega), out15 m c t r n (seg_apply m c t)]
  simp only [g0, g1, g2, gain_k]
  all_goals rfl

theorem final16 (c : Dev nD) : (dats m 0 c).arrAt 16 cfg0.N
    = InProjRefIdeal.Read.val_main_v64 (F := Ideal) (m ((c.tc : Thread nD τ).loc main_arg0)) (m ((c.tc : Thread nD τ).loc main_arg1)) (m ((c.tc : Thread nD τ).loc main_arg2)) := by
  refine (dats m 0 c).arrAt_eq_of_covers 16 _ (by decide +kernel) fun t hf y => ?_
  blk_simp
  have hidx := idx t
  have hN : t.val < 16 := t.isLt
  obtain ⟨z, n, r, rfl⟩ : ∃ (z : Fin 1) (n : Fin 512) (r : Fin 1024), y = ix3 z n r := ⟨y 0, y 1, y 2, eq_ix3 y⟩
  obtain rfl : z = 0 := by omega
  let R : Fin 16384 := ⟨t.val * 1024 + r.val, by omega⟩
  have e : (win0_16.blk t).view.emb (ix3 0 n r) = ix3 (⟨t.val / 2, by omega⟩ : Fin 8) n (⟨t.val % 2 * 1024 + r.val, by omega⟩ : Fin 2048) := by blk_ext [idx t]
  obtain ⟨g0, g1, g2⟩ := given m c t r R rfl
  rw [after0_16, e, ref_v _ _ _ _ _ _ R (by show t.val * 1024 + r.val = t.val / 2 * 2048 + (t.val % 2 * 1024 + r.val); omega), out16 m c t r n]
  simp only [g0, g1, g2]
  all_goals rfl

theorem final17 (c : Dev nD) : (dats m 0 c).arrAt 17 cfg0.N
    = InProjRefIdeal.Read.val_main_v59 (F := Ideal) (m ((c.tc : Thread nD τ).loc main_arg0)) (m ((c.tc : Thread nD τ).loc main_arg1)) (m ((c.tc : Thread nD τ).loc main_arg2)) := by
  refine (dats m 0 c).arrAt_eq_of_covers 17 _ (by decide +kernel) fun t hf y => ?_
  blk_simp
  have hidx := idx t
  have hN : t.val < 16 := t.isLt
  obtain ⟨r, n, rfl⟩ : ∃ (r : Fin 1024) (n : Fin 512), y = ix2 r n := ⟨y 0, y 1, eq_ix2 y⟩
  let R : Fin 16384 := ⟨t.val * 1024 + r.val, by omega⟩
  have e : (win0_17.blk t).view.emb (ix2 r n) = ix2 (⟨t.val * 1024 + r.val, by omega⟩ : Fin 16384) n := by blk_ext [idx t]
  obtain ⟨g0, g1, g2⟩ := given m c t r R rfl
  rw [after0_17, e, ref_u, out17 m c t r n]
  simp only [g0, g1, g2]
  all_goals rfl

/-- The value claim of the prompt's input projection. -/
theorem algebraic : algebraic_InProjIdeal_InProjRefIdeal := by
  intro m g m' g' _ hargs
  refine ⟨fun c => InProjRefIdeal.Read.val_main_v61 (F := Ideal) (m' ((c.tc : Thread InProjRefIdeal.nD InProjRefIdeal.τ).loc InProjRefIdeal.main_arg0)) (m' ((c.tc : Thread InProjRefIdeal.nD InProjRefIdeal.τ).loc InProjRefIdeal.main_arg1)) (m' ((c.tc : Thread InProjRefIdeal.nD InProjRefIdeal.τ).loc InProjRefIdeal.main_arg2)) (m' ((c.tc : Thread InProjRefIdeal.nD InProjRefIdeal.τ).loc InProjRefIdeal.main_arg3)),
    fun c => InProjRefIdeal.Read.val_main_v63 (F := Ideal) (m' ((c.tc : Thread InProjRefIdeal.nD InProjRefIdeal.τ).loc InProjRefIdeal.main_arg0)) (m' ((c.tc : Thread InProjRefIdeal.nD InProjRefIdeal.τ).loc InProjRefIdeal.main_arg1)) (m' ((c.tc : Thread InProjRefIdeal.nD InProjRefIdeal.τ).loc InProjRefIdeal.main_arg2)) (m' ((c.tc : Thread InProjRefIdeal.nD InProjRefIdeal.τ).loc InProjRefIdeal.main_arg4)),
    fun c => InProjRefIdeal.Read.val_main_v64 (F := Ideal) (m' ((c.tc : Thread InProjRefIdeal.nD InProjRefIdeal.τ).loc InProjRefIdeal.main_arg0)) (m' ((c.tc : Thread InProjRefIdeal.nD InProjRefIdeal.τ).loc InProjRefIdeal.main_arg1)) (m' ((c.tc : Thread InProjRefIdeal.nD InProjRefIdeal.τ).loc InProjRefIdeal.main_arg2)),
    fun c => InProjRefIdeal.Read.val_main_v59 (F := Ideal) (m' ((c.tc : Thread InProjRefIdeal.nD InProjRefIdeal.τ).loc InProjRefIdeal.main_arg0)) (m' ((c.tc : Thread InProjRefIdeal.nD InProjRefIdeal.τ).loc InProjRefIdeal.main_arg1)) (m' ((c.tc : Thread InProjRefIdeal.nD InProjRefIdeal.τ).loc InProjRefIdeal.main_arg2)), ?_, ?_⟩
  · refine (θ_run defs _ _).mono (fun r h c => ?_) (Value.run_blocks m g)
    obtain ⟨p6, _, _, _, _, _, _, _, _, p15, p16, p17, a⟩ := h c
    obtain ⟨h0, h1, h2, h3, h4⟩ := hargs c
    beta_reduce
    rw [h0, h1, h2, h3, h4]
    exact ⟨p6.trans (final6 m c), p15.trans (final15 m c), p16.trans (final16 m c), p17.trans (final17 m c), a⟩
  · refine (θ_run InProjRefIdeal.defs _ _).mono (fun r h c => ?_) (InProjRefIdeal.Value.run m' g')
    obtain ⟨q0, q1, q2, q3, a⟩ := h c
    exact ⟨q0.trans (InProjRefIdeal.Read.val_main_v61_eq _ _ _ _), q1.trans (InProjRefIdeal.Read.val_main_v63_eq _ _ _ _), q2.trans (InProjRefIdeal.Read.val_main_v64_eq _ _ _), q3.trans (InProjRefIdeal.Read.val_main_v59_eq _ _ _), a⟩

/-- The reference's frame: its run, read at the arguments; it has no semaphore. -/
theorem frame_ref : quiescent_InProjRefIdeal := fun m g _ =>
  (θ_run InProjRefIdeal.defs _ _).mono (fun r h => ⟨fun c => (h c).2.2.2.2, sem_eq_zero_of_no_sems (by decide) r.2⟩)
    (InProjRefIdeal.Value.run m g)

end Cert.InProjIdeal.Val

end
-- ==== Proof.PfRing.lean ====
module

public import proofs.«01_k».proof.Proof.Gen.PromptFfnIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! The prompt's feed-forward call: the two streams of cache pages that run through it. While the rows of the
layer are computed, each point also takes one page of the key cache and one of the value cache out of a ring of three
slots and asks for the page two points ahead. This module names the points of the grid, the slots, the cells that
count the transfers and the pages, and proves what a point does with each ring. -/

namespace Cert.PromptFfnIdeal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptFfnIdeal.Gen

variable {F : FTy → Type} [FloatOps F]
variable (m : (ℓ : Loc nD τ sig) → Buf (Elt F) ℓ) (ρ : Dev nD → PrngReg)

abbrev firstPt (i : grid0.Coords) : Prop := k0_cond1 i = 1#1
theorem firstPt_iff : ∀ t : Fin cfg0.N, firstPt (grid0.coords t) ↔ t.val % 256 = 0 :=
  (fun t => by
    have ht : t.val < 256 := Nat.lt_of_lt_of_eq t.isLt N_0
    have e0 : (grid0.coords t 0).val = t.val / 1 % 256 := Pipeline.Grid.coords_val t 0 (by decide) rfl
    simp only [firstPt, k0_cond1, e0]
    word_cmp
   : ∀ t : Fin grid0.N, firstPt (grid0.coords t) ↔ t.val % 256 = 0)

abbrev streamPt (i : grid0.Coords) : Prop := k0_cond2 i = 1#1
theorem streamPt_iff : ∀ t : Fin cfg0.N, streamPt (grid0.coords t) ↔ t.val < 254 :=
  (by decide +kernel : ∀ t : Fin grid0.N, streamPt (grid0.coords t) ↔ t.val < 254)

abbrev openPt (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1
theorem openPt_iff : ∀ t : Fin cfg0.N, openPt (grid0.coords t) ↔ t.val % 8 = 0 :=
  (by decide +kernel : ∀ t : Fin grid0.N, openPt (grid0.coords t) ↔ t.val % 8 = 0)

abbrev morePt (i : grid0.Coords) : Prop := k0_cond4 i = 1#1
theorem morePt_iff : ∀ t : Fin cfg0.N, morePt (grid0.coords t) ↔ (t.val % 8 = 5 ∨ t.val % 8 = 6 ∨ t.val % 8 = 7) :=
  (by decide +kernel : ∀ t : Fin grid0.N, morePt (grid0.coords t) ↔ (t.val % 8 = 5 ∨ t.val % 8 = 6 ∨ t.val % 8 = 7))

abbrev stg_0 (t : Fin cfg0.N) : Memref sig .tc .vmem S512x1024 .f32 := win0_0.stage (cfg0.slots t 0)
abbrev stgWhole_0 (t : Fin cfg0.N) : (stg_0 t).IsWhole := hstage0_0 ((cfg0.slots t 0).cast nbuf0_0)
abbrev stg_1 (t : Fin cfg0.N) : Memref sig .tc .vmem S512x1024 .bf16 := win0_1.stage (cfg0.slots t 1)
abbrev stgWhole_1 (t : Fin cfg0.N) : (stg_1 t).IsWhole := hstage0_1 ((cfg0.slots t 1).cast nbuf0_1)
abbrev stg_2 (t : Fin cfg0.N) : Memref sig .tc .vmem S1024x1024 .bf16 := win0_2.stage (cfg0.slots t 2)
abbrev stgWhole_2 (t : Fin cfg0.N) : (stg_2 t).IsWhole := hstage0_2 ((cfg0.slots t 2).cast nbuf0_2)
abbrev stg_3 (t : Fin cfg0.N) : Memref sig .tc .vmem S1x1024 .f32 := win0_3.stage (cfg0.slots t 3)
abbrev stgWhole_3 (t : Fin cfg0.N) : (stg_3 t).IsWhole := hstage0_3 ((cfg0.slots t 3).cast nbuf0_3)
abbrev stg_4 (t : Fin cfg0.N) : Memref sig .tc .vmem S1024x2816 .bf16 := win0_4.stage (cfg0.slots t 4)
abbrev stgWhole_4 (t : Fin cfg0.N) : (stg_4 t).IsWhole := hstage0_4 ((cfg0.slots t 4).cast nbuf0_4)
abbrev stg_5 (t : Fin cfg0.N) : Memref sig .tc .vmem S1024x2816 .bf16 := win0_5.stage (cfg0.slots t 5)
abbrev stgWhole_5 (t : Fin cfg0.N) : (stg_5 t).IsWhole := hstage0_5 ((cfg0.slots t 5).cast nbuf0_5)
abbrev stg_6 (t : Fin cfg0.N) : Memref sig .tc .vmem S11x256x1024 .bf16 := win0_6.stage (cfg0.slots t 6)
abbrev stgWhole_6 (t : Fin cfg0.N) : (stg_6 t).IsWhole := hstage0_6 ((cfg0.slots t 6).cast nbuf0_6)
abbrev stg_7 (t : Fin cfg0.N) : Memref sig .tc .vmem S1x8x256 .f32 := win0_7.stage (cfg0.slots t 7)
abbrev stgWhole_7 (t : Fin cfg0.N) : (stg_7 t).IsWhole := hstage0_7 ((cfg0.slots t 7).cast nbuf0_7)
abbrev stg_8 (t : Fin cfg0.N) : Memref sig .tc .vmem S1x8x256 .f32 := win0_8.stage (cfg0.slots t 8)
abbrev stgWhole_8 (t : Fin cfg0.N) : (stg_8 t).IsWhole := hstage0_8 ((cfg0.slots t 8).cast nbuf0_8)
abbrev stg_9 (t : Fin cfg0.N) : Memref sig .tc .vmem S1x8x256 .f32 := win0_9.stage (cfg0.slots t 9)
abbrev stgWhole_9 (t : Fin cfg0.N) : (stg_9 t).IsWhole := hstage0_9 ((cfg0.slots t 9).cast nbuf0_9)
abbrev stg_10 (t : Fin cfg0.N) : Memref sig .tc .vmem S32x2048 .f32 := win0_10.stage (cfg0.slots t 10)
abbrev stgWhole_10 (t : Fin cfg0.N) : (stg_10 t).IsWhole := hstage0_10 ((cfg0.slots t 10).cast nbuf0_10)
abbrev stg_11 (t : Fin cfg0.N) : Memref sig .tc .vmem S512x1024 .f32 := win0_11.stage (cfg0.slots t 11)
abbrev stgWhole_11 (t : Fin cfg0.N) : (stg_11 t).IsWhole := hstage0_11 ((cfg0.slots t 11).cast nbuf0_11)
abbrev stg_12 (t : Fin cfg0.N) : Memref sig .tc .vmem S1x8x256 .f32 := win0_12.stage (cfg0.slots t 12)
abbrev stgWhole_12 (t : Fin cfg0.N) : (stg_12 t).IsWhole := hstage0_12 ((cfg0.slots t 12).cast nbuf0_12)
abbrev stg_13 (t : Fin cfg0.N) : Memref sig .tc .vmem S1x256x2048 .f32 := win0_13.stage (cfg0.slots t 13)
abbrev stgWhole_13 (t : Fin cfg0.N) : (stg_13 t).IsWhole := hstage0_13 ((cfg0.slots t 13).cast nbuf0_13)
abbrev stg_14 (t : Fin cfg0.N) : Memref sig .tc .vmem S1x256x2048 .f32 := win0_14.stage (cfg0.slots t 14)
abbrev stgWhole_14 (t : Fin cfg0.N) : (stg_14 t).IsWhole := hstage0_14 ((cfg0.slots t 14).cast nbuf0_14)
abbrev hRef : Memref sig .tc .vmem S512x1024 .bf16 := Memref.whole cc0_scratch0
abbrev kRing : Memref sig .tc .vmem S3x256x2048 .f32 := Memref.whole cc0_scratch1
abbrev vRing : Memref sig .tc .vmem S3x256x2048 .f32 := Memref.whole cc0_scratch2
abbrev kSrc : Memref sig .tc .hbm S128x512x2048 .f32 := Memref.whole main_arg10
abbrev vSrc : Memref sig .tc .hbm S128x512x2048 .f32 := Memref.whole main_arg11
abbrev SrcBuf (c : Dev nD) {sp : Space} {S : Shape} {e : EltTy} (M : Memref sig .tc sp S e) : Type := Buf (Elt F) (M.view.loc (c : Thread nD τ))
abbrev srcPt (c : Dev nD) {sp : Space} {S : Shape} {e : EltTy} (M : Memref sig .tc sp S e) (f : SrcBuf (F := F) c M) : sProp (MT nD τ sig Unit (Elt F) ℕ (Pipeline.UD sig nD τ) ℕ) :=
  M.view.loc (c : Thread nD τ) ↦{fullShare} f

abbrev ringSem : Fin 6 → SemLoc sig := fun j => (![SemLoc.dma 24, SemLoc.dma 25, SemLoc.dma 26, SemLoc.dma 27, SemLoc.dma 28, SemLoc.dma 29] : Fin 6 → SemLoc sig) j
theorem ringSem_facts : Pipeline.OwnSemFacts spec0 ringSem := by decide
theorem ringSem_eq (c : Dev nD) :
    (Pipeline.ownSems0 (Ix := Unit) (Name := ℕ) (U := Pipeline.UD sig nD τ) (Lvl := ℕ) (Val := Elt F) (τ := τ) ringSem c : sProp (MT nD τ sig Unit (Elt F) ℕ (Pipeline.UD sig nD τ) ℕ))
      = iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0) := by
  rw [Pipeline.ownSems0_eq_of_list c ringSem [0, 1, 2, 3, 4, 5] (by decide) (by decide)]; rfl
def streamed : Finset (Ref sig .tc) := {main_arg10, main_arg11}
theorem streamed_sub : streamed ⊆ Pipeline.restRefs sig spec0 := by decide
theorem streamed_eq (c : Dev nD) :
    (bigSep streamed (fun b => ((c : Thread nD τ).loc b) ↦{fullShare} V m c b) : sProp (MT nD τ sig Unit (Elt F) ℕ (Pipeline.UD sig nD τ) ℕ)) = iprop(srcPt c kSrc (V m c main_arg10) ∗ srcPt c vSrc (V m c main_arg11)) := by
  rw [BI.bigSep_eq_bigSepL_of_eq [main_arg10, main_arg11] (by decide) (by decide)]; rfl

theorem carried_eq (c : Dev nD) :
    (Pipeline.ΦD ringSem spec0 streamed (V m) c : sProp (MT nD τ sig Unit (Elt F) ℕ (Pipeline.UD sig nD τ) ℕ))
      = iprop(iprop((∃ d, owns (c : Thread nD τ) hRef fullShare d) ∗ (∃ d, owns (c : Thread nD τ) kRing fullShare d) ∗ (∃ d, owns (c : Thread nD τ) vRing fullShare d)) ∗ (∃ r, prngReg c r) ∗ iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0) ∗ iprop(srcPt c kSrc (V m c main_arg10) ∗ srcPt c vSrc (V m c main_arg11))) := by
  rw [Pipeline.ΦD_eq, scopedRest0_eq, ringSem_eq, streamed_eq]; simp only [hRef, kRing, vRing, owns_whole]; try rfl

instance : NeZero grid0.N := ⟨by rw [N_0]; decide⟩
theorem inb_slotK (s : Fin 3) : ∀ a, (![s.val, 0, 0] : Fin 3 → Nat) a + S1x256x2048.size a ≤ S3x256x2048.size a := by
  have := s.isLt; intro a; fin_cases a <;> simp <;> omega
theorem inb_srcK (b : Fin 256) : ∀ a, (![(b.val / 2), 256 * (b.val % 2), 0] : Fin 3 → Nat) a + S1x256x2048.size a ≤ S128x512x2048.size a := by
  have := b.isLt; intro a; fin_cases a <;> simp <;> omega
theorem inb_cellK (s : Fin 3) : ∀ a, (![0, s.val] : Fin 2 → Nat) a + S1x1.size a ≤ S2x3.size a := by
  have := s.isLt; intro a; fin_cases a <;> simp <;> omega
def rslotK (s : Fin 3) : Memref sig .tc .vmem S256x2048 .f32 :=
  (kRing.slice (Rect.unit (s := S3x256x2048) ![s.val, 0, 0] S1x256x2048.size (inb_slotK s)) (fun _ => rfl)).squeeze S256x2048 squeezes_S1x256x2048_S256x2048
def srcBK (b : Fin 256) : Memref sig .tc .hbm S256x2048 .f32 :=
  (kSrc.slice (Rect.unit (s := S128x512x2048) ![(b.val / 2), 256 * (b.val % 2), 0] S1x256x2048.size (inb_srcK b)) (fun _ => rfl)).squeeze S256x2048 squeezes_S1x256x2048_S256x2048
def cellAK (s : Fin 3) : DmaSems sig S_ := (cc0_scratch3.slice (Rect.unit (s := S2x3) ![0, s.val] S1x1.size (inb_cellK s))).squeeze S_ squeezes_S1x1_S_
abbrev cellRK (s : Fin 3) : SemLoc sig := SemLoc.dma (cellAK s).sem
theorem cellRK_0 : cellRK 0 = SemLoc.dma 24 := by decide
theorem cellRK_1 : cellRK 1 = SemLoc.dma 25 := by decide
theorem cellRK_2 : cellRK 2 = SemLoc.dma 26 := by decide

section Ring0_0
variable (c : Dev nD) (W : SrcBuf (F := F) c kSrc)
abbrev qsK (s : Fin 3) : PosShare TreeShare := if s.val = 0 then fullShare.left else if s.val = 1 then fullShare.right.left else fullShare.right.right
abbrev slotPK (s : Fin 3) (f : SrcBuf (F := F) c (rslotK s)) : sProp (MT nD τ sig Unit (Elt F) ℕ (Pipeline.UD sig nD τ) ℕ) := (rslotK s).view.loc (c : Thread nD τ) ↦[(rslotK s).view.set]{fullShare} f
abbrev cellPK (s : Fin 3) : sProp (MT nD τ sig Unit (Elt F) ℕ (Pipeline.UD sig nD τ) ℕ) := semVal ((c : Thread nD τ), cellRK s) 0
abbrev srcPK (s : Fin 3) (b : Fin 256) : sProp (MT nD τ sig Unit (Elt F) ℕ (Pipeline.UD sig nD τ) ℕ) := (srcBK b).view.loc (c : Thread nD τ) ↦[(srcBK b).view.set]{qsK s} W
def restPK (s : Fin 3) (b : Fin 256) : sProp (MT nD τ sig Unit (Elt F) ℕ (Pipeline.UD sig nD τ) ℕ) := ((c : Thread nD τ).loc main_arg10) ↦[Finset.univ \ (srcBK b).view.set]{qsK s} W
abbrev wholePK (s : Fin 3) : sProp (MT nD τ sig Unit (Elt F) ℕ (Pipeline.UD sig nD τ) ℕ) := ((c : Thread nD τ).loc main_arg10) ↦[Finset.univ]{qsK s} W
abbrev landedK (s : Fin 3) (b : Fin 256) (f : SrcBuf (F := F) c (rslotK s)) : SrcBuf (F := F) c (rslotK s) :=
  (rslotK s).view.writes (Elt F) f [⟨Rect.whole S256x2048, ReadAs.same.apply ((srcBK b).view.read (Elt F) W)⟩]
abbrev flightPK (s : Fin 3) (b : Fin 256) (f : SrcBuf (F := F) c (rslotK s)) : sProp (MT nD τ sig Unit (Elt F) ℕ (Pipeline.UD sig nD τ) ℕ) :=
  Transfers.Flight countersEmb (c : Thread nD τ) (cellRK s) default ((rslotK s).view.amount (cellRK s))
    iprop(slotPK c s (landedK c W s b f) ∗ srcPK c W s b)
abbrev slotWK (s : Fin 3) (f : SrcBuf (F := F) c (rslotK s)) : sProp (MT nD τ sig Unit (Elt F) ℕ (Pipeline.UD sig nD τ) ℕ) := iprop(slotPK c s f ∗ wholePK c W s)
abbrev flightWK (s : Fin 3) (b : Fin 256) (f : SrcBuf (F := F) c (rslotK s)) : sProp (MT nD τ sig Unit (Elt F) ℕ (Pipeline.UD sig nD τ) ℕ) := iprop(flightPK c W s b f ∗ restPK c W s b)
abbrev noHomeK (b : Fin 256) : sProp (MT nD τ sig Unit (Elt F) ℕ (Pipeline.UD sig nD τ) ℕ) := iprop(emp)
def ringAtK (k : ℕ) : sProp (MT nD τ sig Unit (Elt F) ℕ (Pipeline.UD sig nD τ) ℕ) :=
  if k = 0 then Ring.At₀ (cellPK c) (slotWK c W) noHomeK
  else Ring.At 2 (cellPK c) (slotWK c W) noHomeK (flightWK c W) k
omit [FloatOps F] in
theorem cellPK_0 : cellPK (F := F) c 0 = semVal ((c : Thread nD τ), SemLoc.dma 24) 0 := congrArg (fun x => (semVal ((c : Thread nD τ), x) 0 : sProp (MT nD τ sig Unit (Elt F) ℕ (Pipeline.UD sig nD τ) ℕ))) cellRK_0
omit [FloatOps F] in
theorem cellPK_1 : cellPK (F := F) c 1 = semVal ((c : Thread nD τ), SemLoc.dma 25) 0 := congrArg (fun x => (semVal ((c : Thread nD τ), x) 0 : sProp (MT nD τ sig Unit (Elt F) ℕ (Pipeline.UD sig nD τ) ℕ))) cellRK_1
omit [FloatOps F] in
theorem cellPK_2 : cellPK (F := F) c 2 = semVal ((c : Thread nD τ), SemLoc.dma 26) 0 := congrArg (fun x => (semVal ((c : Thread nD τ), x) 0 : sProp (MT nD τ sig Unit (Elt F) ℕ (Pipeline.UD sig nD τ) ℕ))) cellRK_2
end Ring0_0

abbrev slotSetK (s : Fin 3) : Finset S3x256x2048.Idx := (Rect.unit (s := S3x256x2048) ![s.val, 0, 0] S1x256x2048.size (inb_slotK s)).set
theorem slotSetK_eq (s : Fin 3) : (rslotK s).view.set = slotSetK s := by
  simp only [rslotK, Memref.view_squeeze, View.set_reshape]; exact View.set_slice_whole _ _
theorem slotsK_disjoint (s s' : Fin 3) (h : s ≠ s') : Disjoint (slotSetK s) (slotSetK s') :=
  Ring.lead_disjoint (s := S3x256x2048) (0 : Fin 3) 1 (fun s : Fin 3 => (![s.val, 0, 0] : Fin 3 → Nat)) S1x256x2048.size inb_slotK (fun s => by simp) rfl s s' h
theorem slotsK_cover : Finset.univ.biUnion slotSetK = Finset.univ :=
  Ring.lead_cover (s := S3x256x2048) (0 : Fin 3) 1 (fun s : Fin 3 => (![s.val, 0, 0] : Fin 3 → Nat)) S1x256x2048.size inb_slotK (fun s => by simp)
    (fun s a ha => by fin_cases a <;> first | exact absurd rfl ha | rfl) rfl (fun a ha => by fin_cases a <;> first | exact absurd rfl ha | rfl) rfl

section InOut0_0
variable (c : Dev nD) (W : SrcBuf (F := F) c kSrc)
theorem slotPK_eq (s : Fin 3) (f) : slotPK (F := F) c s f = (((c : Thread nD τ).loc cc0_scratch1) ↦[slotSetK s]{fullShare} f : sProp (MT nD τ sig Unit (Elt F) ℕ (Pipeline.UD sig nD τ) ℕ)) := by
  unfold slotPK; rw [slotSetK_eq]; rfl
theorem srcK_split (s : Fin 3) (b : Fin 256) : wholePK (F := F) c W s ⊣⊢ iprop(srcPK c W s b ∗ restPK c W s b) := by
  unfold restPK; exact pointsTo_split_subset (Finset.subset_univ _)
theorem wholeK_split : (srcPt c kSrc W : sProp (MT nD τ sig Unit (Elt F) ℕ (Pipeline.UD sig nD τ) ℕ)) ⊣⊢ iprop(wholePK c W 0 ∗ wholePK c W 1 ∗ wholePK c W 2) := by
  refine ⟨?_, ?_⟩
  · iintro H
    ihave H' := (pointsTo_share (PosShare.mem_left_op_right fullShare)).1 $$ H
    icases H' with ⟨streamed, H12⟩
    ihave H'' := (pointsTo_share (PosShare.mem_left_op_right fullShare.right)).1 $$ H12
    icases H'' with ⟨H1, H2⟩
    isplitl [streamed]; · iexact streamed
    isplitl [H1]; · iexact H1
    iexact H2
  · iintro ⟨streamed, H1, H2⟩
    iapply (pointsTo_share (PosShare.mem_left_op_right fullShare)).2
    isplitl [streamed]; · iexact streamed
    iapply (pointsTo_share (PosShare.mem_left_op_right fullShare.right)).2
    isplitl [H1]; · iexact H1
    iexact H2
set_option maxHeartbeats 1000000 in
theorem slotsK_in : iprop(∃ d, owns (c : Thread nD τ) kRing fullShare d) ⊢ (iprop((∃ f, slotPK (F := F) c 0 f) ∗ (∃ f, slotPK (F := F) c 1 f) ∗ ∃ f, slotPK (F := F) c 2 f) : sProp (MT nD τ sig Unit (Elt F) ℕ (Pipeline.UD sig nD τ) ℕ)) := by
  simp only [kRing, owns_whole]
  exact Ring.slots3_split (U := Pipeline.UD sig nD τ) (ℓ := (c : Thread nD τ).loc cc0_scratch1) (q := fullShare) slotSetK slotsK_disjoint slotsK_cover
    (slotPK c 0) (slotPK c 1) (slotPK c 2) (slotPK_eq c 0) (slotPK_eq c 1) (slotPK_eq c 2)
set_option maxHeartbeats 1000000 in
theorem slotsK_out : (iprop((∃ f, slotPK (F := F) c 0 f) ∗ (∃ f, slotPK (F := F) c 1 f) ∗ ∃ f, slotPK (F := F) c 2 f) : sProp (MT nD τ sig Unit (Elt F) ℕ (Pipeline.UD sig nD τ) ℕ)) ⊢ iprop(∃ d, owns (c : Thread nD τ) kRing fullShare d) := by
  simp only [kRing, owns_whole]
  exact Ring.slots3_join (U := Pipeline.UD sig nD τ) (ℓ := (c : Thread nD τ).loc cc0_scratch1) (q := fullShare) slotSetK slotsK_disjoint slotsK_cover
    (slotPK c 0) (slotPK c 1) (slotPK c 2) (slotPK_eq c 0) (slotPK_eq c 1) (slotPK_eq c 2)
end InOut0_0

theorem ringK_in (c : Dev nD) :
    iprop((∃ d, owns (c : Thread nD τ) kRing fullShare d) ∗ (semVal ((c : Thread nD τ), SemLoc.dma 24) 0 ∗ semVal ((c : Thread nD τ), SemLoc.dma 25) 0 ∗ semVal ((c : Thread nD τ), SemLoc.dma 26) 0) ∗ srcPt c kSrc (V m c main_arg10))
      ⊢ ringAtK c (V m c main_arg10) 0 := by
  unfold ringAtK; rw [if_pos rfl]; unfold Ring.At₀
  rw [Ring.bigSep_fin3]
  simp only [Ring.free, cellPK_0, cellPK_1, cellPK_2]
  iintro ⟨HS, Hc, HW⟩
  iapply Ring.with_homes₀
  icases Hc with ⟨streamed, H1, H2⟩
  ihave HS' := (slotsK_in (F := F) c) $$ HS
  icases HS' with ⟨⟨%d0, HS0⟩, ⟨%d1, HS1⟩, ⟨%d2, HS2⟩⟩
  ihave HW' := (wholeK_split (F := F) c (V m c main_arg10)).1 $$ HW
  icases HW' with ⟨HW0, HW1, HW2⟩
  isplitl [streamed HS0 HW0]
  · isplitl [streamed]; · iexact streamed
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ringK_out (c : Dev nD) :
    ringAtK c (V m c main_arg10) 256
      ⊢ iprop((∃ d, owns (c : Thread nD τ) kRing fullShare d) ∗ (semVal ((c : Thread nD τ), SemLoc.dma 24) 0 ∗ semVal ((c : Thread nD τ), SemLoc.dma 25) 0 ∗ semVal ((c : Thread nD τ), SemLoc.dma 26) 0) ∗ srcPt c kSrc (V m c main_arg10)) := by
  unfold ringAtK; rw [if_neg (by decide)]
  iintro H
  ihave H' := (Ring.free3_of_At_last _ _ _ _) $$ H
  simp only [Ring.free, cellPK_0, cellPK_1, cellPK_2]
  icases H' with ⟨-, ⟨streamed, ⟨%f0, HS0, HW0⟩⟩, ⟨H1, ⟨%f1, HS1, HW1⟩⟩, ⟨H2, ⟨%f2, HS2, HW2⟩⟩⟩
  isplitl [HS0 HS1 HS2]
  · iapply (slotsK_out (F := F) c); isplitl [HS0]; · iexists f0; iexact HS0
    isplitl [HS1]; · iexists f1; iexact HS1
    iexists f2; iexact HS2
  isplitl [streamed H1 H2]
  · isplitl [streamed]; · iexact streamed
    isplitl [H1]; · iexact H1
    iexact H2
  · iapply (wholeK_split (F := F) c (V m c main_arg10)).2; isplitl [HW0]; · iexact HW0
    isplitl [HW1]; · iexact HW1
    iexact HW2

section Canon0_0
omit [FloatOps F]
theorem rstepK_A : ∀ t : Fin grid0.N, firstPt (grid0.coords t) → streamPt (grid0.coords t) → openPt (grid0.coords t) → ¬morePt (grid0.coords t) → t.val = 0 ∧ (t.val + 1) = 1 := by decide +kernel
theorem rstepK_B : ∀ t : Fin grid0.N, ¬firstPt (grid0.coords t) → streamPt (grid0.coords t) → ¬openPt (grid0.coords t) → ¬morePt (grid0.coords t) → 1 ≤ t.val ∧ t.val + 2 < 256 ∧ (t.val + 1) = t.val + 1 := by decide +kernel
theorem rstepK_C : ∀ t : Fin grid0.N, ¬firstPt (grid0.coords t) → streamPt (grid0.coords t) → ¬openPt (grid0.coords t) → morePt (grid0.coords t) → 1 ≤ t.val ∧ t.val + 2 < 256 ∧ (t.val + 1) = t.val + 1 := by decide +kernel
theorem rstepK_D : ∀ t : Fin grid0.N, ¬firstPt (grid0.coords t) → streamPt (grid0.coords t) → openPt (grid0.coords t) → ¬morePt (grid0.coords t) → 1 ≤ t.val ∧ t.val + 2 < 256 ∧ (t.val + 1) = t.val + 1 := by decide +kernel
theorem rstepK_E : ∀ t : Fin grid0.N, ¬firstPt (grid0.coords t) → ¬streamPt (grid0.coords t) → ¬openPt (grid0.coords t) → morePt (grid0.coords t) → 1 ≤ t.val ∧ 256 ≤ t.val + 2 ∧ t.val < 256 ∧ (t.val + 1) = t.val + 1 := by decide +kernel
set_option synthInstance.maxSize 4096 in
theorem coffK_1 : ∀ t : Fin grid0.N, firstPt (grid0.coords t) → streamPt (grid0.coords t) → openPt (grid0.coords t) → ¬morePt (grid0.coords t) → (![0, 0, 0] : Fin 3 → Nat) = ![(Ring.sl 3 t.val).val, 0, 0] := by decide +kernel
@[sl_canon] theorem canonK_1 (t : Fin grid0.N) (h0 : firstPt (grid0.coords t)) (h1 : streamPt (grid0.coords t)) (h2 : openPt (grid0.coords t)) (h3 : ¬morePt (grid0.coords t)) :
    (kRing.slice (Rect.unit (s := S3x256x2048) ![0, 0, 0] S1x256x2048.size inb_S3x256x2048_S1x256x2048_0_0_0) (fun _ => rfl)).squeeze S256x2048 squeezes_S1x256x2048_S256x2048 = rslotK (Ring.sl 3 t.val) :=
  congrArg (fun M : Memref sig .tc .vmem S1x256x2048 .f32 => M.squeeze S256x2048 squeezes_S1x256x2048_S256x2048) (Memref.slice_unit_congr _ (coffK_1 t h0 h1 h2 h3) _ _ (fun _ => rfl) (fun _ => rfl))
set_option synthInstance.maxSize 4096 in
theorem coffK_2 : ∀ t : Fin grid0.N, firstPt (grid0.coords t) → streamPt (grid0.coords t) → openPt (grid0.coords t) → ¬morePt (grid0.coords t) → (![0, 0] : Fin 2 → Nat) = ![0, (Ring.sl 3 t.val).val] := by decide +kernel
@[sl_canon] theorem canonK_2 (t : Fin grid0.N) (h0 : firstPt (grid0.coords t)) (h1 : streamPt (grid0.coords t)) (h2 : openPt (grid0.coords t)) (h3 : ¬morePt (grid0.coords t)) :
    (cc0_scratch3.slice (Rect.unit (s := S2x3) ![0, 0] S1x1.size inb_S2x3_S1x1_0_0)).squeeze S_ squeezes_S1x1_S_ = cellAK (Ring.sl 3 t.val) :=
  congrArg (fun A : DmaSems sig S1x1 => A.squeeze S_ squeezes_S1x1_S_) (SemArray.slice_unit_congr _ (coffK_2 t h0 h1 h2 h3) _ _)
set_option synthInstance.maxSize 4096 in
theorem coffK_3 : ∀ t : Fin grid0.N, firstPt (grid0.coords t) → streamPt (grid0.coords t) → openPt (grid0.coords t) → ¬morePt (grid0.coords t) → (![0, 0, 0] : Fin 3 → Nat) = ![((Ring.bk 256 t.val).val / 2), 256 * ((Ring.bk 256 t.val).val % 2), 0] := by decide +kernel
@[sl_canon] theorem canonK_3 (t : Fin grid0.N) (h0 : firstPt (grid0.coords t)) (h1 : streamPt (grid0.coords t)) (h2 : openPt (grid0.coords t)) (h3 : ¬morePt (grid0.coords t)) :
    (kSrc.slice (Rect.unit (s := S128x512x2048) ![0, 0, 0] S1x256x2048.size inb_S128x512x2048_S1x256x2048_0_0_0) (fun _ => rfl)).squeeze S256x2048 squeezes_S1x256x2048_S256x2048 = srcBK (Ring.bk 256 t.val) :=
  congrArg (fun M : Memref sig .tc .hbm S1x256x2048 .f32 => M.squeeze S256x2048 squeezes_S1x256x2048_S256x2048) (Memref.slice_unit_congr _ (coffK_3 t h0 h1 h2 h3) _ _ (fun _ => rfl) (fun _ => rfl))
set_option synthInstance.maxSize 4096 in
theorem coffK_4 : ∀ t : Fin grid0.N, firstPt (grid0.coords t) → streamPt (grid0.coords t) → openPt (grid0.coords t) → ¬morePt (grid0.coords t) → (![1, 0, 0] : Fin 3 → Nat) = ![(Ring.sl 3 (t.val + 1)).val, 0, 0] := by decide +kernel
@[sl_canon] theorem canonK_4 (t : Fin grid0.N) (h0 : firstPt (grid0.coords t)) (h1 : streamPt (grid0.coords t)) (h2 : openPt (grid0.coords t)) (h3 : ¬morePt (grid0.coords t)) :
    (kRing.slice (Rect.unit (s := S3x256x2048) ![1, 0, 0] S1x256x2048.size inb_S3x256x2048_S1x256x2048_1_0_0) (fun _ => rfl)).squeeze S256x2048 squeezes_S1x256x2048_S256x2048 = rslotK (Ring.sl 3 (t.val + 1)) :=
  congrArg (fun M : Memref sig .tc .vmem S1x256x2048 .f32 => M.squeeze S256x2048 squeezes_S1x256x2048_S256x2048) (Memref.slice_unit_congr _ (coffK_4 t h0 h1 h2 h3) _ _ (fun _ => rfl) (fun _ => rfl))
set_option synthInstance.maxSize 4096 in
theorem coffK_5 : ∀ t : Fin grid0.N, firstPt (grid0.coords t) → streamPt (grid0.coords t) → openPt (grid0.coords t) → ¬morePt (grid0.coords t) → (![0, 1] : Fin 2 → Nat) = ![0, (Ring.sl 3 (t.val + 1)).val] := by decide +kernel
@[sl_canon] theorem canonK_5 (t : Fin grid0.N) (h0 : firstPt (grid0.coords t)) (h1 : streamPt (grid0.coords t)) (h2 : openPt (grid0.coords t)) (h3 : ¬morePt (grid0.coords t)) :
    (cc0_scratch3.slice (Rect.unit (s := S2x3) ![0, 1] S1x1.size inb_S2x3_S1x1_0_1)).squeeze S_ squeezes_S1x1_S_ = cellAK (Ring.sl 3 (t.val + 1)) :=
  congrArg (fun A : DmaSems sig S1x1 => A.squeeze S_ squeezes_S1x1_S_) (SemArray.slice_unit_congr _ (coffK_5 t h0 h1 h2 h3) _ _)
set_option synthInstance.maxSize 4096 in
theorem coffK_6 : ∀ t : Fin grid0.N, firstPt (grid0.coords t) → streamPt (grid0.coords t) → openPt (grid0.coords t) → ¬morePt (grid0.coords t) → (![0, 256, 0] : Fin 3 → Nat) = ![((Ring.bk 256 (t.val + 1)).val / 2), 256 * ((Ring.bk 256 (t.val + 1)).val % 2), 0] := by decide +kernel
@[sl_canon] theorem canonK_6 (t : Fin grid0.N) (h0 : firstPt (grid0.coords t)) (h1 : streamPt (grid0.coords t)) (h2 : openPt (grid0.coords t)) (h3 : ¬morePt (grid0.coords t)) :
    (kSrc.slice (Rect.unit (s := S128x512x2048) ![0, 256, 0] S1x256x2048.size inb_S128x512x2048_S1x256x2048_0_256_0) (fun _ => rfl)).squeeze S256x2048 squeezes_S1x256x2048_S256x2048 = srcBK (Ring.bk 256 (t.val + 1)) :=
  congrArg (fun M : Memref sig .tc .hbm S1x256x2048 .f32 => M.squeeze S256x2048 squeezes_S1x256x2048_S256x2048) (Memref.slice_unit_congr _ (coffK_6 t h0 h1 h2 h3) _ _ (fun _ => rfl) (fun _ => rfl))
set_option synthInstance.maxSize 4096 in
theorem coffK_7 : ∀ t : Fin grid0.N, k0_off2 (grid0.coords t) = ![(Ring.sl 3 (t.val + 2)).val, 0, 0] := by decide +kernel
@[sl_canon] theorem canonK_7 (t : Fin grid0.N) (h1 : streamPt (grid0.coords t)) :
    (kRing.slice (Rect.unit (s := S3x256x2048) (k0_off2 (grid0.coords t)) S1x256x2048.size (k0_off2_inb (grid0.coords t) h1)) (fun _ => rfl)).squeeze S256x2048 squeezes_S1x256x2048_S256x2048 = rslotK (Ring.sl 3 (t.val + 2)) :=
  congrArg (fun M : Memref sig .tc .vmem S1x256x2048 .f32 => M.squeeze S256x2048 squeezes_S1x256x2048_S256x2048) (Memref.slice_unit_congr _ (coffK_7 t ) _ _ (fun _ => rfl) (fun _ => rfl))
set_option synthInstance.maxSize 4096 in
theorem coffK_8 : ∀ t : Fin grid0.N, k0_off1 (grid0.coords t) = ![0, (Ring.sl 3 (t.val + 2)).val] := by decide +kernel
@[sl_canon] theorem canonK_8 (t : Fin grid0.N) (h1 : streamPt (grid0.coords t)) :
    (cc0_scratch3.slice (Rect.unit (s := S2x3) (k0_off1 (grid0.coords t)) S1x1.size (k0_off1_inb (grid0.coords t) h1))).squeeze S_ squeezes_S1x1_S_ = cellAK (Ring.sl 3 (t.val + 2)) :=
  congrArg (fun A : DmaSems sig S1x1 => A.squeeze S_ squeezes_S1x1_S_) (SemArray.slice_unit_congr _ (coffK_8 t ) _ _)
set_option synthInstance.maxSize 4096 in
theorem coffK_9 : ∀ t : Fin grid0.N, firstPt (grid0.coords t) → streamPt (grid0.coords t) → openPt (grid0.coords t) → ¬morePt (grid0.coords t) → k0_off3 (grid0.coords t) = ![((Ring.bk 256 (t.val + 2)).val / 2), 256 * ((Ring.bk 256 (t.val + 2)).val % 2), 0] := by decide +kernel
@[sl_canon] theorem canonK_9 (t : Fin grid0.N) (h0 : firstPt (grid0.coords t)) (h1 : streamPt (grid0.coords t)) (h2 : openPt (grid0.coords t)) (h3 : ¬morePt (grid0.coords t)) :
    (kSrc.slice (Rect.unit (s := S128x512x2048) (k0_off3 (grid0.coords t)) S1x256x2048.size (k0_off3_inb (grid0.coords t) h1)) (fun _ => rfl)).squeeze S256x2048 squeezes_S1x256x2048_S256x2048 = srcBK (Ring.bk 256 (t.val + 2)) :=
  congrArg (fun M : Memref sig .tc .hbm S1x256x2048 .f32 => M.squeeze S256x2048 squeezes_S1x256x2048_S256x2048) (Memref.slice_unit_congr _ (coffK_9 t h0 h1 h2 h3) _ _ (fun _ => rfl) (fun _ => rfl))
set_option synthInstance.maxSize 4096 in
theorem coffK_10 : ∀ t : Fin grid0.N, k0_off6 (grid0.coords t) = ![(Ring.sl 3 t.val).val, 0, 0] := by decide +kernel
@[sl_canon] theorem canonK_10 (t : Fin grid0.N) :
    (kRing.slice (Rect.unit (s := S3x256x2048) (k0_off6 (grid0.coords t)) S1x256x2048.size (k0_off6_inb (grid0.coords t))) (fun _ => rfl)).squeeze S256x2048 squeezes_S1x256x2048_S256x2048 = rslotK (Ring.sl 3 t.val) :=
  congrArg (fun M : Memref sig .tc .vmem S1x256x2048 .f32 => M.squeeze S256x2048 squeezes_S1x256x2048_S256x2048) (Memref.slice_unit_congr _ (coffK_10 t ) _ _ (fun _ => rfl) (fun _ => rfl))
set_option synthInstance.maxSize 4096 in
theorem coffK_11 : ∀ t : Fin grid0.N, k0_off5 (grid0.coords t) = ![0, (Ring.sl 3 t.val).val] := by decide +kernel
@[sl_canon] theorem canonK_11 (t : Fin grid0.N) :
    (cc0_scratch3.slice (Rect.unit (s := S2x3) (k0_off5 (grid0.coords t)) S1x1.size (k0_off5_inb (grid0.coords t)))).squeeze S_ squeezes_S1x1_S_ = cellAK (Ring.sl 3 t.val) :=
  congrArg (fun A : DmaSems sig S1x1 => A.squeeze S_ squeezes_S1x1_S_) (SemArray.slice_unit_congr _ (coffK_11 t ) _ _)
set_option synthInstance.maxSize 4096 in
theorem coffK_12 : ∀ t : Fin grid0.N, ¬firstPt (grid0.coords t) → streamPt (grid0.coords t) → ¬openPt (grid0.coords t) → ¬morePt (grid0.coords t) → k0_off3 (grid0.coords t) = ![((Ring.bk 256 (t.val + 2)).val / 2), 256 * ((Ring.bk 256 (t.val + 2)).val % 2), 0] := by decide +kernel
@[sl_canon] theorem canonK_12 (t : Fin grid0.N) (h0 : ¬firstPt (grid0.coords t)) (h1 : streamPt (grid0.coords t)) (h2 : ¬openPt (grid0.coords t)) (h3 : ¬morePt (grid0.coords t)) :
    (kSrc.slice (Rect.unit (s := S128x512x2048) (k0_off3 (grid0.coords t)) S1x256x2048.size (k0_off3_inb (grid0.coords t) h1)) (fun _ => rfl)).squeeze S256x2048 squeezes_S1x256x2048_S256x2048 = srcBK (Ring.bk 256 (t.val + 2)) :=
  congrArg (fun M : Memref sig .tc .hbm S1x256x2048 .f32 => M.squeeze S256x2048 squeezes_S1x256x2048_S256x2048) (Memref.slice_unit_congr _ (coffK_12 t h0 h1 h2 h3) _ _ (fun _ => rfl) (fun _ => rfl))
set_option synthInstance.maxSize 4096 in
theorem coffK_13 : ∀ t : Fin grid0.N, ¬firstPt (grid0.coords t) → streamPt (grid0.coords t) → ¬openPt (grid0.coords t) → morePt (grid0.coords t) → k0_off3 (grid0.coords t) = ![((Ring.bk 256 (t.val + 2)).val / 2), 256 * ((Ring.bk 256 (t.val + 2)).val % 2), 0] := by decide +kernel
@[sl_canon] theorem canonK_13 (t : Fin grid0.N) (h0 : ¬firstPt (grid0.coords t)) (h1 : streamPt (grid0.coords t)) (h2 : ¬openPt (grid0.coords t)) (h3 : morePt (grid0.coords t)) :
    (kSrc.slice (Rect.unit (s := S128x512x2048) (k0_off3 (grid0.coords t)) S1x256x2048.size (k0_off3_inb (grid0.coords t) h1)) (fun _ => rfl)).squeeze S256x2048 squeezes_S1x256x2048_S256x2048 = srcBK (Ring.bk 256 (t.val + 2)) :=
  congrArg (fun M : Memref sig .tc .hbm S1x256x2048 .f32 => M.squeeze S256x2048 squeezes_S1x256x2048_S256x2048) (Memref.slice_unit_congr _ (coffK_13 t h0 h1 h2 h3) _ _ (fun _ => rfl) (fun _ => rfl))
set_option synthInstance.maxSize 4096 in
theorem coffK_14 : ∀ t : Fin grid0.N, ¬firstPt (grid0.coords t) → streamPt (grid0.coords t) → openPt (grid0.coords t) → ¬morePt (grid0.coords t) → k0_off3 (grid0.coords t) = ![((Ring.bk 256 (t.val + 2)).val / 2), 256 * ((Ring.bk 256 (t.val + 2)).val % 2), 0] := by decide +kernel
@[sl_canon] theorem canonK_14 (t : Fin grid0.N) (h0 : ¬firstPt (grid0.coords t)) (h1 : streamPt (grid0.coords t)) (h2 : openPt (grid0.coords t)) (h3 : ¬morePt (grid0.coords t)) :
    (kSrc.slice (Rect.unit (s := S128x512x2048) (k0_off3 (grid0.coords t)) S1x256x2048.size (k0_off3_inb (grid0.coords t) h1)) (fun _ => rfl)).squeeze S256x2048 squeezes_S1x256x2048_S256x2048 = srcBK (Ring.bk 256 (t.val + 2)) :=
  congrArg (fun M : Memref sig .tc .hbm S1x256x2048 .f32 => M.squeeze S256x2048 squeezes_S1x256x2048_S256x2048) (Memref.slice_unit_congr _ (coffK_14 t h0 h1 h2 h3) _ _ (fun _ => rfl) (fun _ => rfl))
set_option synthInstance.maxSize 4096 in
theorem coffK_15 : ∀ t : Fin grid0.N, k0_off9 (grid0.coords t) = ![(Ring.sl 3 t.val).val, 0, 0] := by decide +kernel
instance (priority := high) closedOffK_15 (t : Fin grid0.N) : ClosedOff (k0_off9 (grid0.coords t)) := ⟨![(Ring.sl 3 t.val).val, 0, 0], coffK_15 t⟩
end Canon0_0

theorem inb_slotV (s : Fin 3) : ∀ a, (![s.val, 0, 0] : Fin 3 → Nat) a + S1x256x2048.size a ≤ S3x256x2048.size a := by
  have := s.isLt; intro a; fin_cases a <;> simp <;> omega
theorem inb_srcV (b : Fin 256) : ∀ a, (![(b.val / 2), 256 * (b.val % 2), 0] : Fin 3 → Nat) a + S1x256x2048.size a ≤ S128x512x2048.size a := by
  have := b.isLt; intro a; fin_cases a <;> simp <;> omega
theorem inb_cellV (s : Fin 3) : ∀ a, (![1, s.val] : Fin 2 → Nat) a + S1x1.size a ≤ S2x3.size a := by
  have := s.isLt; intro a; fin_cases a <;> simp <;> omega
def rslotV (s : Fin 3) : Memref sig .tc .vmem S256x2048 .f32 :=
  (vRing.slice (Rect.unit (s := S3x256x2048) ![s.val, 0, 0] S1x256x2048.size (inb_slotV s)) (fun _ => rfl)).squeeze S256x2048 squeezes_S1x256x2048_S256x2048
def srcBV (b : Fin 256) : Memref sig .tc .hbm S256x2048 .f32 :=
  (vSrc.slice (Rect.unit (s := S128x512x2048) ![(b.val / 2), 256 * (b.val % 2), 0] S1x256x2048.size (inb_srcV b)) (fun _ => rfl)).squeeze S256x2048 squeezes_S1x256x2048_S256x2048
def cellAV (s : Fin 3) : DmaSems sig S_ := (cc0_scratch3.slice (Rect.unit (s := S2x3) ![1, s.val] S1x1.size (inb_cellV s))).squeeze S_ squeezes_S1x1_S_
abbrev cellRV (s : Fin 3) : SemLoc sig := SemLoc.dma (cellAV s).sem
theorem cellRV_0 : cellRV 0 = SemLoc.dma 27 := by decide
theorem cellRV_1 : cellRV 1 = SemLoc.dma 28 := by decide
theorem cellRV_2 : cellRV 2 = SemLoc.dma 29 := by decide

section Ring0_1
variable (c : Dev nD) (W : SrcBuf (F := F) c vSrc)
abbrev qsV (s : Fin 3) : PosShare TreeShare := if s.val = 0 then fullShare.left else if s.val = 1 then fullShare.right.left else fullShare.right.right
abbrev slotPV (s : Fin 3) (f : SrcBuf (F := F) c (rslotV s)) : sProp (MT nD τ sig Unit (Elt F) ℕ (Pipeline.UD sig nD τ) ℕ) := (rslotV s).view.loc (c : Thread nD τ) ↦[(rslotV s).view.set]{fullShare} f
abbrev cellPV (s : Fin 3) : sProp (MT nD τ sig Unit (Elt F) ℕ (Pipeline.UD sig nD τ) ℕ) := semVal ((c : Thread nD τ), cellRV s) 0
abbrev srcPV (s : Fin 3) (b : Fin 256) : sProp (MT nD τ sig Unit (Elt F) ℕ (Pipeline.UD sig nD τ) ℕ) := (srcBV b).view.loc (c : Thread nD τ) ↦[(srcBV b).view.set]{qsV s} W
def restPV (s : Fin 3) (b : Fin 256) : sProp (MT nD τ sig Unit (Elt F) ℕ (Pipeline.UD sig nD τ) ℕ) := ((c : Thread nD τ).loc main_arg11) ↦[Finset.univ \ (srcBV b).view.set]{qsV s} W
abbrev wholePV (s : Fin 3) : sProp (MT nD τ sig Unit (Elt F) ℕ (Pipeline.UD sig nD τ) ℕ) := ((c : Thread nD τ).loc main_arg11) ↦[Finset.univ]{qsV s} W
abbrev landedV (s : Fin 3) (b : Fin 256) (f : SrcBuf (F := F) c (rslotV s)) : SrcBuf (F := F) c (rslotV s) :=
  (rslotV s).view.writes (Elt F) f [⟨Rect.whole S256x2048, ReadAs.same.apply ((srcBV b).view.read (Elt F) W)⟩]
abbrev flightPV (s : Fin 3) (b : Fin 256) (f : SrcBuf (F := F) c (rslotV s)) : sProp (MT nD τ sig Unit (Elt F) ℕ (Pipeline.UD sig nD τ) ℕ) :=
  Transfers.Flight countersEmb (c : Thread nD τ) (cellRV s) default ((rslotV s).view.amount (cellRV s))
    iprop(slotPV c s (landedV c W s b f) ∗ srcPV c W s b)
abbrev slotWV (s : Fin 3) (f : SrcBuf (F := F) c (rslotV s)) : sProp (MT nD τ sig Unit (Elt F) ℕ (Pipeline.UD sig nD τ) ℕ) := iprop(slotPV c s f ∗ wholePV c W s)
abbrev flightWV (s : Fin 3) (b : Fin 256) (f : SrcBuf (F := F) c (rslotV s)) : sProp (MT nD τ sig Unit (Elt F) ℕ (Pipeline.UD sig nD τ) ℕ) := iprop(flightPV c W s b f ∗ restPV c W s b)
abbrev noHomeV (b : Fin 256) : sProp (MT nD τ sig Unit (Elt F) ℕ (Pipeline.UD sig nD τ) ℕ) := iprop(emp)
def ringAtV (k : ℕ) : sProp (MT nD τ sig Unit (Elt F) ℕ (Pipeline.UD sig nD τ) ℕ) :=
  if k = 0 then Ring.At₀ (cellPV c) (slotWV c W) noHomeV
  else Ring.At 2 (cellPV c) (slotWV c W) noHomeV (flightWV c W) k
omit [FloatOps F] in
theorem cellPV_0 : cellPV (F := F) c 0 = semVal ((c : Thread nD τ), SemLoc.dma 27) 0 := congrArg (fun x => (semVal ((c : Thread nD τ), x) 0 : sProp (MT nD τ sig Unit (Elt F) ℕ (Pipeline.UD sig nD τ) ℕ))) cellRV_0
omit [FloatOps F] in
theorem cellPV_1 : cellPV (F := F) c 1 = semVal ((c : Thread nD τ), SemLoc.dma 28) 0 := congrArg (fun x => (semVal ((c : Thread nD τ), x) 0 : sProp (MT nD τ sig Unit (Elt F) ℕ (Pipeline.UD sig nD τ) ℕ))) cellRV_1
omit [FloatOps F] in
theorem cellPV_2 : cellPV (F := F) c 2 = semVal ((c : Thread nD τ), SemLoc.dma 29) 0 := congrArg (fun x => (semVal ((c : Thread nD τ), x) 0 : sProp (MT nD τ sig Unit (Elt F) ℕ (Pipeline.UD sig nD τ) ℕ))) cellRV_2
end Ring0_1

abbrev slotSetV (s : Fin 3) : Finset S3x256x2048.Idx := (Rect.unit (s := S3x256x2048) ![s.val, 0, 0] S1x256x2048.size (inb_slotV s)).set
theorem slotSetV_eq (s : Fin 3) : (rslotV s).view.set = slotSetV s := by
  simp only [rslotV, Memref.view_squeeze, View.set_reshape]; exact View.set_slice_whole _ _
theorem slotsV_disjoint (s s' : Fin 3) (h : s ≠ s') : Disjoint (slotSetV s) (slotSetV s') :=
  Ring.lead_disjoint (s := S3x256x2048) (0 : Fin 3) 1 (fun s : Fin 3 => (![s.val, 0, 0] : Fin 3 → Nat)) S1x256x2048.size inb_slotV (fun s => by simp) rfl s s' h
theorem slotsV_cover : Finset.univ.biUnion slotSetV = Finset.univ :=
  Ring.lead_cover (s := S3x256x2048) (0 : Fin 3) 1 (fun s : Fin 3 => (![s.val, 0, 0] : Fin 3 → Nat)) S1x256x2048.size inb_slotV (fun s => by simp)
    (fun s a ha => by fin_cases a <;> first | exact absurd rfl ha | rfl) rfl (fun a ha => by fin_cases a <;> first | exact absurd rfl ha | rfl) rfl

section InOut0_1
variable (c : Dev nD) (W : SrcBuf (F := F) c vSrc)
theorem slotPV_eq (s : Fin 3) (f) : slotPV (F := F) c s f = (((c : Thread nD τ).loc cc0_scratch2) ↦[slotSetV s]{fullShare} f : sProp (MT nD τ sig Unit (Elt F) ℕ (Pipeline.UD sig nD τ) ℕ)) := by
  unfold slotPV; rw [slotSetV_eq]; rfl
theorem srcV_split (s : Fin 3) (b : Fin 256) : wholePV (F := F) c W s ⊣⊢ iprop(srcPV c W s b ∗ restPV c W s b) := by
  unfold restPV; exact pointsTo_split_subset (Finset.subset_univ _)
theorem wholeV_split : (srcPt c vSrc W : sProp (MT nD τ sig Unit (Elt F) ℕ (Pipeline.UD sig nD τ) ℕ)) ⊣⊢ iprop(wholePV c W 0 ∗ wholePV c W 1 ∗ wholePV c W 2) := by
  refine ⟨?_, ?_⟩
  · iintro H
    ihave H' := (pointsTo_share (PosShare.mem_left_op_right fullShare)).1 $$ H
    icases H' with ⟨streamed, H12⟩
    ihave H'' := (pointsTo_share (PosShare.mem_left_op_right fullShare.right)).1 $$ H12
    icases H'' with ⟨H1, H2⟩
    isplitl [streamed]; · iexact streamed
    isplitl [H1]; · iexact H1
    iexact H2
  · iintro ⟨streamed, H1, H2⟩
    iapply (pointsTo_share (PosShare.mem_left_op_right fullShare)).2
    isplitl [streamed]; · iexact streamed
    iapply (pointsTo_share (PosShare.mem_left_op_right fullShare.right)).2
    isplitl [H1]; · iexact H1
    iexact H2
set_option maxHeartbeats 1000000 in
theorem slotsV_in : iprop(∃ d, owns (c : Thread nD τ) vRing fullShare d) ⊢ (iprop((∃ f, slotPV (F := F) c 0 f) ∗ (∃ f, slotPV (F := F) c 1 f) ∗ ∃ f, slotPV (F := F) c 2 f) : sProp (MT nD τ sig Unit (Elt F) ℕ (Pipeline.UD sig nD τ) ℕ)) := by
  simp only [vRing, owns_whole]
  exact Ring.slots3_split (U := Pipeline.UD sig nD τ) (ℓ := (c : Thread nD τ).loc cc0_scratch2) (q := fullShare) slotSetV slotsV_disjoint slotsV_cover
    (slotPV c 0) (slotPV c 1) (slotPV c 2) (slotPV_eq c 0) (slotPV_eq c 1) (slotPV_eq c 2)
set_option maxHeartbeats 1000000 in
theorem slotsV_out : (iprop((∃ f, slotPV (F := F) c 0 f) ∗ (∃ f, slotPV (F := F) c 1 f) ∗ ∃ f, slotPV (F := F) c 2 f) : sProp (MT nD τ sig Unit (Elt F) ℕ (Pipeline.UD sig nD τ) ℕ)) ⊢ iprop(∃ d, owns (c : Thread nD τ) vRing fullShare d) := by
  simp only [vRing, owns_whole]
  exact Ring.slots3_join (U := Pipeline.UD sig nD τ) (ℓ := (c : Thread nD τ).loc cc0_scratch2) (q := fullShare) slotSetV slotsV_disjoint slotsV_cover
    (slotPV c 0) (slotPV c 1) (slotPV c 2) (slotPV_eq c 0) (slotPV_eq c 1) (slotPV_eq c 2)
end InOut0_1

theorem ringV_in (c : Dev nD) :
    iprop((∃ d, owns (c : Thread nD τ) vRing fullShare d) ∗ (semVal ((c : Thread nD τ), SemLoc.dma 27) 0 ∗ semVal ((c : Thread nD τ), SemLoc.dma 28) 0 ∗ semVal ((c : Thread nD τ), SemLoc.dma 29) 0) ∗ srcPt c vSrc (V m c main_arg11))
      ⊢ ringAtV c (V m c main_arg11) 0 := by
  unfold ringAtV; rw [if_pos rfl]; unfold Ring.At₀
  rw [Ring.bigSep_fin3]
  simp only [Ring.free, cellPV_0, cellPV_1, cellPV_2]
  iintro ⟨HS, Hc, HW⟩
  iapply Ring.with_homes₀
  icases Hc with ⟨streamed, H1, H2⟩
  ihave HS' := (slotsV_in (F := F) c) $$ HS
  icases HS' with ⟨⟨%d0, HS0⟩, ⟨%d1, HS1⟩, ⟨%d2, HS2⟩⟩
  ihave HW' := (wholeV_split (F := F) c (V m c main_arg11)).1 $$ HW
  icases HW' with ⟨HW0, HW1, HW2⟩
  isplitl [streamed HS0 HW0]
  · isplitl [streamed]; · iexact streamed
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ringV_out (c : Dev nD) :
    ringAtV c (V m c main_arg11) 256
      ⊢ iprop((∃ d, owns (c : Thread nD τ) vRing fullShare d) ∗ (semVal ((c : Thread nD τ), SemLoc.dma 27) 0 ∗ semVal ((c : Thread nD τ), SemLoc.dma 28) 0 ∗ semVal ((c : Thread nD τ), SemLoc.dma 29) 0) ∗ srcPt c vSrc (V m c main_arg11)) := by
  unfold ringAtV; rw [if_neg (by decide)]
  iintro H
  ihave H' := (Ring.free3_of_At_last _ _ _ _) $$ H
  simp only [Ring.free, cellPV_0, cellPV_1, cellPV_2]
  icases H' with ⟨-, ⟨streamed, ⟨%f0, HS0, HW0⟩⟩, ⟨H1, ⟨%f1, HS1, HW1⟩⟩, ⟨H2, ⟨%f2, HS2, HW2⟩⟩⟩
  isplitl [HS0 HS1 HS2]
  · iapply (slotsV_out (F := F) c); isplitl [HS0]; · iexists f0; iexact HS0
    isplitl [HS1]; · iexists f1; iexact HS1
    iexists f2; iexact HS2
  isplitl [streamed H1 H2]
  · isplitl [streamed]; · iexact streamed
    isplitl [H1]; · iexact H1
    iexact H2
  · iapply (wholeV_split (F := F) c (V m c main_arg11)).2; isplitl [HW0]; · iexact HW0
    isplitl [HW1]; · iexact HW1
    iexact HW2

section Canon0_1
omit [FloatOps F]
theorem rstepV_A : ∀ t : Fin grid0.N, firstPt (grid0.coords t) → streamPt (grid0.coords t) → openPt (grid0.coords t) → ¬morePt (grid0.coords t) → t.val = 0 ∧ (t.val + 1) = 1 := by decide +kernel
theorem rstepV_B : ∀ t : Fin grid0.N, ¬firstPt (grid0.coords t) → streamPt (grid0.coords t) → ¬openPt (grid0.coords t) → ¬morePt (grid0.coords t) → 1 ≤ t.val ∧ t.val + 2 < 256 ∧ (t.val + 1) = t.val + 1 := by decide +kernel
theorem rstepV_C : ∀ t : Fin grid0.N, ¬firstPt (grid0.coords t) → streamPt (grid0.coords t) → ¬openPt (grid0.coords t) → morePt (grid0.coords t) → 1 ≤ t.val ∧ t.val + 2 < 256 ∧ (t.val + 1) = t.val + 1 := by decide +kernel
theorem rstepV_D : ∀ t : Fin grid0.N, ¬firstPt (grid0.coords t) → streamPt (grid0.coords t) → openPt (grid0.coords t) → ¬morePt (grid0.coords t) → 1 ≤ t.val ∧ t.val + 2 < 256 ∧ (t.val + 1) = t.val + 1 := by decide +kernel
theorem rstepV_E : ∀ t : Fin grid0.N, ¬firstPt (grid0.coords t) → ¬streamPt (grid0.coords t) → ¬openPt (grid0.coords t) → morePt (grid0.coords t) → 1 ≤ t.val ∧ 256 ≤ t.val + 2 ∧ t.val < 256 ∧ (t.val + 1) = t.val + 1 := by decide +kernel
set_option synthInstance.maxSize 4096 in
theorem coffV_1 : ∀ t : Fin grid0.N, firstPt (grid0.coords t) → streamPt (grid0.coords t) → openPt (grid0.coords t) → ¬morePt (grid0.coords t) → (![0, 0, 0] : Fin 3 → Nat) = ![(Ring.sl 3 t.val).val, 0, 0] := by decide +kernel
@[sl_canon] theorem canonV_1 (t : Fin grid0.N) (h0 : firstPt (grid0.coords t)) (h1 : streamPt (grid0.coords t)) (h2 : openPt (grid0.coords t)) (h3 : ¬morePt (grid0.coords t)) :
    (vRing.slice (Rect.unit (s := S3x256x2048) ![0, 0, 0] S1x256x2048.size inb_S3x256x2048_S1x256x2048_0_0_0) (fun _ => rfl)).squeeze S256x2048 squeezes_S1x256x2048_S256x2048 = rslotV (Ring.sl 3 t.val) :=
  congrArg (fun M : Memref sig .tc .vmem S1x256x2048 .f32 => M.squeeze S256x2048 squeezes_S1x256x2048_S256x2048) (Memref.slice_unit_congr _ (coffV_1 t h0 h1 h2 h3) _ _ (fun _ => rfl) (fun _ => rfl))
set_option synthInstance.maxSize 4096 in
theorem coffV_2 : ∀ t : Fin grid0.N, firstPt (grid0.coords t) → streamPt (grid0.coords t) → openPt (grid0.coords t) → ¬morePt (grid0.coords t) → (![1, 0] : Fin 2 → Nat) = ![1, (Ring.sl 3 t.val).val] := by decide +kernel
@[sl_canon] theorem canonV_2 (t : Fin grid0.N) (h0 : firstPt (grid0.coords t)) (h1 : streamPt (grid0.coords t)) (h2 : openPt (grid0.coords t)) (h3 : ¬morePt (grid0.coords t)) :
    (cc0_scratch3.slice (Rect.unit (s := S2x3) ![1, 0] S1x1.size inb_S2x3_S1x1_1_0)).squeeze S_ squeezes_S1x1_S_ = cellAV (Ring.sl 3 t.val) :=
  congrArg (fun A : DmaSems sig S1x1 => A.squeeze S_ squeezes_S1x1_S_) (SemArray.slice_unit_congr _ (coffV_2 t h0 h1 h2 h3) _ _)
set_option synthInstance.maxSize 4096 in
theorem coffV_3 : ∀ t : Fin grid0.N, firstPt (grid0.coords t) → streamPt (grid0.coords t) → openPt (grid0.coords t) → ¬morePt (grid0.coords t) → (![0, 0, 0] : Fin 3 → Nat) = ![((Ring.bk 256 t.val).val / 2), 256 * ((Ring.bk 256 t.val).val % 2), 0] := by decide +kernel
@[sl_canon] theorem canonV_3 (t : Fin grid0.N) (h0 : firstPt (grid0.coords t)) (h1 : streamPt (grid0.coords t)) (h2 : openPt (grid0.coords t)) (h3 : ¬morePt (grid0.coords t)) :
    (vSrc.slice (Rect.unit (s := S128x512x2048) ![0, 0, 0] S1x256x2048.size inb_S128x512x2048_S1x256x2048_0_0_0) (fun _ => rfl)).squeeze S256x2048 squeezes_S1x256x2048_S256x2048 = srcBV (Ring.bk 256 t.val) :=
  congrArg (fun M : Memref sig .tc .hbm S1x256x2048 .f32 => M.squeeze S256x2048 squeezes_S1x256x2048_S256x2048) (Memref.slice_unit_congr _ (coffV_3 t h0 h1 h2 h3) _ _ (fun _ => rfl) (fun _ => rfl))
set_option synthInstance.maxSize 4096 in
theorem coffV_4 : ∀ t : Fin grid0.N, firstPt (grid0.coords t) → streamPt (grid0.coords t) → openPt (grid0.coords t) → ¬morePt (grid0.coords t) → (![1, 0, 0] : Fin 3 → Nat) = ![(Ring.sl 3 (t.val + 1)).val, 0, 0] := by decide +kernel
@[sl_canon] theorem canonV_4 (t : Fin grid0.N) (h0 : firstPt (grid0.coords t)) (h1 : streamPt (grid0.coords t)) (h2 : openPt (grid0.coords t)) (h3 : ¬morePt (grid0.coords t)) :
    (vRing.slice (Rect.unit (s := S3x256x2048) ![1, 0, 0] S1x256x2048.size inb_S3x256x2048_S1x256x2048_1_0_0) (fun _ => rfl)).squeeze S256x2048 squeezes_S1x256x2048_S256x2048 = rslotV (Ring.sl 3 (t.val + 1)) :=
  congrArg (fun M : Memref sig .tc .vmem S1x256x2048 .f32 => M.squeeze S256x2048 squeezes_S1x256x2048_S256x2048) (Memref.slice_unit_congr _ (coffV_4 t h0 h1 h2 h3) _ _ (fun _ => rfl) (fun _ => rfl))
set_option synthInstance.maxSize 4096 in
theorem coffV_5 : ∀ t : Fin grid0.N, firstPt (grid0.coords t) → streamPt (grid0.coords t) → openPt (grid0.coords t) → ¬morePt (grid0.coords t) → (![1, 1] : Fin 2 → Nat) = ![1, (Ring.sl 3 (t.val + 1)).val] := by decide +kernel
@[sl_canon] theorem canonV_5 (t : Fin grid0.N) (h0 : firstPt (grid0.coords t)) (h1 : streamPt (grid0.coords t)) (h2 : openPt (grid0.coords t)) (h3 : ¬morePt (grid0.coords t)) :
    (cc0_scratch3.slice (Rect.unit (s := S2x3) ![1, 1] S1x1.size inb_S2x3_S1x1_1_1)).squeeze S_ squeezes_S1x1_S_ = cellAV (Ring.sl 3 (t.val + 1)) :=
  congrArg (fun A : DmaSems sig S1x1 => A.squeeze S_ squeezes_S1x1_S_) (SemArray.slice_unit_congr _ (coffV_5 t h0 h1 h2 h3) _ _)
set_option synthInstance.maxSize 4096 in
theorem coffV_6 : ∀ t : Fin grid0.N, firstPt (grid0.coords t) → streamPt (grid0.coords t) → openPt (grid0.coords t) → ¬morePt (grid0.coords t) → (![0, 256, 0] : Fin 3 → Nat) = ![((Ring.bk 256 (t.val + 1)).val / 2), 256 * ((Ring.bk 256 (t.val + 1)).val % 2), 0] := by decide +kernel
@[sl_canon] theorem canonV_6 (t : Fin grid0.N) (h0 : firstPt (grid0.coords t)) (h1 : streamPt (grid0.coords t)) (h2 : openPt (grid0.coords t)) (h3 : ¬morePt (grid0.coords t)) :
    (vSrc.slice (Rect.unit (s := S128x512x2048) ![0, 256, 0] S1x256x2048.size inb_S128x512x2048_S1x256x2048_0_256_0) (fun _ => rfl)).squeeze S256x2048 squeezes_S1x256x2048_S256x2048 = srcBV (Ring.bk 256 (t.val + 1)) :=
  congrArg (fun M : Memref sig .tc .hbm S1x256x2048 .f32 => M.squeeze S256x2048 squeezes_S1x256x2048_S256x2048) (Memref.slice_unit_congr _ (coffV_6 t h0 h1 h2 h3) _ _ (fun _ => rfl) (fun _ => rfl))
set_option synthInstance.maxSize 4096 in
theorem coffV_7 : ∀ t : Fin grid0.N, k0_off2 (grid0.coords t) = ![(Ring.sl 3 (t.val + 2)).val, 0, 0] := by decide +kernel
@[sl_canon] theorem canonV_7 (t : Fin grid0.N) (h1 : streamPt (grid0.coords t)) :
    (vRing.slice (Rect.unit (s := S3x256x2048) (k0_off2 (grid0.coords t)) S1x256x2048.size (k0_off2_inb (grid0.coords t) h1)) (fun _ => rfl)).squeeze S256x2048 squeezes_S1x256x2048_S256x2048 = rslotV (Ring.sl 3 (t.val + 2)) :=
  congrArg (fun M : Memref sig .tc .vmem S1x256x2048 .f32 => M.squeeze S256x2048 squeezes_S1x256x2048_S256x2048) (Memref.slice_unit_congr _ (coffV_7 t ) _ _ (fun _ => rfl) (fun _ => rfl))
set_option synthInstance.maxSize 4096 in
theorem coffV_8 : ∀ t : Fin grid0.N, k0_off4 (grid0.coords t) = ![1, (Ring.sl 3 (t.val + 2)).val] := by decide +kernel
@[sl_canon] theorem canonV_8 (t : Fin grid0.N) (h1 : streamPt (grid0.coords t)) :
    (cc0_scratch3.slice (Rect.unit (s := S2x3) (k0_off4 (grid0.coords t)) S1x1.size (k0_off4_inb (grid0.coords t) h1))).squeeze S_ squeezes_S1x1_S_ = cellAV (Ring.sl 3 (t.val + 2)) :=
  congrArg (fun A : DmaSems sig S1x1 => A.squeeze S_ squeezes_S1x1_S_) (SemArray.slice_unit_congr _ (coffV_8 t ) _ _)
set_option synthInstance.maxSize 4096 in
theorem coffV_9 : ∀ t : Fin grid0.N, firstPt (grid0.coords t) → streamPt (grid0.coords t) → openPt (grid0.coords t) → ¬morePt (grid0.coords t) → k0_off3 (grid0.coords t) = ![((Ring.bk 256 (t.val + 2)).val / 2), 256 * ((Ring.bk 256 (t.val + 2)).val % 2), 0] := by decide +kernel
@[sl_canon] theorem canonV_9 (t : Fin grid0.N) (h0 : firstPt (grid0.coords t)) (h1 : streamPt (grid0.coords t)) (h2 : openPt (grid0.coords t)) (h3 : ¬morePt (grid0.coords t)) :
    (vSrc.slice (Rect.unit (s := S128x512x2048) (k0_off3 (grid0.coords t)) S1x256x2048.size (k0_off3_inb (grid0.coords t) h1)) (fun _ => rfl)).squeeze S256x2048 squeezes_S1x256x2048_S256x2048 = srcBV (Ring.bk 256 (t.val + 2)) :=
  congrArg (fun M : Memref sig .tc .hbm S1x256x2048 .f32 => M.squeeze S256x2048 squeezes_S1x256x2048_S256x2048) (Memref.slice_unit_congr _ (coffV_9 t h0 h1 h2 h3) _ _ (fun _ => rfl) (fun _ => rfl))
set_option synthInstance.maxSize 4096 in
theorem coffV_10 : ∀ t : Fin grid0.N, k0_off6 (grid0.coords t) = ![(Ring.sl 3 t.val).val, 0, 0] := by decide +kernel
@[sl_canon] theorem canonV_10 (t : Fin grid0.N) :
    (vRing.slice (Rect.unit (s := S3x256x2048) (k0_off6 (grid0.coords t)) S1x256x2048.size (k0_off6_inb (grid0.coords t))) (fun _ => rfl)).squeeze S256x2048 squeezes_S1x256x2048_S256x2048 = rslotV (Ring.sl 3 t.val) :=
  congrArg (fun M : Memref sig .tc .vmem S1x256x2048 .f32 => M.squeeze S256x2048 squeezes_S1x256x2048_S256x2048) (Memref.slice_unit_congr _ (coffV_10 t ) _ _ (fun _ => rfl) (fun _ => rfl))
set_option synthInstance.maxSize 4096 in
theorem coffV_11 : ∀ t : Fin grid0.N, k0_off8 (grid0.coords t) = ![1, (Ring.sl 3 t.val).val] := by decide +kernel
@[sl_canon] theorem canonV_11 (t : Fin grid0.N) :
    (cc0_scratch3.slice (Rect.unit (s := S2x3) (k0_off8 (grid0.coords t)) S1x1.size (k0_off8_inb (grid0.coords t)))).squeeze S_ squeezes_S1x1_S_ = cellAV (Ring.sl 3 t.val) :=
  congrArg (fun A : DmaSems sig S1x1 => A.squeeze S_ squeezes_S1x1_S_) (SemArray.slice_unit_congr _ (coffV_11 t ) _ _)
set_option synthInstance.maxSize 4096 in
theorem coffV_12 : ∀ t : Fin grid0.N, ¬firstPt (grid0.coords t) → streamPt (grid0.coords t) → ¬openPt (grid0.coords t) → ¬morePt (grid0.coords t) → k0_off3 (grid0.coords t) = ![((Ring.bk 256 (t.val + 2)).val / 2), 256 * ((Ring.bk 256 (t.val + 2)).val % 2), 0] := by decide +kernel
@[sl_canon] theorem canonV_12 (t : Fin grid0.N) (h0 : ¬firstPt (grid0.coords t)) (h1 : streamPt (grid0.coords t)) (h2 : ¬openPt (grid0.coords t)) (h3 : ¬morePt (grid0.coords t)) :
    (vSrc.slice (Rect.unit (s := S128x512x2048) (k0_off3 (grid0.coords t)) S1x256x2048.size (k0_off3_inb (grid0.coords t) h1)) (fun _ => rfl)).squeeze S256x2048 squeezes_S1x256x2048_S256x2048 = srcBV (Ring.bk 256 (t.val + 2)) :=
  congrArg (fun M : Memref sig .tc .hbm S1x256x2048 .f32 => M.squeeze S256x2048 squeezes_S1x256x2048_S256x2048) (Memref.slice_unit_congr _ (coffV_12 t h0 h1 h2 h3) _ _ (fun _ => rfl) (fun _ => rfl))
set_option synthInstance.maxSize 4096 in
theorem coffV_13 : ∀ t : Fin grid0.N, ¬firstPt (grid0.coords t) → streamPt (grid0.coords t) → ¬openPt (grid0.coords t) → morePt (grid0.coords t) → k0_off3 (grid0.coords t) = ![((Ring.bk 256 (t.val + 2)).val / 2), 256 * ((Ring.bk 256 (t.val + 2)).val % 2), 0] := by decide +kernel
@[sl_canon] theorem canonV_13 (t : Fin grid0.N) (h0 : ¬firstPt (grid0.coords t)) (h1 : streamPt (grid0.coords t)) (h2 : ¬openPt (grid0.coords t)) (h3 : morePt (grid0.coords t)) :
    (vSrc.slice (Rect.unit (s := S128x512x2048) (k0_off3 (grid0.coords t)) S1x256x2048.size (k0_off3_inb (grid0.coords t) h1)) (fun _ => rfl)).squeeze S256x2048 squeezes_S1x256x2048_S256x2048 = srcBV (Ring.bk 256 (t.val + 2)) :=
  congrArg (fun M : Memref sig .tc .hbm S1x256x2048 .f32 => M.squeeze S256x2048 squeezes_S1x256x2048_S256x2048) (Memref.slice_unit_congr _ (coffV_13 t h0 h1 h2 h3) _ _ (fun _ => rfl) (fun _ => rfl))
set_option synthInstance.maxSize 4096 in
theorem coffV_14 : ∀ t : Fin grid0.N, ¬firstPt (grid0.coords t) → streamPt (grid0.coords t) → openPt (grid0.coords t) → ¬morePt (grid0.coords t) → k0_off3 (grid0.coords t) = ![((Ring.bk 256 (t.val + 2)).val / 2), 256 * ((Ring.bk 256 (t.val + 2)).val % 2), 0] := by decide +kernel
@[sl_canon] theorem canonV_14 (t : Fin grid0.N) (h0 : ¬firstPt (grid0.coords t)) (h1 : streamPt (grid0.coords t)) (h2 : openPt (grid0.coords t)) (h3 : ¬morePt (grid0.coords t)) :
    (vSrc.slice (Rect.unit (s := S128x512x2048) (k0_off3 (grid0.coords t)) S1x256x2048.size (k0_off3_inb (grid0.coords t) h1)) (fun _ => rfl)).squeeze S256x2048 squeezes_S1x256x2048_S256x2048 = srcBV (Ring.bk 256 (t.val + 2)) :=
  congrArg (fun M : Memref sig .tc .hbm S1x256x2048 .f32 => M.squeeze S256x2048 squeezes_S1x256x2048_S256x2048) (Memref.slice_unit_congr _ (coffV_14 t h0 h1 h2 h3) _ _ (fun _ => rfl) (fun _ => rfl))
set_option synthInstance.maxSize 4096 in
theorem coffV_15 : ∀ t : Fin grid0.N, k0_off9 (grid0.coords t) = ![(Ring.sl 3 t.val).val, 0, 0] := by decide +kernel
instance (priority := high) closedOffV_15 (t : Fin grid0.N) : ClosedOff (k0_off9 (grid0.coords t)) := ⟨![(Ring.sl 3 t.val).val, 0, 0], coffV_15 t⟩
end Canon0_1

end Cert.PromptFfnIdeal.Feed

end
-- ==== Proof.PfStep.lean ====
module

public import proofs.«01_k».proof.Proof.PfRing
public import proofs.«01_k».proof.Proof.Gen.PromptFfnIdeal.Skeleton
public import Idealize.ShloMosaic.Lib.Pipeline.Value

@[expose] public section

set_option maxRecDepth 16384

noncomputable section

/-! The prompt's feed-forward call: what one point leaves in its block of rows. A point that opens a block first puts
the residual sum there and the normalised rows in the scratch; every point adds one chunk of the hidden columns, and a
late point a second one. -/

namespace Cert.PromptFfnIdeal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptFfnIdeal.Gen

variable {F : FTy → Type} [FloatOps F]
variable (m : (ℓ : Loc nD τ sig) → Buf (Elt F) ℓ) (ρ : Dev nD → PrngReg)

/-- The chunk of 256 hidden columns that every point adds to its block `y`, from the normalised rows `h`. -/
def yStep (i : grid0.Coords) (h : Vec F S512x1024 .bf16) (wg wu : Vec F S1024x2816 .bf16) (wd : Vec F S11x256x1024 .bf16)
    (y : Vec F S512x1024 .f32) : Vec F S512x1024 .f32 :=
  k0_pay182 (k0_pay180 y) h
    (k0_pay181 (View.ld wg (Rect.unit (s := S1024x2816) (k0_off10 i) S1024x256.size (k0_off10_inb i))))
    (constant S512x256 .f32 0x00000000#32)
    (View.ld wu (Rect.unit (s := S1024x2816) (k0_off10 i) S1024x256.size (k0_off10_inb i)))
    (View.ld wd (Rect.unit (s := S11x256x1024) (k0_off11 i) S1x256x1024.size (k0_off11_inb i)))

/-- The second chunk, which only the last three points of a block add. -/
def yMore (i : grid0.Coords) (hi : morePt i) (h : Vec F S512x1024 .bf16) (wg wu : Vec F S1024x2816 .bf16)
    (wd : Vec F S11x256x1024 .bf16) (y : Vec F S512x1024 .f32) : Vec F S512x1024 .f32 :=
  k0_pay1 y h
    (View.ld wg (Rect.unit (s := S1024x2816) (k0_off12 i) S1024x256.size (k0_off12_inb i hi)))
    (View.ld wu (Rect.unit (s := S1024x2816) (k0_off12 i) S1024x256.size (k0_off12_inb i hi)))
    (View.ld wd (Rect.unit (s := S11x256x1024) (k0_off13 i) S1x256x1024.size (k0_off13_inb i hi)))

/-- The normalised rows an opening point leaves in the scratch. -/
def hOpen (x : Vec F S512x1024 .f32) (mix : Vec F S512x1024 .bf16) (w : Vec F S1024x1024 .bf16) (g : Vec F S1x1024 .f32) :
    Vec F S512x1024 .bf16 := k0_pay3 x mix w g

/-- What an opening point leaves in its block: the residual sum and the first chunk. -/
def yOpen (i : grid0.Coords) (x : Vec F S512x1024 .f32) (mix : Vec F S512x1024 .bf16) (w : Vec F S1024x1024 .bf16)
    (g : Vec F S1x1024 .f32) (wg wu : Vec F S1024x2816 .bf16) (wd : Vec F S11x256x1024 .bf16) : Vec F S512x1024 .f32 :=
  yStep i (hOpen x mix w g) wg wu wd (k0_pay2 x mix w)

/-- The test a point makes on its place in its block, once the sign of the remainder is settled. -/
theorem openWord_iff : ∀ t : Fin cfg0.N, Scalar.cmpi .ne (Scalar.extui (Scalar.cmpi .eq (Scalar.select 0#1
    (Scalar.addi (Scalar.remsi (BitVec.ofNat 32 (grid0.coords t 0).val) 8#32) 8#32)
    (Scalar.remsi (BitVec.ofNat 32 (grid0.coords t 0).val) 8#32)) 0#32)) 0#32 = 1#1 ↔ t.val % 8 = 0 :=
  (by decide +kernel : ∀ t : Fin grid0.N, Scalar.cmpi .ne (Scalar.extui (Scalar.cmpi .eq (Scalar.select 0#1
    (Scalar.addi (Scalar.remsi (BitVec.ofNat 32 (grid0.coords t 0).val) 8#32) 8#32)
    (Scalar.remsi (BitVec.ofNat 32 (grid0.coords t 0).val) 8#32)) 0#32)) 0#32 = 1#1 ↔ t.val % 8 = 0)

section
variable {sp : Space} {e : EltTy}

/-- A write over the whole of a block leaves what it wrote. -/
theorem read_full (M : Memref sig .tc sp S512x1024 e) (f : M.view.ty.Contents (Elt F))
    (inb : ∀ a, (![0, 0] : Fin 2 → Nat) a + S512x1024.size a ≤ S512x1024.size a) (w : S512x1024.Idx → Elt F e)
    (L : List (View.Piece (Elt F) S512x1024 e)) :
    M.view.read (Elt F) (M.view.writes (Elt F) f (⟨Rect.unit (s := S512x1024) ![0, 0] S512x1024.size inb, w⟩ :: L)) = w := by
  have hz : (![0, 0] : Fin 2 → Nat) = fun _ => 0 := by funext a; fin_cases a <;> rfl
  rw [View.read_writes_eq_canon _ _ _ fun y => ⟨_, List.mem_cons_self, View.mem_set_unit_zero hz inb y⟩]
  exact View.canon_cons_unit_zero hz inb w _

/-- A load over the whole of a value is the value. -/
theorem ld_full {S : Shape} {off : Fin S.rank → Nat} (h : off = fun _ => 0) (inb : ∀ a, off a + S.size a ≤ S.size a)
    (X : S.Idx → Elt F e) : View.ld X (Rect.unit (s := S) off S.size inb) = X := View.ld_unit_zero h inb X
end

end Cert.PromptFfnIdeal.Feed

end
-- ==== Proof.PfRunA.lean ====
module

public import proofs.«01_k».proof.Proof.PfStep
public import proofs.«01_k».proof.Proof.Gen.PromptFfnIdeal.Skeleton

@[expose] public section

set_option maxRecDepth 16384

noncomputable section

/-! The prompt's feed-forward call: the run of the body at the first point, which also fills the rings. -/

namespace Cert.PromptFfnIdeal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptFfnIdeal.Gen

variable {F : FTy → Type} [FloatOps F]
variable (m : (ℓ : Loc nD τ sig) → Buf (Elt F) ℓ) (ρ : Dev nD → PrngReg)

set_option maxHeartbeats 1588000 in
theorem run_A (c : Dev nD) (t : Fin cfg0.N) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S11x256x1024 .bf16) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg13 : Memref sig .tc .vmem S32x2048 .f32) (harg13 : arg13.IsWhole) (arg14 : Memref sig .tc .vmem S512x1024 .f32) (harg14 : arg14.IsWhole) (arg15 : Memref sig .tc .vmem S1x8x256 .f32) (harg15 : arg15.IsWhole) (arg16 : Memref sig .tc .vmem S1x256x2048 .f32) (harg16 : arg16.IsWhole) (arg17 : Memref sig .tc .vmem S1x256x2048 .f32) (harg17 : arg17.IsWhole) (arg18 : Memref sig .tc .vmem S512x1024 .bf16) (harg18 : arg18.IsWhole) (hc0 : firstPt (grid0.coords t)) (hc1 : streamPt (grid0.coords t)) (hc2 : openPt (grid0.coords t)) (hc3 : ¬morePt (grid0.coords t))
    (x0 : Vec F S512x1024 .f32) (x1 : Vec F S512x1024 .bf16) (x2 : Vec F S1024x1024 .bf16) (x3 : Vec F S1x1024 .f32) (x4 : Vec F S1024x2816 .bf16) (x5 : Vec F S1024x2816 .bf16) (x6 : Vec F S11x256x1024 .bf16) (x7 : Vec F S1x8x256 .f32) (x8 : Vec F S1x8x256 .f32) (x9 : Vec F S1x8x256 .f32) (x10 : Vec F S32x2048 .f32) (fh0 : SrcBuf (F := F) c kSrc) (fh1 : SrcBuf (F := F) c vSrc) :
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ Ring.free (cellPK c) (slotWK c fh0) (Ring.sl 3 t.val) ∗ Ring.free (cellPK c) (slotWK c fh0) (Ring.sl 3 (t.val + 1)) ∗ Ring.free (cellPK c) (slotWK c fh0) (Ring.sl 3 (t.val + 2)) ∗ Ring.free (cellPV c) (slotWV c fh1) (Ring.sl 3 t.val) ∗ Ring.free (cellPV c) (slotWV c fh1) (Ring.sl 3 (t.val + 1)) ∗ Ring.free (cellPV c) (slotWV c fh1) (Ring.sl 3 (t.val + 2)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x10 ∗ owns (c : Thread nD τ) arg14 fullShare (yOpen (grid0.coords t) x0 x1 x2 x3 x4 x5 x6) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (hOpen x0 x1 x2 x3) ∗ Ring.inflight (flightWK c fh0) (Ring.sl 3 (t.val + 1)) (Ring.bk 256 (t.val + 1)) ∗ Ring.inflight (flightWK c fh0) (Ring.sl 3 (t.val + 2)) (Ring.bk 256 (t.val + 2)) ∗ Ring.free (cellPK c) (slotWK c fh0) (Ring.sl 3 t.val) ∗ Ring.inflight (flightWV c fh1) (Ring.sl 3 (t.val + 1)) (Ring.bk 256 (t.val + 1)) ∗ Ring.inflight (flightWV c fh1) (Ring.sl 3 (t.val + 2)) (Ring.bk 256 (t.val + 2)) ∗ Ring.free (cellPV c) (slotWV c fh1) (Ring.sl 3 t.val) ∗ (∃ W', owes (c : Thread nD τ) 0 W')) -∗ K ⟨⟩))
          ⊢ wp frame (wpE (defs₀ (F := F)) Variants.none c none) Set.univ (cc0_ffn_cache (grid0.coords t) arg1 harg1 arg2 harg2 arg3 harg3 arg4 harg4 arg5 harg5 arg6 harg6 arg7 harg7 arg8 harg8 arg9 harg9 arg10 harg10 (Memref.whole main_arg10) (Memref.isWhole_whole _) (Memref.whole main_arg11) (Memref.isWhole_whole _) arg13 harg13 arg14 harg14 arg15 harg15 arg16 harg16 arg17 harg17 arg18 harg18 kRing (Memref.isWhole_whole _) vRing (Memref.isWhole_whole _) cc0_scratch3) K := by
    intro W K
    haveI : Fact (firstPt (grid0.coords t)) := ⟨hc0⟩
    haveI : Fact (streamPt (grid0.coords t)) := ⟨hc1⟩
    haveI : Fact (openPt (grid0.coords t)) := ⟨hc2⟩
    haveI : Fact (¬morePt (grid0.coords t)) := ⟨hc3⟩
    simp only [cc0_ffn_cache_eq_skeleton]; unfold cc0_ffn_cache_skel
    simp only [k0_part32_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    have hcanon0 := canonK_1 t hc0 hc1 hc2 hc3
    have hcanon1 := canonK_2 t hc0 hc1 hc2 hc3
    have hcanon2 := canonK_3 t hc0 hc1 hc2 hc3
    have hcanon3 := canonK_4 t hc0 hc1 hc2 hc3
    have hcanon4 := canonK_5 t hc0 hc1 hc2 hc3
    have hcanon5 := canonK_6 t hc0 hc1 hc2 hc3
    have hcanon6 := canonV_1 t hc0 hc1 hc2 hc3
    have hcanon7 := canonV_2 t hc0 hc1 hc2 hc3
    have hcanon8 := canonV_3 t hc0 hc1 hc2 hc3
    have hcanon9 := canonV_4 t hc0 hc1 hc2 hc3
    have hcanon10 := canonV_5 t hc0 hc1 hc2 hc3
    have hcanon11 := canonV_6 t hc0 hc1 hc2 hc3
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_1_0, ⟨%fs0_1_0, Hs0_1_0, Hw0_1_0⟩⟩, ⟨Hc0_1_1, ⟨%fs0_1_1, Hs0_1_1, Hw0_1_1⟩⟩, ⟨Hc0_1_2, ⟨%fs0_1_2, Hs0_1_2, Hw0_1_2⟩⟩, HW, Hk⟩
    ihave Hsp0_0_0 := (srcK_split c fh0 (Ring.sl 3 t.val) (Ring.bk 256 t.val)).1 $$ Hw0_0_0
    icases Hsp0_0_0 with ⟨Hh0_0_0, Hr0_0_0⟩
    ihave Hsp0_0_1 := (srcK_split c fh0 (Ring.sl 3 (t.val + 1)) (Ring.bk 256 (t.val + 1))).1 $$ Hw0_0_1
    icases Hsp0_0_1 with ⟨Hh0_0_1, Hr0_0_1⟩
    ihave Hsp0_0_2 := (srcK_split c fh0 (Ring.sl 3 (t.val + 2)) (Ring.bk 256 (t.val + 2))).1 $$ Hw0_0_2
    icases Hsp0_0_2 with ⟨Hh0_0_2, Hr0_0_2⟩
    ihave Hsp0_1_0 := (srcV_split c fh1 (Ring.sl 3 t.val) (Ring.bk 256 t.val)).1 $$ Hw0_1_0
    icases Hsp0_1_0 with ⟨Hh0_1_0, Hr0_1_0⟩
    ihave Hsp0_1_1 := (srcV_split c fh1 (Ring.sl 3 (t.val + 1)) (Ring.bk 256 (t.val + 1))).1 $$ Hw0_1_1
    icases Hsp0_1_1 with ⟨Hh0_1_1, Hr0_1_1⟩
    ihave Hsp0_1_2 := (srcV_split c fh1 (Ring.sl 3 (t.val + 2)) (Ring.bk 256 (t.val + 2))).1 $$ Hw0_1_2
    icases Hsp0_1_2 with ⟨Hh0_1_2, Hr0_1_2⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf10
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg13.read_unread _
      iexact H10
    isplitl [H11]
    · iexists _; isplitr; swap; · iexact H11
      ipureintro
      refine (read_full _ _ _ _ _).trans ?_
      have hz : (![0, 0] : Fin 2 → Nat) = fun _ => 0 := by funext a; fin_cases a <;> rfl
      have hv : run_A.sl.v19 t = 1#1 := (openWord_iff t).mpr ((openPt_iff t).mp hc2)
      delta run_A.sl.r_50 run_A.sl.r_48 run_A.sl.r_49 run_A.sl.v1177 run_A.sl.cst_485
      simp only [dif_pos hv, View.readAt_eq_ld, read_full, harg1.read_unread, harg2.read_unread, harg3.read_unread, harg4.read_unread, harg5.read_unread, harg6.read_unread, harg7.read_unread, ld_full (S := S512x1024) hz, ld_full (S := S1024x1024) hz, ld_full (S := S1x1024) hz, yOpen, yStep, hOpen]
      refine congrArg₂ (fun a b => k0_pay182 (F := F) (k0_pay180 (F := F) a) b _ _ _ _) ?_ (read_full _ _ _ _ _)
      delta run_A.sl.v1175
      simp only [View.readAt_eq_ld, read_full, harg1.read_unread, harg2.read_unread, harg3.read_unread, ld_full (S := S512x1024) hz, ld_full (S := S1024x1024) hz]
      rw [dif_pos hv]
      exact read_full (F := F) _ _ _ _ _
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _; isplitr; swap; · iexact HS0
      ipureintro
      have hz : (![0, 0] : Fin 2 → Nat) = fun _ => 0 := by funext a; fin_cases a <;> rfl
      have hv : run_A.sl.v19 t = 1#1 := (openWord_iff t).mpr ((openPt_iff t).mp hc2)
      rw [dif_pos hv]
      refine (read_full _ _ _ _ _).trans ?_
      simp only [View.readAt_eq_ld, read_full, harg1.read_unread, harg2.read_unread, harg3.read_unread, harg4.read_unread, harg5.read_unread, harg6.read_unread, harg7.read_unread, ld_full (S := S512x1024) hz, ld_full (S := S1024x1024) hz, ld_full (S := S1x1024) hz, hOpen]
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (srcK_split c fh0 (Ring.sl 3 t.val) (Ring.bk 256 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_2 Hr0_1_2]
    · iexists _; isplitl [Hc0_1_2]; · iexact Hc0_1_2
      iexact Hr0_1_2
    isplitl [Hc0_1_0 Hs0_1_0 Hh0_1_0 Hr0_1_0]
    · isplitl [Hc0_1_0]; · iexact Hc0_1_0
      iexists _; isplitl [Hs0_1_0]; · iexact Hs0_1_0
      iapply (srcV_split c fh1 (Ring.sl 3 t.val) (Ring.bk 256 t.val)).2; isplitl [Hh0_1_0]; · iexact Hh0_1_0
      iexact Hr0_1_0
    iexists _; iexact HW

end Cert.PromptFfnIdeal.Feed

end
-- ==== Proof.PfRunB.lean ====
module

public import proofs.«01_k».proof.Proof.PfRunA
public import proofs.«01_k».proof.Proof.Gen.PromptFfnIdeal.Skeleton

@[expose] public section

set_option maxRecDepth 16384

noncomputable section

/-! The prompt's feed-forward call: the run of the body at a point that adds one chunk. -/

namespace Cert.PromptFfnIdeal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptFfnIdeal.Gen

variable {F : FTy → Type} [FloatOps F]
variable (m : (ℓ : Loc nD τ sig) → Buf (Elt F) ℓ) (ρ : Dev nD → PrngReg)

set_option maxHeartbeats 1420000 in
theorem run_B (c : Dev nD) (t : Fin cfg0.N) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S11x256x1024 .bf16) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg13 : Memref sig .tc .vmem S32x2048 .f32) (harg13 : arg13.IsWhole) (arg14 : Memref sig .tc .vmem S512x1024 .f32) (harg14 : arg14.IsWhole) (arg15 : Memref sig .tc .vmem S1x8x256 .f32) (harg15 : arg15.IsWhole) (arg16 : Memref sig .tc .vmem S1x256x2048 .f32) (harg16 : arg16.IsWhole) (arg17 : Memref sig .tc .vmem S1x256x2048 .f32) (harg17 : arg17.IsWhole) (arg18 : Memref sig .tc .vmem S512x1024 .bf16) (harg18 : arg18.IsWhole) (hc0 : ¬firstPt (grid0.coords t)) (hc1 : streamPt (grid0.coords t)) (hc2 : ¬openPt (grid0.coords t)) (hc3 : ¬morePt (grid0.coords t))
    (x0 : Vec F S512x1024 .f32) (x1 : Vec F S512x1024 .bf16) (x2 : Vec F S1024x1024 .bf16) (x3 : Vec F S1x1024 .f32) (x4 : Vec F S1024x2816 .bf16) (x5 : Vec F S1024x2816 .bf16) (x6 : Vec F S11x256x1024 .bf16) (x7 : Vec F S1x8x256 .f32) (x8 : Vec F S1x8x256 .f32) (x9 : Vec F S1x8x256 .f32) (x10 : Vec F S32x2048 .f32) (y : Vec F S512x1024 .f32) (h : Vec F S512x1024 .bf16) (fh0 : SrcBuf (F := F) c kSrc) (fh1 : SrcBuf (F := F) c vSrc) :
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x10 ∗ owns (c : Thread nD τ) arg14 fullShare y ∗ (∃ d, owns (c : Thread nD τ) arg15 fullShare d) ∗ (∃ d, owns (c : Thread nD τ) arg16 fullShare d) ∗ (∃ d, owns (c : Thread nD τ) arg17 fullShare d) ∗ owns (c : Thread nD τ) arg18 fullShare h ∗ Ring.inflight (flightWK c fh0) (Ring.sl 3 t.val) (Ring.bk 256 t.val) ∗ Ring.inflight (flightWK c fh0) (Ring.sl 3 (t.val + 1)) (Ring.bk 256 (t.val + 1)) ∗ Ring.free (cellPK c) (slotWK c fh0) (Ring.sl 3 (t.val + 2)) ∗ Ring.inflight (flightWV c fh1) (Ring.sl 3 t.val) (Ring.bk 256 t.val) ∗ Ring.inflight (flightWV c fh1) (Ring.sl 3 (t.val + 1)) (Ring.bk 256 (t.val + 1)) ∗ Ring.free (cellPV c) (slotWV c fh1) (Ring.sl 3 (t.val + 2)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x10 ∗ owns (c : Thread nD τ) arg14 fullShare (yStep (grid0.coords t) h x4 x5 x6 y) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare h ∗ Ring.inflight (flightWK c fh0) (Ring.sl 3 (t.val + 1)) (Ring.bk 256 (t.val + 1)) ∗ Ring.inflight (flightWK c fh0) (Ring.sl 3 (t.val + 2)) (Ring.bk 256 (t.val + 2)) ∗ Ring.free (cellPK c) (slotWK c fh0) (Ring.sl 3 t.val) ∗ Ring.inflight (flightWV c fh1) (Ring.sl 3 (t.val + 1)) (Ring.bk 256 (t.val + 1)) ∗ Ring.inflight (flightWV c fh1) (Ring.sl 3 (t.val + 2)) (Ring.bk 256 (t.val + 2)) ∗ Ring.free (cellPV c) (slotWV c fh1) (Ring.sl 3 t.val) ∗ (∃ W', owes (c : Thread nD τ) 0 W')) -∗ K ⟨⟩))
          ⊢ wp frame (wpE (defs₀ (F := F)) Variants.none c none) Set.univ (cc0_ffn_cache (grid0.coords t) arg1 harg1 arg2 harg2 arg3 harg3 arg4 harg4 arg5 harg5 arg6 harg6 arg7 harg7 arg8 harg8 arg9 harg9 arg10 harg10 (Memref.whole main_arg10) (Memref.isWhole_whole _) (Memref.whole main_arg11) (Memref.isWhole_whole _) arg13 harg13 arg14 harg14 arg15 harg15 arg16 harg16 arg17 harg17 arg18 harg18 kRing (Memref.isWhole_whole _) vRing (Memref.isWhole_whole _) cc0_scratch3) K := by
    intro W K
    haveI : Fact (¬firstPt (grid0.coords t)) := ⟨hc0⟩
    haveI : Fact (streamPt (grid0.coords t)) := ⟨hc1⟩
    haveI : Fact (¬openPt (grid0.coords t)) := ⟨hc2⟩
    haveI : Fact (¬morePt (grid0.coords t)) := ⟨hc3⟩
    simp only [cc0_ffn_cache_eq_skeleton]; unfold cc0_ffn_cache_skel
    simp only [k0_part32_eq_skeleton, k0_part3_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs0, %hfs0, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1_0, Hf0_1_0, Hrf0_1_0⟩, ⟨%ff0_1_1, Hf0_1_1, Hrf0_1_1⟩, ⟨Hc0_1_2, ⟨%fs0_1_2, Hs0_1_2, Hw0_1_2⟩⟩, HW, Hk⟩
    ihave Hsp0_0_2 := (srcK_split c fh0 (Ring.sl 3 (t.val + 2)) (Ring.bk 256 (t.val + 2))).1 $$ Hw0_0_2
    icases Hsp0_0_2 with ⟨Hh0_0_2, Hr0_0_2⟩
    ihave Hsp0_1_2 := (srcV_split c fh1 (Ring.sl 3 (t.val + 2)) (Ring.bk 256 (t.val + 2))).1 $$ Hw0_1_2
    icases Hsp0_1_2 with ⟨Hh0_1_2, Hr0_1_2⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf10; obtain rfl := harg14.eq_unread hf11; obtain rfl := harg18.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg13.read_unread _
      iexact H10
    isplitl [H11]
    · iexists _; isplitr; swap; · iexact H11
      ipureintro
      refine (read_full _ _ _ _ _).trans ?_
      have hz : (![0, 0] : Fin 2 → Nat) = fun _ => 0 := by funext a; fin_cases a <;> rfl
      have hv : ¬ run_B.sl.v19 t = 1#1 := fun hh => hc2 ((openPt_iff t).mpr ((openWord_iff t).mp hh))
      delta run_B.sl.r_50 run_B.sl.r_48 run_B.sl.r_49 run_B.sl.v1177 run_B.sl.cst_485
      simp only [dif_neg hv, View.readAt_eq_ld, read_full, harg1.read_unread, harg2.read_unread, harg3.read_unread, harg4.read_unread, harg5.read_unread, harg6.read_unread, harg7.read_unread, harg14.read_unread, harg18.read_unread, ld_full (S := S512x1024) hz, ld_full (S := S1024x1024) hz, ld_full (S := S1x1024) hz, yStep]
      delta run_B.sl.v1175
      simp only [dif_neg hv, View.readAt_eq_ld, harg14.read_unread, ld_full (S := S512x1024) hz]
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _; isplitr; swap; · iexact HS0
      ipureintro
      have hv : ¬ run_B.sl.v19 t = 1#1 := fun hh => hc2 ((openPt_iff t).mpr ((openWord_iff t).mp hh))
      rw [dif_neg hv]; exact harg18.read_unread h
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (srcK_split c fh0 (Ring.sl 3 t.val) (Ring.bk 256 t.val)).2; isplitl [Hf0_0_0_src]; · iexact Hf0_0_0_src
      iexact Hrf0_0_0
    isplitl [Hf0_1_1 Hrf0_1_1]
    · iexists ff0_1_1; isplitl [Hf0_1_1]; · iexact Hf0_1_1
      iexact Hrf0_1_1
    isplitl [Hc0_1_2 Hr0_1_2]
    · iexists _; isplitl [Hc0_1_2]; · iexact Hc0_1_2
      iexact Hr0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (srcV_split c fh1 (Ring.sl 3 t.val) (Ring.bk 256 t.val)).2; isplitl [Hf0_1_0_src]; · iexact Hf0_1_0_src
      iexact Hrf0_1_0
    iexists _; iexact HW

end Cert.PromptFfnIdeal.Feed

end
-- ==== Proof.PfRunC.lean ====
module

public import proofs.«01_k».proof.Proof.PfRunA
public import proofs.«01_k».proof.Proof.Gen.PromptFfnIdeal.Skeleton

@[expose] public section

set_option maxRecDepth 16384

noncomputable section

/-! The prompt's feed-forward call: the run of the body at a point that adds two chunks. -/

namespace Cert.PromptFfnIdeal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptFfnIdeal.Gen

variable {F : FTy → Type} [FloatOps F]
variable (m : (ℓ : Loc nD τ sig) → Buf (Elt F) ℓ) (ρ : Dev nD → PrngReg)

set_option maxHeartbeats 1476000 in
theorem run_C (c : Dev nD) (t : Fin cfg0.N) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S11x256x1024 .bf16) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg13 : Memref sig .tc .vmem S32x2048 .f32) (harg13 : arg13.IsWhole) (arg14 : Memref sig .tc .vmem S512x1024 .f32) (harg14 : arg14.IsWhole) (arg15 : Memref sig .tc .vmem S1x8x256 .f32) (harg15 : arg15.IsWhole) (arg16 : Memref sig .tc .vmem S1x256x2048 .f32) (harg16 : arg16.IsWhole) (arg17 : Memref sig .tc .vmem S1x256x2048 .f32) (harg17 : arg17.IsWhole) (arg18 : Memref sig .tc .vmem S512x1024 .bf16) (harg18 : arg18.IsWhole) (hc0 : ¬firstPt (grid0.coords t)) (hc1 : streamPt (grid0.coords t)) (hc2 : ¬openPt (grid0.coords t)) (hc3 : morePt (grid0.coords t))
    (x0 : Vec F S512x1024 .f32) (x1 : Vec F S512x1024 .bf16) (x2 : Vec F S1024x1024 .bf16) (x3 : Vec F S1x1024 .f32) (x4 : Vec F S1024x2816 .bf16) (x5 : Vec F S1024x2816 .bf16) (x6 : Vec F S11x256x1024 .bf16) (x7 : Vec F S1x8x256 .f32) (x8 : Vec F S1x8x256 .f32) (x9 : Vec F S1x8x256 .f32) (x10 : Vec F S32x2048 .f32) (y : Vec F S512x1024 .f32) (h : Vec F S512x1024 .bf16) (fh0 : SrcBuf (F := F) c kSrc) (fh1 : SrcBuf (F := F) c vSrc) :
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x10 ∗ owns (c : Thread nD τ) arg14 fullShare y ∗ (∃ d, owns (c : Thread nD τ) arg15 fullShare d) ∗ (∃ d, owns (c : Thread nD τ) arg16 fullShare d) ∗ (∃ d, owns (c : Thread nD τ) arg17 fullShare d) ∗ owns (c : Thread nD τ) arg18 fullShare h ∗ Ring.inflight (flightWK c fh0) (Ring.sl 3 t.val) (Ring.bk 256 t.val) ∗ Ring.inflight (flightWK c fh0) (Ring.sl 3 (t.val + 1)) (Ring.bk 256 (t.val + 1)) ∗ Ring.free (cellPK c) (slotWK c fh0) (Ring.sl 3 (t.val + 2)) ∗ Ring.inflight (flightWV c fh1) (Ring.sl 3 t.val) (Ring.bk 256 t.val) ∗ Ring.inflight (flightWV c fh1) (Ring.sl 3 (t.val + 1)) (Ring.bk 256 (t.val + 1)) ∗ Ring.free (cellPV c) (slotWV c fh1) (Ring.sl 3 (t.val + 2)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x10 ∗ owns (c : Thread nD τ) arg14 fullShare (yMore (grid0.coords t) hc3 h x4 x5 x6 (yStep (grid0.coords t) h x4 x5 x6 y)) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare h ∗ Ring.inflight (flightWK c fh0) (Ring.sl 3 (t.val + 1)) (Ring.bk 256 (t.val + 1)) ∗ Ring.inflight (flightWK c fh0) (Ring.sl 3 (t.val + 2)) (Ring.bk 256 (t.val + 2)) ∗ Ring.free (cellPK c) (slotWK c fh0) (Ring.sl 3 t.val) ∗ Ring.inflight (flightWV c fh1) (Ring.sl 3 (t.val + 1)) (Ring.bk 256 (t.val + 1)) ∗ Ring.inflight (flightWV c fh1) (Ring.sl 3 (t.val + 2)) (Ring.bk 256 (t.val + 2)) ∗ Ring.free (cellPV c) (slotWV c fh1) (Ring.sl 3 t.val) ∗ (∃ W', owes (c : Thread nD τ) 0 W')) -∗ K ⟨⟩))
          ⊢ wp frame (wpE (defs₀ (F := F)) Variants.none c none) Set.univ (cc0_ffn_cache (grid0.coords t) arg1 harg1 arg2 harg2 arg3 harg3 arg4 harg4 arg5 harg5 arg6 harg6 arg7 harg7 arg8 harg8 arg9 harg9 arg10 harg10 (Memref.whole main_arg10) (Memref.isWhole_whole _) (Memref.whole main_arg11) (Memref.isWhole_whole _) arg13 harg13 arg14 harg14 arg15 harg15 arg16 harg16 arg17 harg17 arg18 harg18 kRing (Memref.isWhole_whole _) vRing (Memref.isWhole_whole _) cc0_scratch3) K := by
    intro W K
    haveI : Fact (¬firstPt (grid0.coords t)) := ⟨hc0⟩
    haveI : Fact (streamPt (grid0.coords t)) := ⟨hc1⟩
    haveI : Fact (¬openPt (grid0.coords t)) := ⟨hc2⟩
    haveI : Fact (morePt (grid0.coords t)) := ⟨hc3⟩
    simp only [cc0_ffn_cache_eq_skeleton]; unfold cc0_ffn_cache_skel
    simp only [k0_part32_eq_skeleton, k0_part3_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs0, %hfs0, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1_0, Hf0_1_0, Hrf0_1_0⟩, ⟨%ff0_1_1, Hf0_1_1, Hrf0_1_1⟩, ⟨Hc0_1_2, ⟨%fs0_1_2, Hs0_1_2, Hw0_1_2⟩⟩, HW, Hk⟩
    ihave Hsp0_0_2 := (srcK_split c fh0 (Ring.sl 3 (t.val + 2)) (Ring.bk 256 (t.val + 2))).1 $$ Hw0_0_2
    icases Hsp0_0_2 with ⟨Hh0_0_2, Hr0_0_2⟩
    ihave Hsp0_1_2 := (srcV_split c fh1 (Ring.sl 3 (t.val + 2)) (Ring.bk 256 (t.val + 2))).1 $$ Hw0_1_2
    icases Hsp0_1_2 with ⟨Hh0_1_2, Hr0_1_2⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf10; obtain rfl := harg14.eq_unread hf11; obtain rfl := harg18.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg13.read_unread _
      iexact H10
    isplitl [H11]
    · iexists _; isplitr; swap; · iexact H11
      ipureintro
      refine (read_full _ _ _ _ _).trans ?_
      have hz : (![0, 0] : Fin 2 → Nat) = fun _ => 0 := by funext a; fin_cases a <;> rfl
      have hv : ¬ run_C.sl.v19 t = 1#1 := fun hh => hc2 ((openPt_iff t).mpr ((openWord_iff t).mp hh))
      delta run_C.sl.r_50 run_C.sl.r_48 run_C.sl.r_49 run_C.sl.v1177 run_C.sl.cst_485 run_C.sl.v1209 run_C.sl.v1211 run_C.sl.v1217 run_C.sl.v1221 run_C.sl.v1235 run_C.sl.H11_1
      simp only [dif_neg hv, View.readAt_eq_ld, read_full, harg1.read_unread, harg2.read_unread, harg3.read_unread, harg4.read_unread, harg5.read_unread, harg6.read_unread, harg7.read_unread, harg14.read_unread, harg18.read_unread, ld_full (S := S512x1024) hz, ld_full (S := S1024x1024) hz, ld_full (S := S1x1024) hz, View.readCov_cons_toLoadRect, yStep, yMore]
      delta run_C.sl.v1175
      simp only [dif_neg hv, View.readAt_eq_ld, harg14.read_unread, ld_full (S := S512x1024) hz]
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _; isplitr; swap; · iexact HS0
      ipureintro
      have hv : ¬ run_C.sl.v19 t = 1#1 := fun hh => hc2 ((openPt_iff t).mpr ((openWord_iff t).mp hh))
      rw [dif_neg hv]; exact harg18.read_unread h
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (srcK_split c fh0 (Ring.sl 3 t.val) (Ring.bk 256 t.val)).2; isplitl [Hf0_0_0_src]; · iexact Hf0_0_0_src
      iexact Hrf0_0_0
    isplitl [Hf0_1_1 Hrf0_1_1]
    · iexists ff0_1_1; isplitl [Hf0_1_1]; · iexact Hf0_1_1
      iexact Hrf0_1_1
    isplitl [Hc0_1_2 Hr0_1_2]
    · iexists _; isplitl [Hc0_1_2]; · iexact Hc0_1_2
      iexact Hr0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (srcV_split c fh1 (Ring.sl 3 t.val) (Ring.bk 256 t.val)).2; isplitl [Hf0_1_0_src]; · iexact Hf0_1_0_src
      iexact Hrf0_1_0
    iexists _; iexact HW

end Cert.PromptFfnIdeal.Feed

end
-- ==== Proof.PfRunD.lean ====
module

public import proofs.«01_k».proof.Proof.PfRunA
public import proofs.«01_k».proof.Proof.Gen.PromptFfnIdeal.Skeleton

@[expose] public section

set_option maxRecDepth 16384

noncomputable section

/-! The prompt's feed-forward call: the run of the body at a point that opens a new block of rows. -/

namespace Cert.PromptFfnIdeal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptFfnIdeal.Gen

variable {F : FTy → Type} [FloatOps F]
variable (m : (ℓ : Loc nD τ sig) → Buf (Elt F) ℓ) (ρ : Dev nD → PrngReg)

set_option maxHeartbeats 1460000 in
theorem run_D (c : Dev nD) (t : Fin cfg0.N) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S11x256x1024 .bf16) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg13 : Memref sig .tc .vmem S32x2048 .f32) (harg13 : arg13.IsWhole) (arg14 : Memref sig .tc .vmem S512x1024 .f32) (harg14 : arg14.IsWhole) (arg15 : Memref sig .tc .vmem S1x8x256 .f32) (harg15 : arg15.IsWhole) (arg16 : Memref sig .tc .vmem S1x256x2048 .f32) (harg16 : arg16.IsWhole) (arg17 : Memref sig .tc .vmem S1x256x2048 .f32) (harg17 : arg17.IsWhole) (arg18 : Memref sig .tc .vmem S512x1024 .bf16) (harg18 : arg18.IsWhole) (hc0 : ¬firstPt (grid0.coords t)) (hc1 : streamPt (grid0.coords t)) (hc2 : openPt (grid0.coords t)) (hc3 : ¬morePt (grid0.coords t))
    (x0 : Vec F S512x1024 .f32) (x1 : Vec F S512x1024 .bf16) (x2 : Vec F S1024x1024 .bf16) (x3 : Vec F S1x1024 .f32) (x4 : Vec F S1024x2816 .bf16) (x5 : Vec F S1024x2816 .bf16) (x6 : Vec F S11x256x1024 .bf16) (x7 : Vec F S1x8x256 .f32) (x8 : Vec F S1x8x256 .f32) (x9 : Vec F S1x8x256 .f32) (x10 : Vec F S32x2048 .f32) (fh0 : SrcBuf (F := F) c kSrc) (fh1 : SrcBuf (F := F) c vSrc) :
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ Ring.inflight (flightWK c fh0) (Ring.sl 3 t.val) (Ring.bk 256 t.val) ∗ Ring.inflight (flightWK c fh0) (Ring.sl 3 (t.val + 1)) (Ring.bk 256 (t.val + 1)) ∗ Ring.free (cellPK c) (slotWK c fh0) (Ring.sl 3 (t.val + 2)) ∗ Ring.inflight (flightWV c fh1) (Ring.sl 3 t.val) (Ring.bk 256 t.val) ∗ Ring.inflight (flightWV c fh1) (Ring.sl 3 (t.val + 1)) (Ring.bk 256 (t.val + 1)) ∗ Ring.free (cellPV c) (slotWV c fh1) (Ring.sl 3 (t.val + 2)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x10 ∗ owns (c : Thread nD τ) arg14 fullShare (yOpen (grid0.coords t) x0 x1 x2 x3 x4 x5 x6) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (hOpen x0 x1 x2 x3) ∗ Ring.inflight (flightWK c fh0) (Ring.sl 3 (t.val + 1)) (Ring.bk 256 (t.val + 1)) ∗ Ring.inflight (flightWK c fh0) (Ring.sl 3 (t.val + 2)) (Ring.bk 256 (t.val + 2)) ∗ Ring.free (cellPK c) (slotWK c fh0) (Ring.sl 3 t.val) ∗ Ring.inflight (flightWV c fh1) (Ring.sl 3 (t.val + 1)) (Ring.bk 256 (t.val + 1)) ∗ Ring.inflight (flightWV c fh1) (Ring.sl 3 (t.val + 2)) (Ring.bk 256 (t.val + 2)) ∗ Ring.free (cellPV c) (slotWV c fh1) (Ring.sl 3 t.val) ∗ (∃ W', owes (c : Thread nD τ) 0 W')) -∗ K ⟨⟩))
          ⊢ wp frame (wpE (defs₀ (F := F)) Variants.none c none) Set.univ (cc0_ffn_cache (grid0.coords t) arg1 harg1 arg2 harg2 arg3 harg3 arg4 harg4 arg5 harg5 arg6 harg6 arg7 harg7 arg8 harg8 arg9 harg9 arg10 harg10 (Memref.whole main_arg10) (Memref.isWhole_whole _) (Memref.whole main_arg11) (Memref.isWhole_whole _) arg13 harg13 arg14 harg14 arg15 harg15 arg16 harg16 arg17 harg17 arg18 harg18 kRing (Memref.isWhole_whole _) vRing (Memref.isWhole_whole _) cc0_scratch3) K := by
    intro W K
    haveI : Fact (¬firstPt (grid0.coords t)) := ⟨hc0⟩
    haveI : Fact (streamPt (grid0.coords t)) := ⟨hc1⟩
    haveI : Fact (openPt (grid0.coords t)) := ⟨hc2⟩
    haveI : Fact (¬morePt (grid0.coords t)) := ⟨hc3⟩
    simp only [cc0_ffn_cache_eq_skeleton]; unfold cc0_ffn_cache_skel
    simp only [k0_part32_eq_skeleton, k0_part3_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%ds0, %fs0, -, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1_0, Hf0_1_0, Hrf0_1_0⟩, ⟨%ff0_1_1, Hf0_1_1, Hrf0_1_1⟩, ⟨Hc0_1_2, ⟨%fs0_1_2, Hs0_1_2, Hw0_1_2⟩⟩, HW, Hk⟩
    ihave Hsp0_0_2 := (srcK_split c fh0 (Ring.sl 3 (t.val + 2)) (Ring.bk 256 (t.val + 2))).1 $$ Hw0_0_2
    icases Hsp0_0_2 with ⟨Hh0_0_2, Hr0_0_2⟩
    ihave Hsp0_1_2 := (srcV_split c fh1 (Ring.sl 3 (t.val + 2)) (Ring.bk 256 (t.val + 2))).1 $$ Hw0_1_2
    icases Hsp0_1_2 with ⟨Hh0_1_2, Hr0_1_2⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf10
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg13.read_unread _
      iexact H10
    isplitl [H11]
    · iexists _; isplitr; swap; · iexact H11
      ipureintro
      refine (read_full _ _ _ _ _).trans ?_
      have hz : (![0, 0] : Fin 2 → Nat) = fun _ => 0 := by funext a; fin_cases a <;> rfl
      have hv : run_D.sl.v19 t = 1#1 := (openWord_iff t).mpr ((openPt_iff t).mp hc2)
      delta run_D.sl.r_50 run_D.sl.r_48 run_D.sl.r_49 run_D.sl.v1177 run_D.sl.cst_485
      simp only [dif_pos hv, View.readAt_eq_ld, read_full, harg1.read_unread, harg2.read_unread, harg3.read_unread, harg4.read_unread, harg5.read_unread, harg6.read_unread, harg7.read_unread, ld_full (S := S512x1024) hz, ld_full (S := S1024x1024) hz, ld_full (S := S1x1024) hz, yOpen, yStep, hOpen]
      refine congrArg₂ (fun a b => k0_pay182 (F := F) (k0_pay180 (F := F) a) b _ _ _ _) ?_ (read_full _ _ _ _ _)
      delta run_D.sl.v1175
      simp only [View.readAt_eq_ld, read_full, harg1.read_unread, harg2.read_unread, harg3.read_unread, ld_full (S := S512x1024) hz, ld_full (S := S1024x1024) hz]
      rw [dif_pos hv]
      exact read_full (F := F) _ _ _ _ _
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _; isplitr; swap; · iexact HS0
      ipureintro
      have hz : (![0, 0] : Fin 2 → Nat) = fun _ => 0 := by funext a; fin_cases a <;> rfl
      have hv : run_D.sl.v19 t = 1#1 := (openWord_iff t).mpr ((openPt_iff t).mp hc2)
      rw [dif_pos hv]
      refine (read_full _ _ _ _ _).trans ?_
      simp only [View.readAt_eq_ld, read_full, harg1.read_unread, harg2.read_unread, harg3.read_unread, harg4.read_unread, harg5.read_unread, harg6.read_unread, harg7.read_unread, ld_full (S := S512x1024) hz, ld_full (S := S1024x1024) hz, ld_full (S := S1x1024) hz, hOpen]
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (srcK_split c fh0 (Ring.sl 3 t.val) (Ring.bk 256 t.val)).2; isplitl [Hf0_0_0_src]; · iexact Hf0_0_0_src
      iexact Hrf0_0_0
    isplitl [Hf0_1_1 Hrf0_1_1]
    · iexists ff0_1_1; isplitl [Hf0_1_1]; · iexact Hf0_1_1
      iexact Hrf0_1_1
    isplitl [Hc0_1_2 Hr0_1_2]
    · iexists _; isplitl [Hc0_1_2]; · iexact Hc0_1_2
      iexact Hr0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (srcV_split c fh1 (Ring.sl 3 t.val) (Ring.bk 256 t.val)).2; isplitl [Hf0_1_0_src]; · iexact Hf0_1_0_src
      iexact Hrf0_1_0
    iexists _; iexact HW

end Cert.PromptFfnIdeal.Feed

end
-- ==== Proof.PfRunE.lean ====
module

public import proofs.«01_k».proof.Proof.PfRunA
public import proofs.«01_k».proof.Proof.Gen.PromptFfnIdeal.Skeleton

@[expose] public section

set_option maxRecDepth 16384

noncomputable section

/-! The prompt's feed-forward call: the run of the body at the last two points, which ask for no page. -/

namespace Cert.PromptFfnIdeal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptFfnIdeal.Gen

variable {F : FTy → Type} [FloatOps F]
variable (m : (ℓ : Loc nD τ sig) → Buf (Elt F) ℓ) (ρ : Dev nD → PrngReg)

set_option maxHeartbeats 1252000 in
theorem run_E (c : Dev nD) (t : Fin cfg0.N) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S11x256x1024 .bf16) (harg7 : arg7.IsWhole) (arg8 : Memref sig .tc .vmem S1x8x256 .f32) (harg8 : arg8.IsWhole) (arg9 : Memref sig .tc .vmem S1x8x256 .f32) (harg9 : arg9.IsWhole) (arg10 : Memref sig .tc .vmem S1x8x256 .f32) (harg10 : arg10.IsWhole) (arg13 : Memref sig .tc .vmem S32x2048 .f32) (harg13 : arg13.IsWhole) (arg14 : Memref sig .tc .vmem S512x1024 .f32) (harg14 : arg14.IsWhole) (arg15 : Memref sig .tc .vmem S1x8x256 .f32) (harg15 : arg15.IsWhole) (arg16 : Memref sig .tc .vmem S1x256x2048 .f32) (harg16 : arg16.IsWhole) (arg17 : Memref sig .tc .vmem S1x256x2048 .f32) (harg17 : arg17.IsWhole) (arg18 : Memref sig .tc .vmem S512x1024 .bf16) (harg18 : arg18.IsWhole) (hc0 : ¬firstPt (grid0.coords t)) (hc1 : ¬streamPt (grid0.coords t)) (hc2 : ¬openPt (grid0.coords t)) (hc3 : morePt (grid0.coords t))
    (x0 : Vec F S512x1024 .f32) (x1 : Vec F S512x1024 .bf16) (x2 : Vec F S1024x1024 .bf16) (x3 : Vec F S1x1024 .f32) (x4 : Vec F S1024x2816 .bf16) (x5 : Vec F S1024x2816 .bf16) (x6 : Vec F S11x256x1024 .bf16) (x7 : Vec F S1x8x256 .f32) (x8 : Vec F S1x8x256 .f32) (x9 : Vec F S1x8x256 .f32) (x10 : Vec F S32x2048 .f32) (y : Vec F S512x1024 .f32) (h : Vec F S512x1024 .bf16) (fh0 : SrcBuf (F := F) c kSrc) (fh1 : SrcBuf (F := F) c vSrc) :
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x10 ∗ owns (c : Thread nD τ) arg14 fullShare y ∗ (∃ d, owns (c : Thread nD τ) arg15 fullShare d) ∗ (∃ d, owns (c : Thread nD τ) arg16 fullShare d) ∗ (∃ d, owns (c : Thread nD τ) arg17 fullShare d) ∗ owns (c : Thread nD τ) arg18 fullShare h ∗ Ring.inflight (flightWK c fh0) (Ring.sl 3 t.val) (Ring.bk 256 t.val) ∗ Ring.slotAt 2 (cellPK c) (slotWK c fh0) (flightWK c fh0) t.val 1 ∗ Ring.free (cellPK c) (slotWK c fh0) (Ring.sl 3 (t.val + 2)) ∗ Ring.inflight (flightWV c fh1) (Ring.sl 3 t.val) (Ring.bk 256 t.val) ∗ Ring.slotAt 2 (cellPV c) (slotWV c fh1) (flightWV c fh1) t.val 1 ∗ Ring.free (cellPV c) (slotWV c fh1) (Ring.sl 3 (t.val + 2)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x10 ∗ owns (c : Thread nD τ) arg14 fullShare (yMore (grid0.coords t) hc3 h x4 x5 x6 (yStep (grid0.coords t) h x4 x5 x6 y)) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare h ∗ Ring.slotAt 2 (cellPK c) (slotWK c fh0) (flightWK c fh0) t.val 1 ∗ Ring.free (cellPK c) (slotWK c fh0) (Ring.sl 3 (t.val + 2)) ∗ Ring.free (cellPK c) (slotWK c fh0) (Ring.sl 3 t.val) ∗ Ring.slotAt 2 (cellPV c) (slotWV c fh1) (flightWV c fh1) t.val 1 ∗ Ring.free (cellPV c) (slotWV c fh1) (Ring.sl 3 (t.val + 2)) ∗ Ring.free (cellPV c) (slotWV c fh1) (Ring.sl 3 t.val) ∗ (∃ W', owes (c : Thread nD τ) 0 W')) -∗ K ⟨⟩))
          ⊢ wp frame (wpE (defs₀ (F := F)) Variants.none c none) Set.univ (cc0_ffn_cache (grid0.coords t) arg1 harg1 arg2 harg2 arg3 harg3 arg4 harg4 arg5 harg5 arg6 harg6 arg7 harg7 arg8 harg8 arg9 harg9 arg10 harg10 (Memref.whole main_arg10) (Memref.isWhole_whole _) (Memref.whole main_arg11) (Memref.isWhole_whole _) arg13 harg13 arg14 harg14 arg15 harg15 arg16 harg16 arg17 harg17 arg18 harg18 kRing (Memref.isWhole_whole _) vRing (Memref.isWhole_whole _) cc0_scratch3) K := by
    intro W K
    haveI : Fact (¬firstPt (grid0.coords t)) := ⟨hc0⟩
    haveI : Fact (¬streamPt (grid0.coords t)) := ⟨hc1⟩
    haveI : Fact (¬openPt (grid0.coords t)) := ⟨hc2⟩
    haveI : Fact (morePt (grid0.coords t)) := ⟨hc3⟩
    simp only [cc0_ffn_cache_eq_skeleton]; unfold cc0_ffn_cache_skel
    simp only [k0_part32_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs0, %hfs0, HS0⟩, ⟨%ff0_0_0, Hf0_0_0, Hrf0_0_0⟩, Hro0_0_1, ⟨Hc0_0_2, ⟨%fs0_0_2, Hs0_0_2, Hw0_0_2⟩⟩, ⟨%ff0_1_0, Hf0_1_0, Hrf0_1_0⟩, Hro0_1_1, ⟨Hc0_1_2, ⟨%fs0_1_2, Hs0_1_2, Hw0_1_2⟩⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf10; obtain rfl := harg14.eq_unread hf11; obtain rfl := harg18.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg13.read_unread _
      iexact H10
    isplitl [H11]
    · iexists _; isplitr; swap; · iexact H11
      ipureintro
      refine (read_full _ _ _ _ _).trans ?_
      have hz : (![0, 0] : Fin 2 → Nat) = fun _ => 0 := by funext a; fin_cases a <;> rfl
      have hv : ¬ run_E.sl.v19 t = 1#1 := fun hh => hc2 ((openPt_iff t).mpr ((openWord_iff t).mp hh))
      delta run_E.sl.r_50 run_E.sl.r_48 run_E.sl.r_49 run_E.sl.v1177 run_E.sl.cst_485 run_E.sl.v1209 run_E.sl.v1211 run_E.sl.v1217 run_E.sl.v1221 run_E.sl.v1235 run_E.sl.H11_1
      simp only [dif_neg hv, View.readAt_eq_ld, read_full, harg1.read_unread, harg2.read_unread, harg3.read_unread, harg4.read_unread, harg5.read_unread, harg6.read_unread, harg7.read_unread, harg14.read_unread, harg18.read_unread, ld_full (S := S512x1024) hz, ld_full (S := S1024x1024) hz, ld_full (S := S1x1024) hz, View.readCov_cons_toLoadRect, yStep, yMore]
      delta run_E.sl.v1175
      simp only [dif_neg hv, View.readAt_eq_ld, harg14.read_unread, ld_full (S := S512x1024) hz]
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _; isplitr; swap; · iexact HS0
      ipureintro
      have hv : ¬ run_E.sl.v19 t = 1#1 := fun hh => hc2 ((openPt_iff t).mpr ((openWord_iff t).mp hh))
      rw [dif_neg hv]; exact harg18.read_unread h
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (srcK_split c fh0 (Ring.sl 3 t.val) (Ring.bk 256 t.val)).2; isplitl [Hf0_0_0_src]; · iexact Hf0_0_0_src
      iexact Hrf0_0_0
    isplitl [Hro0_1_1]; · iexact Hro0_1_1
    isplitl [Hc0_1_2 Hs0_1_2 Hw0_1_2]
    · isplitl [Hc0_1_2]; · iexact Hc0_1_2
      iexists _; isplitl [Hs0_1_2]; · iexact Hs0_1_2
      iexact Hw0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (srcV_split c fh1 (Ring.sl 3 t.val) (Ring.bk 256 t.val)).2; isplitl [Hf0_1_0_src]; · iexact Hf0_1_0_src
      iexact Hrf0_1_0
    iexists _; iexact HW

end Cert.PromptFfnIdeal.Feed

end
-- ==== Proof.PfData.lean ====
module

public import proofs.«01_k».proof.Proof.PfStep

@[expose] public section

set_option maxRecDepth 16384

noncomputable section

/-! The prompt's feed-forward call: what the rows and the hidden scratch hold point by point, and the pipeline's proof data. -/

namespace Cert.PromptFfnIdeal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptFfnIdeal.Gen

variable {F : FTy → Type} [FloatOps F]
variable (m : (ℓ : Loc nD τ sig) → Buf (Elt F) ℓ) (ρ : Dev nD → PrngReg)

/-- Point `n` of the grid. -/
def pt (n : ℕ) : Fin cfg0.N := ⟨n % 256, lt_of_lt_of_eq (Nat.mod_lt n (by decide)) (show 256 = cfg0.N from N_0.symm)⟩

theorem pt_val (t : Fin cfg0.N) : pt t.val = t :=
  Fin.ext (Nat.mod_eq_of_lt (lt_of_lt_of_eq t.isLt (show cfg0.N = 256 from N_0)))

/-- The normalized rows that the hidden scratch holds inside the block of rows that point `k` lies in. -/
def hAt (c : Dev nD) (k : ℕ) : Vec F S512x1024 .bf16 :=
  hOpen (iblk m c 0 (pt (k / 8 * 8))) (iblk m c 1 (pt (k / 8 * 8))) (iblk m c 2 (pt (k / 8 * 8))) (iblk m c 3 (pt (k / 8 * 8)))

/-- What point `t` makes of the rows `y` it finds. -/
def yNext (c : Dev nD) (t : Fin cfg0.N) (y : Vec F S512x1024 .f32) : Vec F S512x1024 .f32 :=
  if t.val % 8 = 0 then yOpen (grid0.coords t) (iblk m c 0 t) (iblk m c 1 t) (iblk m c 2 t) (iblk m c 3 t) (iblk m c 4 t) (iblk m c 5 t) (iblk m c 6 t)
  else if h3 : t.val % 8 = 5 ∨ t.val % 8 = 6 ∨ t.val % 8 = 7 then
    yMore (grid0.coords t) ((morePt_iff t).mpr h3) (hAt m c t.val) (iblk m c 4 t) (iblk m c 5 t) (iblk m c 6 t)
      (yStep (grid0.coords t) (hAt m c t.val) (iblk m c 4 t) (iblk m c 5 t) (iblk m c 6 t) y)
  else yStep (grid0.coords t) (hAt m c t.val) (iblk m c 4 t) (iblk m c 5 t) (iblk m c 6 t) y

/-- The rows as the points before point `n` leave them. -/
def yAt (c : Dev nD) : ℕ → Vec F S512x1024 .f32
  | 0 => iblk m c 0 (pt 0)
  | n + 1 => yNext m c (pt n) (yAt c n)

theorem yAt_succ (c : Dev nD) (t : Fin cfg0.N) : yAt m c (t.val + 1) = yNext m c t (yAt m c t.val) := by
  rw [yAt, pt_val]

theorem yAt_open (c : Dev nD) (t : Fin cfg0.N) (h2 : t.val % 8 = 0) :
    yAt m c (t.val + 1) = yOpen (grid0.coords t) (iblk m c 0 t) (iblk m c 1 t) (iblk m c 2 t) (iblk m c 3 t) (iblk m c 4 t) (iblk m c 5 t) (iblk m c 6 t) := by
  rw [yAt_succ, yNext, if_pos h2]

theorem yAt_step (c : Dev nD) (t : Fin cfg0.N) (h2 : ¬ t.val % 8 = 0) (h3 : ¬ (t.val % 8 = 5 ∨ t.val % 8 = 6 ∨ t.val % 8 = 7)) :
    yAt m c (t.val + 1) = yStep (grid0.coords t) (hAt m c t.val) (iblk m c 4 t) (iblk m c 5 t) (iblk m c 6 t) (yAt m c t.val) := by
  rw [yAt_succ, yNext, if_neg h2, dif_neg h3]

theorem yAt_more (c : Dev nD) (t : Fin cfg0.N) (h2 : ¬ t.val % 8 = 0) (h3 : t.val % 8 = 5 ∨ t.val % 8 = 6 ∨ t.val % 8 = 7) :
    yAt m c (t.val + 1) = yMore (grid0.coords t) ((morePt_iff t).mpr h3) (hAt m c t.val) (iblk m c 4 t) (iblk m c 5 t) (iblk m c 6 t)
      (yStep (grid0.coords t) (hAt m c t.val) (iblk m c 4 t) (iblk m c 5 t) (iblk m c 6 t) (yAt m c t.val)) := by
  rw [yAt_succ, yNext, if_neg h2, dif_pos h3]

/-- Inside a block of rows the scratch stays as it is. -/
theorem hAt_succ (c : Dev nD) (k : ℕ) (h : (k + 1) % 8 ≠ 0) : hAt m c (k + 1) = hAt m c k := by
  unfold hAt; rw [show (k + 1) / 8 * 8 = k / 8 * 8 by omega]

/-- The first point of a block of rows sets it. -/
theorem hAt_open (c : Dev nD) (t : Fin cfg0.N) (h2 : t.val % 8 = 0) :
    hOpen (iblk m c 0 t) (iblk m c 1 t) (iblk m c 2 t) (iblk m c 3 t) = hAt m c (t.val + 1) := by
  unfold hAt; rw [show (t.val + 1) / 8 * 8 = t.val by omega, pt_val]

/-- Before point `k`: the hidden scratch, inside a block of rows at the normalized rows; the register; the two rings. -/
def PhiR (c : Dev nD) (k : ℕ) : sProp (MT nD τ sig Unit (Elt F) ℕ (Pipeline.UD sig nD τ) ℕ) := iprop((∃ d, ⌜k % 8 ≠ 0 → d = hAt m c k⌝ ∗ owns (c : Thread nD τ) hRef fullShare d) ∗ (∃ r, prngReg c r) ∗ ringAtK c (V m c main_arg10) k ∗ ringAtV c (V m c main_arg11) k)

/-- The three outputs about which nothing is claimed. -/
def unread : Fin 15 → Bool := fun w => w.val == 12 || w.val == 13 || w.val == 14

/-- The proof data: inputs keep their block, the rows are `yAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => yAt m c (t.val + 1)
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]

theorem after_11 (c : Dev nD) (t : Fin cfg0.N) : (dats m 0 c).after 11 t = yAt m c (t.val + 1) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)

/-- The rows are written back only at the last point of their block. -/
theorem flush_iff : ∀ t : Fin grid0.N, (cfg0.win 11).flush t = decide (t.val % 8 = 7) := by decide +kernel

/-- Inside a block of rows a point finds the rows as the point before left them. -/
theorem before_11 (c : Dev nD) (t : Fin cfg0.N) (h2 : ¬ t.val % 8 = 0) (d) : (dats m 0 c).before 11 t d = yAt m c t.val := by
  refine ((dats m 0 c).before_out_kept 11 rfl t (by omega) ((flush_iff _).trans (decide_eq_false ?_)) (fun _ => rfl) (fun _ _ => rfl) d).trans ?_
  · show ¬ (t.val - 1) % 8 = 7
    omega
  · rw [after_11]; show yAt m c (t.val - 1 + 1) = _
    rw [Nat.sub_add_cancel (by omega)]

end Cert.PromptFfnIdeal.Feed

end
-- ==== Proof.PfBody.lean ====
module

public import proofs.«01_k».proof.Proof.PfRunA
public import proofs.«01_k».proof.Proof.PfRunB
public import proofs.«01_k».proof.Proof.PfRunC
public import proofs.«01_k».proof.Proof.PfRunD
public import proofs.«01_k».proof.Proof.PfRunE
public import proofs.«01_k».proof.Proof.PfData
public import Idealize.ShloMosaic.Lib.Claim

@[expose] public section

set_option maxRecDepth 16384

noncomputable section

/-! The prompt's feed-forward call: the body at every point, the launch, and the run. -/

namespace Cert.PromptFfnIdeal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptFfnIdeal.Gen

variable {F : FTy → Type} [FloatOps F]
variable (m : (ℓ : Loc nD τ sig) → Buf (Elt F) ℓ) (ρ : Dev nD → PrngReg)

/-- What the body is called with at point `t`. -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (stg_0 t) fullShare ((dats m 0 c).before 0 t d))
    ∗ (∃ d, owns (c : Thread nD τ) (stg_1 t) fullShare ((dats m 0 c).before 1 t d))
    ∗ (∃ d, owns (c : Thread nD τ) (stg_2 t) fullShare ((dats m 0 c).before 2 t d))
    ∗ (∃ d, owns (c : Thread nD τ) (stg_3 t) fullShare ((dats m 0 c).before 3 t d))
    ∗ (∃ d, owns (c : Thread nD τ) (stg_4 t) fullShare ((dats m 0 c).before 4 t d))
    ∗ (∃ d, owns (c : Thread nD τ) (stg_5 t) fullShare ((dats m 0 c).before 5 t d))
    ∗ (∃ d, owns (c : Thread nD τ) (stg_6 t) fullShare ((dats m 0 c).before 6 t d))
    ∗ (∃ d, owns (c : Thread nD τ) (stg_7 t) fullShare ((dats m 0 c).before 7 t d))
    ∗ (∃ d, owns (c : Thread nD τ) (stg_8 t) fullShare ((dats m 0 c).before 8 t d))
    ∗ (∃ d, owns (c : Thread nD τ) (stg_9 t) fullShare ((dats m 0 c).before 9 t d))
    ∗ (∃ d, owns (c : Thread nD τ) (stg_10 t) fullShare ((dats m 0 c).before 10 t d))
    ∗ (∃ d, owns (c : Thread nD τ) (stg_11 t) fullShare ((dats m 0 c).before 11 t d))
    ∗ (∃ d, owns (c : Thread nD τ) (stg_12 t) fullShare d)
    ∗ (∃ d, owns (c : Thread nD τ) (stg_13 t) fullShare d)
    ∗ (∃ d, owns (c : Thread nD τ) (stg_14 t) fullShare d))

/-- What it hands back. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (stg_0 t) fullShare ((dats m 0 c).after 0 t)
    ∗ owns (c : Thread nD τ) (stg_1 t) fullShare ((dats m 0 c).after 1 t)
    ∗ owns (c : Thread nD τ) (stg_2 t) fullShare ((dats m 0 c).after 2 t)
    ∗ owns (c : Thread nD τ) (stg_3 t) fullShare ((dats m 0 c).after 3 t)
    ∗ owns (c : Thread nD τ) (stg_4 t) fullShare ((dats m 0 c).after 4 t)
    ∗ owns (c : Thread nD τ) (stg_5 t) fullShare ((dats m 0 c).after 5 t)
    ∗ owns (c : Thread nD τ) (stg_6 t) fullShare ((dats m 0 c).after 6 t)
    ∗ owns (c : Thread nD τ) (stg_7 t) fullShare ((dats m 0 c).after 7 t)
    ∗ owns (c : Thread nD τ) (stg_8 t) fullShare ((dats m 0 c).after 8 t)
    ∗ owns (c : Thread nD τ) (stg_9 t) fullShare ((dats m 0 c).after 9 t)
    ∗ owns (c : Thread nD τ) (stg_10 t) fullShare ((dats m 0 c).after 10 t)
    ∗ owns (c : Thread nD τ) (stg_11 t) fullShare ((dats m 0 c).after 11 t)
    ∗ (∃ d, owns (c : Thread nD τ) (stg_12 t) fullShare d)
    ∗ (∃ d, owns (c : Thread nD τ) (stg_13 t) fullShare d)
    ∗ (∃ d, owns (c : Thread nD τ) (stg_14 t) fullShare d))

set_option maxHeartbeats 8000000 in
/-- The body at the first point. -/
theorem body_A (c : Dev nD) (t : Fin cfg0.N) (h0 :  t.val % 256 = 0) (h1 :  t.val < 254) (h2 :  t.val % 8 = 0) (h3 : ¬ (t.val % 8 = 5 ∨ t.val % 8 = 6 ∨ t.val % 8 = 7)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [after_0, after_1, after_2, after_3, after_4, after_5, after_6, after_7, after_8, after_9, after_10]
  rw [PhiR_castSucc m c t, PhiR_succ m c t]
  unfold Dat.owesAt Pipeline.owesWithin
  rw [show (dats m 0 c).owed t.castSucc = 0 from rfl, show (dats m 0 c).owed t.succ = 0 from rfl]
  unfold PhiR ringAtK ringAtV
  have hgN : grid0.N = 256 := N_0
  have hN : t.val < 256 := lt_of_lt_of_eq t.isLt (show cfg0.N = 256 from N_0)
  rw [after_11, yAt_open m c t h2]
  have hr0 := rstepK_A t ((firstPt_iff t).mpr h0) ((streamPt_iff t).mpr h1) ((openPt_iff t).mpr h2) (fun h => h3 ((morePt_iff t).mp h))
  obtain ⟨hK00, hK10⟩ := hr0
  rw [if_pos hK00, if_neg (show ¬t.val + 1 = 0 by omega)]
  rw [Ring.At₀_eq3' _ _ _ t.val hK00 (by decide : 3 ≤ 256), Ring.At3_one' _ _ _ _ t.val hK00 (by decide : 3 ≤ 256)]
  have hr1 := rstepV_A t ((firstPt_iff t).mpr h0) ((streamPt_iff t).mpr h1) ((openPt_iff t).mpr h2) (fun h => h3 ((morePt_iff t).mp h))
  obtain ⟨hK01, hK11⟩ := hr1
  rw [if_pos hK01, if_neg (show ¬t.val + 1 = 0 by omega)]
  rw [Ring.At₀_eq3' _ _ _ t.val hK01 (by decide : 3 ≤ 256), Ring.At3_one' _ _ _ _ t.val hK01 (by decide : 3 ≤ 256)]
  iintro ⟨⟨⟨%ds, %hds, HS0⟩, Hg, ⟨-, Hfr0_0_0, Hfr0_0_1, Hfr0_0_2⟩, ⟨-, Hfr0_1_0, Hfr0_1_1, Hfr0_1_2⟩⟩, ⟨%W, -, HW⟩, ⟨%d0, streamed⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((run_A c t _ _ _ _ _ _ _ _ _ _ _ _ _ _ _ _ _ _ _ _ _ _ _ _ _ _ _ _ _ _ _ _ ((firstPt_iff t).mpr h0) ((streamPt_iff t).mpr h1) ((openPt_iff t).mpr h2) (fun h => h3 ((morePt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_arg10) (V m c main_arg11)) W _)
  isplitl [streamed]; · iexact streamed
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [HS0]; · iexists _; iexact HS0
  isplitl [Hfr0_0_0]; · iexact Hfr0_0_0
  isplitl [Hfr0_0_1]; · iexact Hfr0_0_1
  isplitl [Hfr0_0_2]; · iexact Hfr0_0_2
  isplitl [Hfr0_1_0]; · iexact Hfr0_1_0
  isplitl [Hfr0_1_1]; · iexact Hfr0_1_1
  isplitl [Hfr0_1_2]; · iexact Hfr0_1_2
  isplitl [HW]; · iexact HW
  iintro ⟨streamed, H1, H2, H3, H4, H5, H6, H7, H8, H9, H10, H11, H12, H13, H14, HS0, Hfa0_0', Hfb0_0', Hfc0_0', Hfa0_1', Hfb0_1', Hfc0_1', ⟨%W', HW'⟩⟩
  isplitl [HS0 Hg Hfa0_0' Hfb0_0' Hfc0_0' Hfa0_1' Hfb0_1' Hfc0_1']
  · isplitl [HS0]; · (iexists _; isplitr; (focus (ipureintro; exact fun _ => hAt_open m c t h2)); iexact HS0)
    isplitl [Hg]; · iexact Hg
    isplitl [Hfa0_0' Hfb0_0' Hfc0_0']
    · iapply (Ring.with_homes (Idealize.SL.BI.Entails.refl _))
      isplitl [Hfa0_0']; · iexact Hfa0_0'
      isplitl [Hfb0_0']; · iexact Hfb0_0'
      iexact Hfc0_0'
    iapply (Ring.with_homes (Idealize.SL.BI.Entails.refl _))
    isplitl [Hfa0_1']; · iexact Hfa0_1'
    isplitl [Hfb0_1']; · iexact Hfb0_1'
    iexact Hfc0_1'
  isplitl [HW']
  · iexists W'; isplitr; · ipureintro; exact fun _ _ => Or.inl trivial
    iexact HW'
  isplitl [streamed]; · iexact streamed
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 8000000 in
/-- The body at a point that adds one chunk. -/
theorem body_B (c : Dev nD) (t : Fin cfg0.N) (h0 : ¬ t.val % 256 = 0) (h1 :  t.val < 254) (h2 : ¬ t.val % 8 = 0) (h3 : ¬ (t.val % 8 = 5 ∨ t.val % 8 = 6 ∨ t.val % 8 = 7)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [after_0, after_1, after_2, after_3, after_4, after_5, after_6, after_7, after_8, after_9, after_10]
  rw [PhiR_castSucc m c t, PhiR_succ m c t]
  unfold Dat.owesAt Pipeline.owesWithin
  rw [show (dats m 0 c).owed t.castSucc = 0 from rfl, show (dats m 0 c).owed t.succ = 0 from rfl]
  unfold PhiR ringAtK ringAtV
  have hgN : grid0.N = 256 := N_0
  have hN : t.val < 256 := lt_of_lt_of_eq t.isLt (show cfg0.N = 256 from N_0)
  rw [after_11, yAt_step m c t h2 h3]
  simp only [before_11 m c t h2]
  have hr0 := rstepK_B t (fun h => h0 ((firstPt_iff t).mp h)) ((streamPt_iff t).mpr h1) (fun h => h2 ((openPt_iff t).mp h)) (fun h => h3 ((morePt_iff t).mp h))
  obtain ⟨hK10, hKB0, hKs0⟩ := hr0
  rw [if_neg (show ¬t.val = 0 by omega), if_neg (show ¬t.val + 1 = 0 by omega)]
  rw [Ring.At3_here _ _ _ _ t.val hKB0, Ring.At3_next _ _ _ _ t.val hKB0, Ring.slotAt3_next0 _ _ _ t.val (by omega), Ring.slotAt3_next1 _ _ _ t.val hKB0]
  have hr1 := rstepV_B t (fun h => h0 ((firstPt_iff t).mp h)) ((streamPt_iff t).mpr h1) (fun h => h2 ((openPt_iff t).mp h)) (fun h => h3 ((morePt_iff t).mp h))
  obtain ⟨hK11, hKB1, hKs1⟩ := hr1
  rw [if_neg (show ¬t.val = 0 by omega), if_neg (show ¬t.val + 1 = 0 by omega)]
  rw [Ring.At3_here _ _ _ _ t.val hKB1, Ring.At3_next _ _ _ _ t.val hKB1, Ring.slotAt3_next0 _ _ _ t.val (by omega), Ring.slotAt3_next1 _ _ _ t.val hKB1]
  iintro ⟨⟨⟨%ds, %hds, HS0⟩, Hg, ⟨-, Hfr0_0_0, Hfr0_0_1, Hfr0_0_2⟩, ⟨-, Hfr0_1_0, Hfr0_1_1, Hfr0_1_2⟩⟩, ⟨%W, -, HW⟩, ⟨%d0, streamed⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl := hds h2
  iapply ((run_B c t _ _ _ _ _ _ _ _ _ _ _ _ _ _ _ _ _ _ _ _ _ _ _ _ _ _ _ _ _ _ _ _ (fun h => h0 ((firstPt_iff t).mp h)) ((streamPt_iff t).mpr h1) (fun h => h2 ((openPt_iff t).mp h)) (fun h => h3 ((morePt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (yAt m c t.val) (hAt m c t.val) (V m c main_arg10) (V m c main_arg11)) W _)
  isplitl [streamed]; · iexact streamed
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [HS0]; · iexact HS0
  isplitl [Hfr0_0_0]; · iexact Hfr0_0_0
  isplitl [Hfr0_0_1]; · iexact Hfr0_0_1
  isplitl [Hfr0_0_2]; · iexact Hfr0_0_2
  isplitl [Hfr0_1_0]; · iexact Hfr0_1_0
  isplitl [Hfr0_1_1]; · iexact Hfr0_1_1
  isplitl [Hfr0_1_2]; · iexact Hfr0_1_2
  isplitl [HW]; · iexact HW
  iintro ⟨streamed, H1, H2, H3, H4, H5, H6, H7, H8, H9, H10, H11, H12, H13, H14, HS0, Hfa0_0', Hfb0_0', Hfc0_0', Hfa0_1', Hfb0_1', Hfc0_1', ⟨%W', HW'⟩⟩
  isplitl [HS0 Hg Hfa0_0' Hfb0_0' Hfc0_0' Hfa0_1' Hfb0_1' Hfc0_1']
  · isplitl [HS0]; · (iexists _; isplitr; (focus (ipureintro; exact fun h => (hAt_succ m c t.val h).symm)); iexact HS0)
    isplitl [Hg]; · iexact Hg
    isplitl [Hfa0_0' Hfb0_0' Hfc0_0']
    · iapply (Ring.with_homes (Idealize.SL.BI.Entails.refl _))
      isplitl [Hfa0_0']; · iexact Hfa0_0'
      isplitl [Hfb0_0']; · iexact Hfb0_0'
      iexact Hfc0_0'
    iapply (Ring.with_homes (Idealize.SL.BI.Entails.refl _))
    isplitl [Hfa0_1']; · iexact Hfa0_1'
    isplitl [Hfb0_1']; · iexact Hfb0_1'
    iexact Hfc0_1'
  isplitl [HW']
  · iexists W'; isplitr; · ipureintro; exact fun _ _ => Or.inl trivial
    iexact HW'
  isplitl [streamed]; · iexact streamed
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 8000000 in
/-- The body at a point that adds two chunks. -/
theorem body_C (c : Dev nD) (t : Fin cfg0.N) (h0 : ¬ t.val % 256 = 0) (h1 :  t.val < 254) (h2 : ¬ t.val % 8 = 0) (h3 :  (t.val % 8 = 5 ∨ t.val % 8 = 6 ∨ t.val % 8 = 7)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [after_0, after_1, after_2, after_3, after_4, after_5, after_6, after_7, after_8, after_9, after_10]
  rw [PhiR_castSucc m c t, PhiR_succ m c t]
  unfold Dat.owesAt Pipeline.owesWithin
  rw [show (dats m 0 c).owed t.castSucc = 0 from rfl, show (dats m 0 c).owed t.succ = 0 from rfl]
  unfold PhiR ringAtK ringAtV
  have hgN : grid0.N = 256 := N_0
  have hN : t.val < 256 := lt_of_lt_of_eq t.isLt (show cfg0.N = 256 from N_0)
  rw [after_11, yAt_more m c t h2 h3]
  simp only [before_11 m c t h2]
  have hr0 := rstepK_C t (fun h => h0 ((firstPt_iff t).mp h)) ((streamPt_iff t).mpr h1) (fun h => h2 ((openPt_iff t).mp h)) ((morePt_iff t).mpr h3)
  obtain ⟨hK10, hKB0, hKs0⟩ := hr0
  rw [if_neg (show ¬t.val = 0 by omega), if_neg (show ¬t.val + 1 = 0 by omega)]
  rw [Ring.At3_here _ _ _ _ t.val hKB0, Ring.At3_next _ _ _ _ t.val hKB0, Ring.slotAt3_next0 _ _ _ t.val (by omega), Ring.slotAt3_next1 _ _ _ t.val hKB0]
  have hr1 := rstepV_C t (fun h => h0 ((firstPt_iff t).mp h)) ((streamPt_iff t).mpr h1) (fun h => h2 ((openPt_iff t).mp h)) ((morePt_iff t).mpr h3)
  obtain ⟨hK11, hKB1, hKs1⟩ := hr1
  rw [if_neg (show ¬t.val = 0 by omega), if_neg (show ¬t.val + 1 = 0 by omega)]
  rw [Ring.At3_here _ _ _ _ t.val hKB1, Ring.At3_next _ _ _ _ t.val hKB1, Ring.slotAt3_next0 _ _ _ t.val (by omega), Ring.slotAt3_next1 _ _ _ t.val hKB1]
  iintro ⟨⟨⟨%ds, %hds, HS0⟩, Hg, ⟨-, Hfr0_0_0, Hfr0_0_1, Hfr0_0_2⟩, ⟨-, Hfr0_1_0, Hfr0_1_1, Hfr0_1_2⟩⟩, ⟨%W, -, HW⟩, ⟨%d0, streamed⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl := hds h2
  iapply ((run_C c t _ _ _ _ _ _ _ _ _ _ _ _ _ _ _ _ _ _ _ _ _ _ _ _ _ _ _ _ _ _ _ _ (fun h => h0 ((firstPt_iff t).mp h)) ((streamPt_iff t).mpr h1) (fun h => h2 ((openPt_iff t).mp h)) ((morePt_iff t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (yAt m c t.val) (hAt m c t.val) (V m c main_arg10) (V m c main_arg11)) W _)
  isplitl [streamed]; · iexact streamed
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [HS0]; · iexact HS0
  isplitl [Hfr0_0_0]; · iexact Hfr0_0_0
  isplitl [Hfr0_0_1]; · iexact Hfr0_0_1
  isplitl [Hfr0_0_2]; · iexact Hfr0_0_2
  isplitl [Hfr0_1_0]; · iexact Hfr0_1_0
  isplitl [Hfr0_1_1]; · iexact Hfr0_1_1
  isplitl [Hfr0_1_2]; · iexact Hfr0_1_2
  isplitl [HW]; · iexact HW
  iintro ⟨streamed, H1, H2, H3, H4, H5, H6, H7, H8, H9, H10, H11, H12, H13, H14, HS0, Hfa0_0', Hfb0_0', Hfc0_0', Hfa0_1', Hfb0_1', Hfc0_1', ⟨%W', HW'⟩⟩
  isplitl [HS0 Hg Hfa0_0' Hfb0_0' Hfc0_0' Hfa0_1' Hfb0_1' Hfc0_1']
  · isplitl [HS0]; · (iexists _; isplitr; (focus (ipureintro; exact fun h => (hAt_succ m c t.val h).symm)); iexact HS0)
    isplitl [Hg]; · iexact Hg
    isplitl [Hfa0_0' Hfb0_0' Hfc0_0']
    · iapply (Ring.with_homes (Idealize.SL.BI.Entails.refl _))
      isplitl [Hfa0_0']; · iexact Hfa0_0'
      isplitl [Hfb0_0']; · iexact Hfb0_0'
      iexact Hfc0_0'
    iapply (Ring.with_homes (Idealize.SL.BI.Entails.refl _))
    isplitl [Hfa0_1']; · iexact Hfa0_1'
    isplitl [Hfb0_1']; · iexact Hfb0_1'
    iexact Hfc0_1'
  isplitl [HW']
  · iexists W'; isplitr; · ipureintro; exact fun _ _ => Or.inl trivial
    iexact HW'
  isplitl [streamed]; · iexact streamed
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 8000000 in
/-- The body at a later point that opens a block of rows. -/
theorem body_D (c : Dev nD) (t : Fin cfg0.N) (h0 : ¬ t.val % 256 = 0) (h1 :  t.val < 254) (h2 :  t.val % 8 = 0) (h3 : ¬ (t.val % 8 = 5 ∨ t.val % 8 = 6 ∨ t.val % 8 = 7)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [after_0, after_1, after_2, after_3, after_4, after_5, after_6, after_7, after_8, after_9, after_10]
  rw [PhiR_castSucc m c t, PhiR_succ m c t]
  unfold Dat.owesAt Pipeline.owesWithin
  rw [show (dats m 0 c).owed t.castSucc = 0 from rfl, show (dats m 0 c).owed t.succ = 0 from rfl]
  unfold PhiR ringAtK ringAtV
  have hgN : grid0.N = 256 := N_0
  have hN : t.val < 256 := lt_of_lt_of_eq t.isLt (show cfg0.N = 256 from N_0)
  rw [after_11, yAt_open m c t h2]
  have hr0 := rstepK_D t (fun h => h0 ((firstPt_iff t).mp h)) ((streamPt_iff t).mpr h1) ((openPt_iff t).mpr h2) (fun h => h3 ((morePt_iff t).mp h))
  obtain ⟨hK10, hKB0, hKs0⟩ := hr0
  rw [if_neg (show ¬t.val = 0 by omega), if_neg (show ¬t.val + 1 = 0 by omega)]
  rw [Ring.At3_here _ _ _ _ t.val hKB0, Ring.At3_next _ _ _ _ t.val hKB0, Ring.slotAt3_next0 _ _ _ t.val (by omega), Ring.slotAt3_next1 _ _ _ t.val hKB0]
  have hr1 := rstepV_D t (fun h => h0 ((firstPt_iff t).mp h)) ((streamPt_iff t).mpr h1) ((openPt_iff t).mpr h2) (fun h => h3 ((morePt_iff t).mp h))
  obtain ⟨hK11, hKB1, hKs1⟩ := hr1
  rw [if_neg (show ¬t.val = 0 by omega), if_neg (show ¬t.val + 1 = 0 by omega)]
  rw [Ring.At3_here _ _ _ _ t.val hKB1, Ring.At3_next _ _ _ _ t.val hKB1, Ring.slotAt3_next0 _ _ _ t.val (by omega), Ring.slotAt3_next1 _ _ _ t.val hKB1]
  iintro ⟨⟨⟨%ds, %hds, HS0⟩, Hg, ⟨-, Hfr0_0_0, Hfr0_0_1, Hfr0_0_2⟩, ⟨-, Hfr0_1_0, Hfr0_1_1, Hfr0_1_2⟩⟩, ⟨%W, -, HW⟩, ⟨%d0, streamed⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((run_D c t _ _ _ _ _ _ _ _ _ _ _ _ _ _ _ _ _ _ _ _ _ _ _ _ _ _ _ _ _ _ _ _ (fun h => h0 ((firstPt_iff t).mp h)) ((streamPt_iff t).mpr h1) ((openPt_iff t).mpr h2) (fun h => h3 ((morePt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_arg10) (V m c main_arg11)) W _)
  isplitl [streamed]; · iexact streamed
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [HS0]; · iexists _; iexact HS0
  isplitl [Hfr0_0_0]; · iexact Hfr0_0_0
  isplitl [Hfr0_0_1]; · iexact Hfr0_0_1
  isplitl [Hfr0_0_2]; · iexact Hfr0_0_2
  isplitl [Hfr0_1_0]; · iexact Hfr0_1_0
  isplitl [Hfr0_1_1]; · iexact Hfr0_1_1
  isplitl [Hfr0_1_2]; · iexact Hfr0_1_2
  isplitl [HW]; · iexact HW
  iintro ⟨streamed, H1, H2, H3, H4, H5, H6, H7, H8, H9, H10, H11, H12, H13, H14, HS0, Hfa0_0', Hfb0_0', Hfc0_0', Hfa0_1', Hfb0_1', Hfc0_1', ⟨%W', HW'⟩⟩
  isplitl [HS0 Hg Hfa0_0' Hfb0_0' Hfc0_0' Hfa0_1' Hfb0_1' Hfc0_1']
  · isplitl [HS0]; · (iexists _; isplitr; (focus (ipureintro; exact fun _ => hAt_open m c t h2)); iexact HS0)
    isplitl [Hg]; · iexact Hg
    isplitl [Hfa0_0' Hfb0_0' Hfc0_0']
    · iapply (Ring.with_homes (Idealize.SL.BI.Entails.refl _))
      isplitl [Hfa0_0']; · iexact Hfa0_0'
      isplitl [Hfb0_0']; · iexact Hfb0_0'
      iexact Hfc0_0'
    iapply (Ring.with_homes (Idealize.SL.BI.Entails.refl _))
    isplitl [Hfa0_1']; · iexact Hfa0_1'
    isplitl [Hfb0_1']; · iexact Hfb0_1'
    iexact Hfc0_1'
  isplitl [HW']
  · iexists W'; isplitr; · ipureintro; exact fun _ _ => Or.inl trivial
    iexact HW'
  isplitl [streamed]; · iexact streamed
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 8000000 in
/-- The body at the last two points. -/
theorem body_E (c : Dev nD) (t : Fin cfg0.N) (h0 : ¬ t.val % 256 = 0) (h1 : ¬ t.val < 254) (h2 : ¬ t.val % 8 = 0) (h3 :  (t.val % 8 = 5 ∨ t.val % 8 = 6 ∨ t.val % 8 = 7)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [after_0, after_1, after_2, after_3, after_4, after_5, after_6, after_7, after_8, after_9, after_10]
  rw [PhiR_castSucc m c t, PhiR_succ m c t]
  unfold Dat.owesAt Pipeline.owesWithin
  rw [show (dats m 0 c).owed t.castSucc = 0 from rfl, show (dats m 0 c).owed t.succ = 0 from rfl]
  unfold PhiR ringAtK ringAtV
  have hgN : grid0.N = 256 := N_0
  have hN : t.val < 256 := lt_of_lt_of_eq t.isLt (show cfg0.N = 256 from N_0)
  rw [after_11, yAt_more m c t h2 h3]
  simp only [before_11 m c t h2]
  have hr0 := rstepK_E t (fun h => h0 ((firstPt_iff t).mp h)) (fun h => h1 ((streamPt_iff t).mp h)) (fun h => h2 ((openPt_iff t).mp h)) ((morePt_iff t).mpr h3)
  obtain ⟨hK10, hKB0, hKlt0, hKs0⟩ := hr0
  rw [if_neg (show ¬t.val = 0 by omega), if_neg (show ¬t.val + 1 = 0 by omega)]
  rw [Ring.At3_here_tail _ _ _ _ t.val hKlt0, Ring.At3_next_tail _ _ _ _ t.val hKB0 hKlt0, Ring.slotAt3_tail_role _ _ _ t.val]
  have hr1 := rstepV_E t (fun h => h0 ((firstPt_iff t).mp h)) (fun h => h1 ((streamPt_iff t).mp h)) (fun h => h2 ((openPt_iff t).mp h)) ((morePt_iff t).mpr h3)
  obtain ⟨hK11, hKB1, hKlt1, hKs1⟩ := hr1
  rw [if_neg (show ¬t.val = 0 by omega), if_neg (show ¬t.val + 1 = 0 by omega)]
  rw [Ring.At3_here_tail _ _ _ _ t.val hKlt1, Ring.At3_next_tail _ _ _ _ t.val hKB1 hKlt1, Ring.slotAt3_tail_role _ _ _ t.val]
  iintro ⟨⟨⟨%ds, %hds, HS0⟩, Hg, ⟨-, Hfr0_0_0, Hfr0_0_1, Hfr0_0_2⟩, ⟨-, Hfr0_1_0, Hfr0_1_1, Hfr0_1_2⟩⟩, ⟨%W, -, HW⟩, ⟨%d0, streamed⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl := hds h2
  iapply ((run_E c t _ _ _ _ _ _ _ _ _ _ _ _ _ _ _ _ _ _ _ _ _ _ _ _ _ _ _ _ _ _ _ _ (fun h => h0 ((firstPt_iff t).mp h)) (fun h => h1 ((streamPt_iff t).mp h)) (fun h => h2 ((openPt_iff t).mp h)) ((morePt_iff t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (yAt m c t.val) (hAt m c t.val) (V m c main_arg10) (V m c main_arg11)) W _)
  isplitl [streamed]; · iexact streamed
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [HS0]; · iexact HS0
  isplitl [Hfr0_0_0]; · iexact Hfr0_0_0
  isplitl [Hfr0_0_1]; · iexact Hfr0_0_1
  isplitl [Hfr0_0_2]; · iexact Hfr0_0_2
  isplitl [Hfr0_1_0]; · iexact Hfr0_1_0
  isplitl [Hfr0_1_1]; · iexact Hfr0_1_1
  isplitl [Hfr0_1_2]; · iexact Hfr0_1_2
  isplitl [HW]; · iexact HW
  iintro ⟨streamed, H1, H2, H3, H4, H5, H6, H7, H8, H9, H10, H11, H12, H13, H14, HS0, Hfa0_0', Hfb0_0', Hfc0_0', Hfa0_1', Hfb0_1', Hfc0_1', ⟨%W', HW'⟩⟩
  isplitl [HS0 Hg Hfa0_0' Hfb0_0' Hfc0_0' Hfa0_1' Hfb0_1' Hfc0_1']
  · isplitl [HS0]; · (iexists _; isplitr; (focus (ipureintro; exact fun h => (hAt_succ m c t.val h).symm)); iexact HS0)
    isplitl [Hg]; · iexact Hg
    isplitl [Hfa0_0' Hfb0_0' Hfc0_0']
    · iapply (Ring.with_homes (Idealize.SL.BI.Entails.refl _))
      isplitl [Hfa0_0']; · iexact Hfa0_0'
      isplitl [Hfb0_0']; · iexact Hfb0_0'
      iexact Hfc0_0'
    iapply (Ring.with_homes (Idealize.SL.BI.Entails.refl _))
    isplitl [Hfa0_1']; · iexact Hfa0_1'
    isplitl [Hfb0_1']; · iexact Hfb0_1'
    iexact Hfc0_1'
  isplitl [HW']
  · iexists W'; isplitr; · ipureintro; exact fun _ _ => Or.inl trivial
    iexact HW'
  isplitl [streamed]; · iexact streamed
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at every point. -/
theorem sound_body (c : Dev nD) (t : Fin cfg0.N) :
    bodyPre m c t ⊢ wp frame (wpE (defs₀ (F := F)) Variants.none c none) Set.univ (bodyAt0 t) (fun _ => bodyPost m c t) := by
  have hN : t.val < 256 := lt_of_lt_of_eq t.isLt (show cfg0.N = 256 from N_0)
  by_cases h0 : t.val % 256 = 0
  · by_cases h1 : t.val < 254
    · by_cases h2 : t.val % 8 = 0
      · by_cases h3 : (t.val % 8 = 5 ∨ t.val % 8 = 6 ∨ t.val % 8 = 7)
        · exfalso; omega
        · exact body_A m c t h0 h1 h2 h3
      · exfalso; omega
    · exfalso; omega
  · by_cases h1 : t.val < 254
    · by_cases h2 : t.val % 8 = 0
      · by_cases h3 : (t.val % 8 = 5 ∨ t.val % 8 = 6 ∨ t.val % 8 = 7)
        · exfalso; omega
        · exact body_D m c t h0 h1 h2 h3
      · by_cases h3 : (t.val % 8 = 5 ∨ t.val % 8 = 6 ∨ t.val % 8 = 7)
        · exact body_C m c t h0 h1 h2 h3
        · exact body_B m c t h0 h1 h2 h3
    · by_cases h2 : t.val % 8 = 0
      · exfalso; omega
      · by_cases h3 : (t.val % 8 = 5 ∨ t.val % 8 = 6 ∨ t.val % 8 = 7)
        · exact body_E m c t h0 h1 h2 h3
        · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unread := fun t => by
  rw [bigSep_W0, bigSep_W0, defs₀_row]
  exact triple_restated (sound_body m c t) rfl .rfl fun _ => .rfl

theorem hin (c : Dev nD) : Pipeline.ΦD ringSem spec0 streamed (V m) c ⊢ (dats m 0 c).Φ 0 := by
  rw [carried_eq, show (dats m 0 c).Φ 0 = PhiR m c 0 from rfl]
  unfold PhiR
  iintro ⟨⟨⟨%ds, HS0⟩, HR0_0, HR0_1⟩, Hg, ⟨Hq0, Hq1, Hq2, Hq3, Hq4, Hq5⟩, ⟨Hh0, Hh1⟩⟩
  isplitl [HS0]; · (iexists ds; isplitr; (focus (ipureintro; exact fun h => absurd rfl h)); iexact HS0)
  isplitl [Hg]; · iexact Hg
  isplitl [HR0_0 Hq0 Hq1 Hq2 Hh0]
  · iapply (ringK_in (F := F) m c)
    isplitl [HR0_0]; · iexact HR0_0
    isplitl [Hq0 Hq1 Hq2]
    · isplitl [Hq0]; · iexact Hq0
      isplitl [Hq1]; · iexact Hq1
      iexact Hq2
    iexact Hh0
  iapply (ringV_in (F := F) m c)
  isplitl [HR0_1]; · iexact HR0_1
  isplitl [Hq3 Hq4 Hq5]
  · isplitl [Hq3]; · iexact Hq3
    isplitl [Hq4]; · iexact Hq4
    iexact Hq5
  iexact Hh1
theorem hout (c : Dev nD) : (dats m 0 c).Φ (Fin.last cfg0.N) ⊢ Pipeline.ΦD ringSem spec0 streamed (V m) c := by
  rw [carried_eq, show (dats m 0 c).Φ (Fin.last cfg0.N) = PhiR m c grid0.N from rfl]
  unfold PhiR
  rw [show grid0.N = 256 by rw [N_0]]
  iintro ⟨⟨%ds, -, HS0⟩, Hg, HR0_0, HR0_1⟩
  ihave HX0_0 := (ringK_out (F := F) m c) $$ HR0_0
  icases HX0_0 with ⟨HR0_0, ⟨Hq0, Hq1, Hq2⟩, Hh0⟩
  ihave HX0_1 := (ringV_out (F := F) m c) $$ HR0_1
  icases HX0_1 with ⟨HR0_1, ⟨Hq3, Hq4, Hq5⟩, Hh1⟩
  isplitl [HS0 HR0_0 HR0_1]
  · isplitl [HS0]; · iexists _; iexact HS0
    isplitl [HR0_0]; · iexact HR0_0
    iexact HR0_1
  isplitl [Hg]
  · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  iexact Hh1

set_option maxHeartbeats 800000 in
/-- The host operations, then the region. -/
theorem main_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main_quiescent : θ_run defs (onTc (τ := τ) (main (F := F))) (s₀ m ρ) (fun r => (Pipeline.RDat.FramePost (cfgs 0) (fun c => (dats m 0 c).toRForget unread) (V m)) r ∧ r.2.sem = fun _ => 0) :=
  Pipeline.θ_run_frame_dma_forget (Q' := _) cfgs (dats m) (0 : Fin 1) launch0 ringSem defs₀ Variants.none unread ringSem_facts streamed streamed_sub m ρ main
    (hbody := fun c => (body_obligation m c).loose) (hshare := fun c => (dats m 0 c).share_full fun _ => rfl)
    (howed := fun _ _ => rfl) (V := V m) (hmain := main_region m Variants.none) (hA := A_eq m) (hin := hin m) (hout := hout m)

theorem run_main : θ_run defs (onTc (τ := τ) (main (F := F))) (s₀ m ρ) (Pipeline.RDat.FramePost (cfgs 0) (fun c => (dats m 0 c).toRForget unread) (V m)) :=
  (θ_run defs _ _).mono (fun _ h => h.1) (run_main_quiescent m ρ)

variable (r : PUnit × MemSt nD τ sig (Elt F))

set_option maxHeartbeats 4000000 in
/-- The rows of a final state, -/
theorem rows_end (h : Pipeline.RDat.FramePost (cfgs 0) (fun c => (dats m 0 c).toRForget unread) (V m) r) (c : Dev nD) :
    r.2.mem ((c.tc : Thread nD τ).loc main_v56_0) = (dats m 0 c).arrAt 11 cfg0.N :=
  ((dats m 0 c).toRForget_arrAt_iff (fgt := unread) (w := 11) rfl cfg0.N (r.2.mem ((cfg0.spec 11).arr.view.loc (c.tc : Thread nD τ)))).mp ((h c).1 11)

set_option maxHeartbeats 4000000 in
/-- and its arguments. -/
theorem args_end (h : Pipeline.RDat.FramePost (cfgs 0) (fun c => (dats m 0 c).toRForget unread) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((A_eq m c 7).trans (V_main_arg7 m c)),
      (Pipeline.RDat.FramePost.arr_in h c 8 rfl).trans ((A_eq m c 8).trans (V_main_arg8 m c)),
      (Pipeline.RDat.FramePost.arr_in h c 9 rfl).trans ((A_eq m c 9).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩

set_option maxHeartbeats 4000000 in
/-- Every run ends with the rows at what the points before the last leave, the arguments as they were, and every
    semaphore at zero. -/
theorem run_rows : θ_run defs (onTc (τ := τ) (main (F := F))) ⟨m, fun _ => 0, ρ⟩ (fun r => (∀ c : Dev nD,
      r.2.mem ((c.tc : Thread nD τ).loc main_v56_0) = (dats m 0 c).arrAt 11 cfg0.N) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r h => ⟨rows_end m r h.1, args_end m r h.1, h.2⟩) (run_main_quiescent m ρ)

end Cert.PromptFfnIdeal.Feed

end
-- ==== Proof.PfSame.lean ====
module

public import proofs.«01_k».proof.Proof.PfBody
public import proofs.«01_k».proof.Defs
public import proofs.«01_k».proof.Proof.Gen.PromptFfn

@[expose] public section

set_option maxRecDepth 16384
set_option maxHeartbeats 4000000

noncomputable section

/-! The prompt's feed-forward call and its idealization have the same text: the run of the one is a run of the other. -/

namespace Cert.PromptFfnIdeal.Feed

open Cert.PromptFfnIdeal Cert.PromptFfnIdeal.Gen Idealize.ShloMosaic Idealize.ShloMosaic.TcCoe Idealize.SL.Sem

/-- The two bodies are one. -/
theorem body_same : PromptFfn.defs₀ (F := Bits) = defs₀ (F := Bits) := by
  unfold PromptFfn.defs₀ defs₀
  refine congrArg Defs.onTc ?_
  funext l
  rcases l with ⟨k, hk⟩
  cases k with
  | zero => funext a; rfl
  | succ k => exact absurd hk (Nat.not_lt.2 (Nat.le_add_left _ _))

/-- So are the two programs' functions. -/
theorem defs_same : PromptFfn.defs (F := Bits) = defs (F := Bits) := congrArg (Pipeline.defs PromptFfn.pcfgs) body_same

/-- The frame of the call itself, from the one run, at its own floats. -/
theorem frame_kernel : quiescent_PromptFfn := fun m g _ => by
  have h := (θ_run defs _ _).mono (fun _ h => h.2) (run_rows (F := Bits) m g)
  rw [← defs_same] at h
  exact h

end Cert.PromptFfnIdeal.Feed

end
-- ==== Proof.PfRows.lean ====
module

public import proofs.«01_k».proof.Proof.PfStep
public import Idealize.ShloMosaic.Lib.Pipeline.ValueKit
public import proofs.«01_k».proof.Proof.Ffn
public import Idealize.ShloMosaic.Lib.Tactic

@[expose] public section

set_option maxRecDepth 16384

noncomputable section

/-! The prompt's feed-forward call, entry by entry: the chunk of hidden columns that a point adds to its block of rows. -/

namespace Cert.PromptFfnIdeal.Feed

open Cert.PromptFfnIdeal Cert.PromptFfnIdeal.Gen Idealize.ShloMosaic Idealize.ShloMosaic.TcCoe Idealize.SL.Sem
open Idealize.ShloMosaic.Pipeline (Dat)

set_option maxHeartbeats 1000000 in
/-- One chunk added to the rows, from the columns of the weights. -/
theorem first_apply (y : Vec Ideal S512x1024 .f32) (h : Vec Ideal S512x1024 .bf16) (wg wu : Vec Ideal S1024x256 .bf16) (wd : Vec Ideal S1x256x1024 .bf16)
    (r : Fin 512) (n : Fin 1024) :
    k0_pay182 (k0_pay180 y) h (k0_pay181 wg) (constant S512x256 .f32 0x00000000#32) wu wd (ix2 r n) = y (ix2 r n)
      + ∑ k : Fin 256, (∑ d : Fin 1024, h (ix2 r d) * wg (ix2 d k))
      * Ideal.div 1 (1 + Ideal.exp (-∑ d : Fin 1024, h (ix2 r d) * wg (ix2 d k))) * (∑ d : Fin 1024, h (ix2 r d) * wu (ix2 d k)) * wd (ix3 0 k n) := by
  unfold k0_pay182 k0_pay180 k0_pay181
  pointwise
  simp only [zero_sub]

set_option maxHeartbeats 1000000 in
/-- The second chunk, in the same words. -/
theorem second_apply (y : Vec Ideal S512x1024 .f32) (h : Vec Ideal S512x1024 .bf16) (wg wu : Vec Ideal S1024x256 .bf16) (wd : Vec Ideal S1x256x1024 .bf16)
    (r : Fin 512) (n : Fin 1024) :
    k0_pay1 y h wg wu wd (ix2 r n) = y (ix2 r n)
      + ∑ k : Fin 256, (∑ d : Fin 1024, h (ix2 r d) * wg (ix2 d k))
      * Ideal.div 1 (1 + Ideal.exp (-∑ d : Fin 1024, h (ix2 r d) * wg (ix2 d k))) * (∑ d : Fin 1024, h (ix2 r d) * wu (ix2 d k)) * wd (ix3 0 k n) := by
  unfold k0_pay1
  pointwise
  simp only [zero_sub]

/-- Columns `o` on of a matrix of weights. -/
theorem ld_col (w : Vec Ideal S1024x2816 .bf16) (off : Fin 2 → ℕ) (o : ℕ) (ho : o + 256 ≤ 2816) (h : off = ![0, o])
    (inb : ∀ a, off a + S1024x256.size a ≤ S1024x2816.size a) (d : Fin 1024) (k : Fin 256) :
    View.ld w (Rect.unit (s := S1024x2816) off S1024x256.size inb) (ix2 d k) = w (ix2 d ⟨o + k.val, by omega⟩) := by
  subst h
  refine congrArg w (funext fun a => Fin.ext ?_)
  fin_cases a
  · show 0 + 1 * d.val = d.val
    omega
  · show o + 1 * k.val = o + k.val
    omega

/-- Chunk `j` of the down projection. -/
theorem ld_chunk (w : Vec Ideal S11x256x1024 .bf16) (off : Fin 3 → ℕ) (j : Fin 11) (h : off = ![j.val, 0, 0])
    (inb : ∀ a, off a + S1x256x1024.size a ≤ S11x256x1024.size a) (k : Fin 256) (n : Fin 1024) :
    View.ld w (Rect.unit (s := S11x256x1024) off S1x256x1024.size inb) (ix3 0 k n) = w (ix3 j k n) := by
  subst h
  refine congrArg w (funext fun a => Fin.ext ?_)
  fin_cases a
  · show j.val + 1 * 0 = j.val
    omega
  · show 0 + 1 * k.val = k.val
    omega
  · show 0 + 1 * n.val = n.val
    omega

/-- Where a point finds its first chunk. -/
theorem first_at : ∀ t : Fin cfg0.N, k0_off10 (grid0.coords t) = ![0, t.val % 8 * 256] ∧ k0_off11 (grid0.coords t) = ![t.val % 8, 0, 0] :=
  (by decide +kernel : ∀ t : Fin grid0.N, k0_off10 (grid0.coords t) = ![0, t.val % 8 * 256] ∧ k0_off11 (grid0.coords t) = ![t.val % 8, 0, 0])

/-- Where a late point finds its second chunk. -/
theorem second_at : ∀ t : Fin cfg0.N, (t.val % 8 = 5 ∨ t.val % 8 = 6 ∨ t.val % 8 = 7) →
    k0_off12 (grid0.coords t) = ![0, (t.val % 8 + 3) * 256] ∧ k0_off13 (grid0.coords t) = ![t.val % 8 + 3, 0, 0] :=
  (by decide +kernel : ∀ t : Fin grid0.N, (t.val % 8 = 5 ∨ t.val % 8 = 6 ∨ t.val % 8 = 7) →
    k0_off12 (grid0.coords t) = ![0, (t.val % 8 + 3) * 256] ∧ k0_off13 (grid0.coords t) = ![t.val % 8 + 3, 0, 0])

section
variable (t : Fin cfg0.N) (h : Vec Ideal S512x1024 .bf16) (wg wu : Vec Ideal S1024x2816 .bf16) (wd : Vec Ideal S11x256x1024 .bf16)
  (y : Vec Ideal S512x1024 .f32) (W : Fin 2816 → Fin 1024 → EReal)
  (hW : ∀ (j : Fin 11) (k : Fin 256) (n : Fin 1024) (hj : j.val * 256 + k.val < 2816), W ⟨j.val * 256 + k.val, hj⟩ n = wd (ix3 j k n)) (r : Fin 512) (n : Fin 1024)
include hW

/-- What every point adds, as a chunk of the feed-forward block. -/
theorem yStep_apply (ho : t.val % 8 * 256 + 256 ≤ 2816) : yStep (grid0.coords t) h wg wu wd y (ix2 r n) = y (ix2 r n)
    + Ffn.chunk (fun d => h (ix2 r d)) (fun d f => wg (ix2 d f)) (fun d f => wu (ix2 d f)) W n (t.val % 8 * 256) ho := by
  obtain ⟨e1, e2⟩ := first_at t
  unfold yStep
  rw [first_apply, Ffn.chunk_eq]
  congr 1
  refine Finset.sum_congr rfl fun k _ => ?_
  rw [hW ⟨t.val % 8, by omega⟩ k n _, ld_chunk wd _ ⟨t.val % 8, by omega⟩ e2]
  simp only [ld_col wg _ _ (by omega) e1, ld_col wu _ _ (by omega) e1]

/-- What a late point adds besides. -/
theorem yMore_apply (h3 : t.val % 8 = 5 ∨ t.val % 8 = 6 ∨ t.val % 8 = 7) (hi : morePt (grid0.coords t)) (ho : (t.val % 8 + 3) * 256 + 256 ≤ 2816) :
    yMore (grid0.coords t) hi h wg wu wd y (ix2 r n) = y (ix2 r n)
    + Ffn.chunk (fun d => h (ix2 r d)) (fun d f => wg (ix2 d f)) (fun d f => wu (ix2 d f)) W n ((t.val % 8 + 3) * 256) ho := by
  obtain ⟨e1, e2⟩ := second_at t h3
  unfold yMore
  rw [second_apply, Ffn.chunk_eq]
  congr 1
  refine Finset.sum_congr rfl fun k _ => ?_
  rw [hW ⟨t.val % 8 + 3, by omega⟩ k n _, ld_chunk wd _ ⟨t.val % 8 + 3, by omega⟩ e2]
  simp only [ld_col wg _ _ (by omega) e1, ld_col wu _ _ (by omega) e1]
end

/-- The residual stream after the output projection. -/
theorem sum_apply (x : Vec Ideal S512x1024 .f32) (mix : Vec Ideal S512x1024 .bf16) (w : Vec Ideal S1024x1024 .bf16) (r : Fin 512) (n : Fin 1024) :
    k0_pay2 x mix w (ix2 r n) = x (ix2 r n) + ∑ k : Fin 1024, mix (ix2 r k) * w (ix2 k n) := by
  pointwise [k0_pay2]

/-- The normalized rows. -/
theorem hOpen_apply (x : Vec Ideal S512x1024 .f32) (mix : Vec Ideal S512x1024 .bf16) (w : Vec Ideal S1024x1024 .bf16) (g : Vec Ideal S1x1024 .f32)
    (r : Fin 512) (d : Fin 1024) :
    hOpen x mix w g (ix2 r d) = Ffn.norm (fun n => x (ix2 r n) + ∑ k : Fin 1024, mix (ix2 r k) * w (ix2 k n)) (fun d => g (ix2 0 d)) d := by
  unfold hOpen Ffn.norm
  pointwise [k0_pay3, sum_apply]

end Cert.PromptFfnIdeal.Feed

end
-- ==== Proof.PromptFfn.lean ====
module

public import proofs.«01_k».proof.Defs
public import proofs.«01_k».proof.Proof.PfBody
public import proofs.«01_k».proof.Proof.PfRows
public import proofs.«01_k».proof.Proof.Gen.PromptFfnRefIdeal.Run
public import proofs.«01_k».proof.Proof.Gen.PromptFfnRefIdeal.Read
public import Idealize.ShloMosaic.Lib.Pipeline.ValueKit
public import Idealize.ShloMosaic.Lib.StableHlo.RunRead
public import Idealize.ShloMosaic.Lib.StableHlo.ReadAt
public import Idealize.ShloMosaic.Lib.Tactic

@[expose] public section

set_option maxRecDepth 16384

noncomputable section

/-! The output projection and the feed-forward block of the prompt: the rows that the call writes are what the layer's own lines
compute of the same arrays. -/

namespace Cert.PromptFfnIdeal.Feed

open Cert.PromptFfnIdeal Cert.PromptFfnIdeal.Gen Idealize.ShloMosaic Idealize.ShloMosaic.TcCoe Idealize.SL.Sem
open Idealize.ShloMosaic.Pipeline (Dat)

/-- A row of the residual stream after the output projection. -/
def mid (x0 x1 : (⟨S16384x1024, .f32⟩ : BufTy).Contents (Elt Ideal)) (x2 : (⟨S1024x1024, .f32⟩ : BufTy).Contents (Elt Ideal)) (r : Fin 16384) (n : Fin 1024) : EReal :=
  x0 (ix2 r n) + ∑ k : Fin 1024, x1 (ix2 r k) * x2 (ix2 k n)

/-- The same, of the reference. -/
theorem ref_mid (x0 x1 : (⟨S16384x1024, .f32⟩ : BufTy).Contents (Elt Ideal)) (x2 : (⟨S1024x1024, .f32⟩ : BufTy).Contents (Elt Ideal)) (r : Fin 16384) (n : Fin 1024) :
    PromptFfnRefIdeal.Read.val_main_v1 (F := Ideal) x0 x1 x2 (ix2 r n) = mid x0 x1 x2 r n := by
  unfold mid
  pointwise [PromptFfnRefIdeal.Read.val_main_v0, PromptFfnRefIdeal.Read.val_main_v1]

/-- What the reference returns: the feed-forward block of every row. -/
theorem ref_apply (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x4 x5 : (⟨S1024x2816, .f32⟩ : BufTy).Contents (Elt Ideal)) (x6 : (⟨S2816x1024, .f32⟩ : BufTy).Contents (Elt Ideal)) (r : Fin 16384) (n : Fin 1024) :
    PromptFfnRefIdeal.Read.val_main_v20 (F := Ideal) x0 x1 x2 x3 x4 x5 x6 (ix2 r n)
      = Ffn.row (mid x0 x1 x2 r) (fun d => x3 (ix1 d)) (fun d f => x4 (ix2 d f)) (fun d f => x5 (ix2 d f)) (fun f n => x6 (ix2 f n)) n := by
  pointwise [PromptFfnRefIdeal.Read.val_main_v20,PromptFfnRefIdeal.Read.val_main_v19,PromptFfnRefIdeal.Read.val_main_v18,PromptFfnRefIdeal.Read.val_main_v17,PromptFfnRefIdeal.Read.val_main_v16,PromptFfnRefIdeal.Read.val_main_v15,PromptFfnRefIdeal.Read.val_main_v14,PromptFfnRefIdeal.Read.val_main_v13,PromptFfnRefIdeal.Read.val_main_v12,PromptFfnRefIdeal.Read.val_main_v11,PromptFfnRefIdeal.Read.val_main_v10,PromptFfnRefIdeal.Read.val_main_v9,PromptFfnRefIdeal.Read.val_main_v8,PromptFfnRefIdeal.Read.val_main_v7,PromptFfnRefIdeal.Read.val_main_v6,PromptFfnRefIdeal.Read.val_main_v5,PromptFfnRefIdeal.Read.val_main_v4,PromptFfnRefIdeal.Read.val_main_v3,PromptFfnRefIdeal.Read.val_main_v2,PromptFfnRefIdeal.Read.val_main_cst,PromptFfnRefIdeal.Read.val_main_cst_0,PromptFfnRefIdeal.Read.val_main_cst_1,PromptFfnRefIdeal.Read.val_main_call0_v0,PromptFfnRefIdeal.Read.val_main_call0_v1,PromptFfnRefIdeal.Read.val_main_call0_v2,PromptFfnRefIdeal.Read.val_main_call0_v3,PromptFfnRefIdeal.Read.val_main_call0_v4,PromptFfnRefIdeal.Read.val_main_call0_v5,PromptFfnRefIdeal.Read.val_main_call0_cst,PromptFfnRefIdeal.Read.val_main_call0_cst_0, ref_mid]
  rfl

variable (m : (ℓ : Loc nD τ sig) → Buf (Elt Ideal) ℓ)

/-- Which block of its array each window takes at a grid point. -/
theorem idx : ∀ t : Fin cfg0.N, win0_0.index t = ![t.val / 8, 0] ∧ win0_1.index t = ![t.val / 8, 0] ∧ win0_2.index t = ![0, 0]
    ∧ win0_3.index t = ![0, 0] ∧ win0_4.index t = ![0, 0] ∧ win0_5.index t = ![0, 0] ∧ win0_6.index t = ![0, 0, 0]
    ∧ win0_11.index t = ![t.val / 8, 0] :=
  (by decide +kernel : ∀ t : Fin grid0.N, _)

set_option maxHeartbeats 8000000 in
/-- The weights of a grid point, as the call is given them. -/
theorem weights (c : Dev nD) (t : Fin cfg0.N) :
    (∀ k n : Fin 1024, iblk m c 2 t (ix2 k n) = (m ((c.tc : Thread nD τ).loc main_arg2)) (ix2 k n))
    ∧ (∀ d : Fin 1024, iblk m c 3 t (ix2 0 d) = (m ((c.tc : Thread nD τ).loc main_arg3)) (ix1 d))
    ∧ (∀ (d : Fin 1024) (f : Fin 2816), iblk m c 4 t (ix2 d f) = (m ((c.tc : Thread nD τ).loc main_arg4)) (ix2 d f))
    ∧ (∀ (d : Fin 1024) (f : Fin 2816), iblk m c 5 t (ix2 d f) = (m ((c.tc : Thread nD τ).loc main_arg5)) (ix2 d f))
    ∧ (∀ (j : Fin 11) (k : Fin 256) (n : Fin 1024) (hj : j.val * 256 + k.val < 2816), (m ((c.tc : Thread nD τ).loc main_arg6)) (ix2 (⟨j.val * 256 + k.val, hj⟩ : Fin 2816) n) = iblk m c 6 t (ix3 j k n)) := by
  have hidx := idx t
  refine ⟨fun k n => ?_, fun d => ?_, fun d f => ?_, fun d f => ?_, fun j k n hj => ?_⟩
  · have e1 : (win0_2.blk t).view.emb (ix2 k n) = ix2 k n := by blk_ext [idx t]
    have e2 : iblk m c 2 t (ix2 k n) = V m c main_v3 (ix2 k n) := congrArg (V m c main_v3) e1
    rw [e2]
    after_reads_simp
    pointwise
  · have e1 : (win0_3.blk t).view.emb (ix2 0 d) = ix2 0 d := by blk_ext [idx t]
    have e2 : iblk m c 3 t (ix2 0 d) = V m c main_v4 (ix2 0 d) := congrArg (V m c main_v4) e1
    rw [e2]
    after_reads_simp
    pointwise
  · have e1 : (win0_4.blk t).view.emb (ix2 d f) = ix2 d f := by blk_ext [idx t]
    have e2 : iblk m c 4 t (ix2 d f) = V m c main_v5 (ix2 d f) := congrArg (V m c main_v5) e1
    rw [e2]
    after_reads_simp
    pointwise
  · have e1 : (win0_5.blk t).view.emb (ix2 d f) = ix2 d f := by blk_ext [idx t]
    have e2 : iblk m c 5 t (ix2 d f) = V m c main_v6 (ix2 d f) := congrArg (V m c main_v6) e1
    rw [e2]
    after_reads_simp
    pointwise
  · have e1 : (win0_6.blk t).view.emb (ix3 j k n) = ix3 j k n := by blk_ext [idx t]
    have e2 : iblk m c 6 t (ix3 j k n) = V m c main_v1 (ix3 j k n) := congrArg (V m c main_v1) e1
    rw [e2]
    after_reads_simp
    pointwise

set_option maxHeartbeats 8000000 in
/-- The rows of a grid point's block, as the call is given them. -/
theorem rows (c : Dev nD) (t : Fin cfg0.N) (r : Fin 512) (R : Fin 16384) (hR : R.val = t.val / 8 * 512 + r.val) :
    (∀ n : Fin 1024, iblk m c 0 t (ix2 r n) = (m ((c.tc : Thread nD τ).loc main_arg0)) (ix2 R n))
    ∧ (∀ n : Fin 1024, iblk m c 1 t (ix2 r n) = (m ((c.tc : Thread nD τ).loc main_arg1)) (ix2 R n)) := by
  have hidx := idx t
  have hN : t.val < 256 := lt_of_lt_of_eq t.isLt (show cfg0.N = 256 from N_0)
  have hb : t.val / 8 * 512 + r.val < 16384 := by omega
  obtain rfl : R = ⟨t.val / 8 * 512 + r.val, hb⟩ := Fin.ext hR
  refine ⟨fun n => ?_, fun n => ?_⟩
  · blk_point [iblk, V, idx t]
  · have e1 : (win0_1.blk t).view.emb (ix2 r n) = ix2 (⟨t.val / 8 * 512 + r.val, hb⟩ : Fin 16384) n := by blk_ext [idx t]
    have e2 : iblk m c 1 t (ix2 r n) = V m c main_v2 (ix2 (⟨t.val / 8 * 512 + r.val, hb⟩ : Fin 16384) n) := congrArg (V m c main_v2) e1
    rw [e2]
    after_reads_simp
    pointwise

section
variable (c : Dev nD) (R : Fin 16384) (n : Fin 1024)

/-- The residual stream's row `R`, of the arguments. -/
def res : Fin 1024 → EReal := mid (m ((c.tc : Thread nD τ).loc main_arg0)) (m ((c.tc : Thread nD τ).loc main_arg1)) (m ((c.tc : Thread nD τ).loc main_arg2)) R

/-- The share of chunk `j` of the hidden columns in an entry of row `R`. -/
def share (j : Fin 11) : EReal :=
  Ffn.chunk (Ffn.norm (res m c R) (fun d => (m ((c.tc : Thread nD τ).loc main_arg3)) (ix1 d))) (fun d f => (m ((c.tc : Thread nD τ).loc main_arg4)) (ix2 d f)) (fun d f => (m ((c.tc : Thread nD τ).loc main_arg5)) (ix2 d f))
    (fun f n => (m ((c.tc : Thread nD τ).loc main_arg6)) (ix2 f n)) n (j.val * 256) (by omega)
end

/-- The scratch holds the normalized row. -/
theorem hAt_apply (c : Dev nD) (k : ℕ) (hk : k < 256) (r : Fin 512) (R : Fin 16384) (hR : R.val = k / 8 * 512 + r.val) (d : Fin 1024) :
    hAt m c k (ix2 r d) = Ffn.norm (res m c R) (fun d => (m ((c.tc : Thread nD τ).loc main_arg3)) (ix1 d)) d := by
  have hp : (pt (k / 8 * 8)).val = k / 8 * 8 := Nat.mod_eq_of_lt (by omega)
  obtain ⟨a0, a1⟩ := rows m c (pt (k / 8 * 8)) r R (by rw [hp]; omega)
  obtain ⟨b2, b3, -⟩ := weights m c (pt (k / 8 * 8))
  unfold hAt
  refine (hOpen_apply _ _ _ _ r d).trans ?_
  simp only [a0, a1, b2, b3]
  rfl

/-- What every point adds to an entry of its rows. -/
theorem add_first (c : Dev nD) (t : Fin cfg0.N) (h : Vec Ideal S512x1024 .bf16) (y : Vec Ideal S512x1024 .f32) (r : Fin 512) (R : Fin 16384) (n : Fin 1024)
    (hh : ∀ d, h (ix2 r d) = Ffn.norm (res m c R) (fun d => (m ((c.tc : Thread nD τ).loc main_arg3)) (ix1 d)) d) :
    yStep (grid0.coords t) h (iblk m c 4 t) (iblk m c 5 t) (iblk m c 6 t) y (ix2 r n) = y (ix2 r n) + share m c R n ⟨t.val % 8, by omega⟩ := by
  obtain ⟨-, -, b4, b5, b6⟩ := weights m c t
  refine (yStep_apply t h _ _ _ y (fun f n => (m ((c.tc : Thread nD τ).loc main_arg6)) (ix2 f n)) b6 r n (by omega)).trans ?_
  simp only [hh, b4, b5]
  rfl

/-- What a late point adds besides. -/
theorem add_second (c : Dev nD) (t : Fin cfg0.N) (h : Vec Ideal S512x1024 .bf16) (y : Vec Ideal S512x1024 .f32) (r : Fin 512) (R : Fin 16384) (n : Fin 1024)
    (hh : ∀ d, h (ix2 r d) = Ffn.norm (res m c R) (fun d => (m ((c.tc : Thread nD τ).loc main_arg3)) (ix1 d)) d)
    (h3 : t.val % 8 = 5 ∨ t.val % 8 = 6 ∨ t.val % 8 = 7) (hi : morePt (grid0.coords t)) :
    yMore (grid0.coords t) hi h (iblk m c 4 t) (iblk m c 5 t) (iblk m c 6 t) y (ix2 r n) = y (ix2 r n) + share m c R n ⟨t.val % 8 + 3, by omega⟩ := by
  obtain ⟨-, -, b4, b5, b6⟩ := weights m c t
  refine (yMore_apply t h _ _ _ y (fun f n => (m ((c.tc : Thread nD τ).loc main_arg6)) (ix2 f n)) b6 r n h3 hi (by omega)).trans ?_
  simp only [hh, b4, b5]
  rfl

section
variable (c : Dev nD) (q : ℕ) (hq : q < 32) (r : Fin 512) (R : Fin 16384) (hR : R.val = q * 512 + r.val) (n : Fin 1024)
include hq hR

/-- The rows after the first point of their block, -/
theorem at_open : yAt m c (q * 8 + 1) (ix2 r n) = res m c R n + share m c R n 0 := by
  have hp : (pt (q * 8)).val = q * 8 := Nat.mod_eq_of_lt (by omega)
  have h2 : (pt (q * 8)).val % 8 = 0 := by omega
  obtain ⟨a0, a1⟩ := rows m c (pt (q * 8)) r R (by rw [hp]; omega)
  obtain ⟨b2, b3, -⟩ := weights m c (pt (q * 8))
  have e := yAt_open m c (pt (q * 8)) h2
  rw [hp] at e
  rw [e]
  unfold yOpen
  refine (add_first m c (pt (q * 8)) _ _ r R n fun d => ?_).trans ?_
  · refine (hOpen_apply _ _ _ _ r d).trans ?_
    simp only [a0, a1, b2, b3]
    rfl
  · refine congrArg₂ (· + ·) ((sum_apply _ _ _ r n).trans ?_) (congrArg (share m c R n) (Fin.ext h2))
    simp only [a0, a1, b2]
    rfl

/-- after a point that adds one chunk, -/
theorem at_step (j : ℕ) (hj : 1 ≤ j ∧ j ≤ 4) : yAt m c (q * 8 + j + 1) (ix2 r n) = yAt m c (q * 8 + j) (ix2 r n) + share m c R n ⟨j, by omega⟩ := by
  have hp : (pt (q * 8 + j)).val = q * 8 + j := Nat.mod_eq_of_lt (by omega)
  have e := yAt_step m c (pt (q * 8 + j)) (by omega) (by omega)
  rw [hp] at e
  rw [e]
  refine (add_first m c (pt (q * 8 + j)) _ _ r R n fun d => hAt_apply m c (q * 8 + j) (by omega) r R (by omega) d).trans ?_
  exact congrArg (yAt m c (q * 8 + j) (ix2 r n) + share m c R n ·) (Fin.ext (show (pt (q * 8 + j)).val % 8 = j by omega))

/-- and after one that adds two. -/
theorem at_more (j : ℕ) (hj : 5 ≤ j ∧ j ≤ 7) : yAt m c (q * 8 + j + 1) (ix2 r n)
    = yAt m c (q * 8 + j) (ix2 r n) + share m c R n ⟨j, by omega⟩ + share m c R n ⟨j + 3, by omega⟩ := by
  have hp : (pt (q * 8 + j)).val = q * 8 + j := Nat.mod_eq_of_lt (by omega)
  have h3 : (pt (q * 8 + j)).val % 8 = 5 ∨ (pt (q * 8 + j)).val % 8 = 6 ∨ (pt (q * 8 + j)).val % 8 = 7 := by omega
  have hh := fun d => hAt_apply m c (pt (q * 8 + j)).val (by omega) r R (by omega) d
  have e := yAt_more m c (pt (q * 8 + j)) (by omega) h3
  have e0 : yAt m c (q * 8 + j + 1) = yAt m c ((pt (q * 8 + j)).val + 1) := by rw [hp]
  refine (congrFun (e0.trans e) (ix2 r n)).trans ?_
  refine (add_second m c (pt (q * 8 + j)) _ _ r R n hh h3 _).trans ?_
  refine congrArg₂ (· + ·) ((add_first m c (pt (q * 8 + j)) _ _ r R n hh).trans ?_) (congrArg (share m c R n) (Fin.ext (show (pt (q * 8 + j)).val % 8 + 3 = j + 3 by omega)))
  exact congrArg₂ (fun a b => yAt m c a (ix2 r n) + share m c R n b) hp (Fin.ext (show (pt (q * 8 + j)).val % 8 = j by omega))

/-- The rows that the last point of a block leaves: the feed-forward block of each. -/
theorem at_last : yAt m c (q * 8 + 7 + 1) (ix2 r n) = Ffn.row (res m c R) (fun d => (m ((c.tc : Thread nD τ).loc main_arg3)) (ix1 d)) (fun d f => (m ((c.tc : Thread nD τ).loc main_arg4)) (ix2 d f))
    (fun d f => (m ((c.tc : Thread nD τ).loc main_arg5)) (ix2 d f)) (fun f n => (m ((c.tc : Thread nD τ).loc main_arg6)) (ix2 f n)) n := by
  rw [at_more m c q hq r R hR n 7 (by omega), at_more m c q hq r R hR n 6 (by omega), at_more m c q hq r R hR n 5 (by omega),
    at_step m c q hq r R hR n 4 (by omega), at_step m c q hq r R hR n 3 (by omega), at_step m c q hq r R hR n 2 (by omega),
    at_step m c q hq r R hR n 1 (by omega), at_open m c q hq r R hR n]
  have e : Ffn.row (res m c R) (fun d => (m ((c.tc : Thread nD τ).loc main_arg3)) (ix1 d)) (fun d f => (m ((c.tc : Thread nD τ).loc main_arg4)) (ix2 d f)) (fun d f => (m ((c.tc : Thread nD τ).loc main_arg5)) (ix2 d f)) (fun f n => (m ((c.tc : Thread nD τ).loc main_arg6)) (ix2 f n)) n
      = res m c R n + share m c R n 0 + share m c R n 1 + share m c R n 2 + share m c R n 3 + share m c R n 4 + share m c R n 5 + share m c R n 6
        + share m c R n 7 + share m c R n 8 + share m c R n 9 + share m c R n 10 := Ffn.row_eq _ _ _ _ _ n
  rw [e]
  show res m c R n + share m c R n 0 + share m c R n 1 + share m c R n 2 + share m c R n 3 + share m c R n 4 + share m c R n 5 + share m c R n 8
    + share m c R n 6 + share m c R n 9 + share m c R n 7 + share m c R n 10 = _
  generalize share m c R n = a
  generalize res m c R n = x
  abel
end

/-- The result array is the reference's, of the arguments. -/
theorem final (c : Dev nD) : (dats m 0 c).arrAt 11 cfg0.N
    = PromptFfnRefIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 11 _ (by decide +kernel) fun t hf y => ?_
  have h7 : t.val % 8 = 7 := of_decide_eq_true ((flush_iff t).symm.trans hf)
  blk_simp
  have hidx := idx t
  have hN : t.val < 256 := lt_of_lt_of_eq t.isLt (show cfg0.N = 256 from N_0)
  obtain ⟨r, n, rfl⟩ : ∃ (r : Fin 512) (n : Fin 1024), y = ix2 r n := ⟨y 0, y 1, eq_ix2 y⟩
  have e : (win0_11.blk t).view.emb (ix2 r n) = ix2 (⟨t.val / 8 * 512 + r.val, by omega⟩ : Fin 16384) n := by blk_ext [idx t]
  rw [after_11, e, ref_apply, show t.val + 1 = t.val / 8 * 8 + 7 + 1 by omega]
  exact at_last m c (t.val / 8) (by omega) r _ rfl n

/-- The value claim of the prompt's last call: its rows are the reference's. -/
theorem algebraic : algebraic_PromptFfnIdeal_PromptFfnRefIdeal := by
  intro m g m' g' _ hargs
  refine ⟨fun c => PromptFfnRefIdeal.Value.res_main_v20 m' c, ?_, ?_⟩
  · refine (θ_run defs _ _).mono (fun r h c => ⟨(h.1 c).trans ((final m c).trans ?_), h.2.1 c⟩) (run_rows (F := Ideal) m g)
    obtain ⟨h0, h1, h2, h3, h4, h5, h6, -⟩ := hargs c
    show _ = PromptFfnRefIdeal.Value.res_main_v20 m' c
    rw [PromptFfnRefIdeal.Read.val_main_v20_eq, h0, h1, h2, h3, h4, h5, h6]
  · exact PromptFfnRefIdeal.Value.run m' g'

/-- The frame of the idealized call. -/
theorem frame_ideal : quiescent_PromptFfnIdeal := fun m g _ =>
  (θ_run defs _ _).mono (fun _ h => h.2) (run_rows (F := Ideal) m g)

/-- The reference's frame: its run, read at the arguments; it has no semaphore. -/
theorem frame_ref : quiescent_PromptFfnRefIdeal := fun m g _ =>
  (θ_run PromptFfnRefIdeal.defs _ _).mono (fun r h => ⟨fun c => (h c).2, sem_eq_zero_of_no_sems (by decide) r.2⟩)
    (PromptFfnRefIdeal.Value.run m g)

end Cert.PromptFfnIdeal.Feed

end
-- ==== Proof.SampleConv.lean ====
/- The convolution of the sample: the new state that the call writes is the old one and the steps' rows, without the oldest rows. -/
module

public import proofs.«01_k».proof.Defs
public import proofs.«01_k».proof.Proof.Gen.SampleConvIdeal.Value
public import proofs.«01_k».proof.Proof.Gen.SampleConvRefIdeal.Run
public import proofs.«01_k».proof.Proof.Gen.SampleConvRefIdeal.Read
public import Idealize.ShloMosaic.Lib.Pipeline.ValueKit
public import Idealize.ShloMosaic.Lib.Tactic

@[expose] public section

set_option maxRecDepth 16384

noncomputable section

namespace Cert.SampleConvIdeal.Val

open Cert.SampleConvIdeal Cert.SampleConvIdeal.Gen Idealize.ShloMosaic Idealize.ShloMosaic.TcCoe Idealize.SL.Sem
open Idealize.ShloMosaic.Pipeline (Dat)

/-- The steps' rows as they lie in the scratch: four slabs of lanes. -/
def plane (x : Vec Ideal S256x512 .f32) (y : S4x256x128.Idx) : EReal :=
  x (ix2 (y 1 : Fin 256) (⟨(y 0).val * 128 + (y 2).val, by have h0 : (y 0).val < 4 := (y 0).isLt; have h2 : (y 2).val < 128 := (y 2).isLt; omega⟩ : Fin 512))

/-- A slab as the body stores it. -/
theorem slab (x : Vec Ideal S256x512 .f32) (k : Fin 4) (inb : ∀ a, (![k.val, 0, 0] : Fin 3 → ℕ) a + (![1, 256, 128] : Fin 3 → ℕ) a ≤ S4x256x128.size a)
    (h : S256x512.Slices ![0, k.val * 128] S256x128) (h' : S256x128.ShapeCasts S1x256x128) (z : S1x256x128.Idx) :
    shapeCast S1x256x128 (extractStridedSlice S256x128 ![0, k.val * 128] x h) h' z = plane x ((Rect.unit (s := S4x256x128) ![k.val, 0, 0] ![1, 256, 128] inb).emb z) := by
  obtain ⟨a, b, l, rfl⟩ : ∃ (a : Fin 1) (b : Fin 256) (l : Fin 128), z = ix3 a b l := ⟨z 0, z 1, z 2, eq_ix3 z⟩
  obtain rfl : a = 0 := by omega
  have e : (Rect.unit (s := S4x256x128) ![k.val, 0, 0] ![1, 256, 128] inb).emb (ix3 0 b l) = ix3 k b l := by
    funext a
    apply Fin.ext
    match a with
    | ⟨0, _⟩ => show k.val + 1 * 0 = k.val; omega
    | ⟨1, _⟩ => show 0 + 1 * b.val = b.val; omega
    | ⟨2, _⟩ => show 0 + 1 * l.val = l.val; omega
  rw [e]
  unfold plane
  pointwise

/-- The scratch after its four stores: the steps' rows. -/
theorem slabs (v : View sig .tc .vmem S4x256x128 .f32) (x : Vec Ideal S256x512 .f32) (B : LoadRect S4x256x128) :
    v.readCov (Val := Elt Ideal)
      [⟨Rect.unit (s := S4x256x128) ![3, 0, 0] ![1, 256, 128] inb_S4x256x128_S1x256x128_3_0_0, shapeCast S1x256x128 (extractStridedSlice S256x128 ![0, 384] x slices_S256x512_o0_384_S256x128) shapeCasts_S256x128_S1x256x128⟩,
       ⟨Rect.unit (s := S4x256x128) ![2, 0, 0] ![1, 256, 128] inb_S4x256x128_S1x256x128_2_0_0, shapeCast S1x256x128 (extractStridedSlice S256x128 ![0, 256] x slices_S256x512_o0_256_S256x128) shapeCasts_S256x128_S1x256x128⟩,
       ⟨Rect.unit (s := S4x256x128) ![1, 0, 0] ![1, 256, 128] inb_S4x256x128_S1x256x128_1_0_0, shapeCast S1x256x128 (extractStridedSlice S256x128 ![0, 128] x slices_S256x512_o0_128_S256x128) shapeCasts_S256x128_S1x256x128⟩,
       ⟨Rect.unit (s := S4x256x128) ![0, 0, 0] ![1, 256, 128] inb_S4x256x128_S1x256x128_0_0_0, shapeCast S1x256x128 (extractStridedSlice S256x128 ![0, 0] x slices_S256x512_o0_0_S256x128) shapeCasts_S256x128_S1x256x128⟩] B
      = fun z => plane x (B.idx z) := by
  rw [View.readCov_eq_canon']
  funext z
  refine View.canon_apply_of_pieces (Val := Elt Ideal) (e := .f32) (plane x) _ ?_ _ ?_
  case refine_2 => exact View.cover_of_tiled_head _ _ _ rfl _
  simp only [List.forall_mem_cons]
  exact ⟨slab x 3 _ _ _, slab x 2 _ _ _, slab x 1 _ _ _, slab x 0 _ _ _, fun _ h => absurd h List.not_mem_nil⟩

/-- Four slabs of lanes beside one another. -/
theorem lanes (f0 f1 f2 f3 : S32x128.Idx → EReal) (h : Shape.Concatenates [S32x128, S32x128, S32x128, S32x128] S32x512 1) (G : S32x512.Idx → EReal)
    (e : ∀ (b : Fin 32) (l : Fin 128), f0 (ix2 b l) = G (ix2 b ⟨0 * 128 + l.val, by omega⟩) ∧ f1 (ix2 b l) = G (ix2 b ⟨1 * 128 + l.val, by omega⟩)
      ∧ f2 (ix2 b l) = G (ix2 b ⟨2 * 128 + l.val, by omega⟩) ∧ f3 (ix2 b l) = G (ix2 b ⟨3 * 128 + l.val, by omega⟩)) :
    concatenate S32x512 1 [⟨S32x128, f0⟩, ⟨S32x128, f1⟩, ⟨S32x128, f2⟩, ⟨S32x128, f3⟩] h = G := by
  funext z
  obtain ⟨b, l, rfl⟩ : ∃ (b : Fin 32) (l : Fin 512), z = ix2 b l := ⟨z 0, z 1, eq_ix2 z⟩
  pointwise
  split_ifs
  all_goals first
    | exact (e b ⟨l.val, by omega⟩).1.trans (congrArg G (congrArg (ix2 b) (Fin.ext (by show 0 * 128 + l.val = l.val; omega))))
    | exact (e b ⟨l.val - 128, by omega⟩).2.1.trans (congrArg G (congrArg (ix2 b) (Fin.ext (by show 1 * 128 + (l.val - 128) = l.val; omega))))
    | exact (e b ⟨l.val - 128 - 128, by omega⟩).2.2.1.trans (congrArg G (congrArg (ix2 b) (Fin.ext (by show 2 * 128 + (l.val - 128 - 128) = l.val; omega))))
    | exact (e b ⟨l.val - 128 - 128 - 128, by omega⟩).2.2.2.trans (congrArg G (congrArg (ix2 b) (Fin.ext (by show 3 * 128 + (l.val - 128 - 128 - 128) = l.val; omega))))

/-- One of the slabs, at one step of every row. -/
theorem lane (v : View sig .tc .vmem S4x256x128 .f32) (x : Vec Ideal S256x512 .f32) (j : Fin 4) (k : Fin 8)
    (inb : ∀ (a : Fin 3), (![1, 32, 128] : Fin 3 → ℕ) a = 0 ∨ (![j.val, k.val, 0] : Fin 3 → ℕ) a + (![1, 8, 1] : Fin 3 → ℕ) a * ((![1, 32, 128] : Fin 3 → ℕ) a - 1) < S4x256x128.size a)
    (h : S1x32x128.ShapeCasts S32x128) (b : Fin 32) (l : Fin 128) :
    shapeCast S32x128 (fun z => plane x (LoadRect.idx (s := S4x256x128) { off := ![j.val, k.val, 0], size := ![1, 32, 128], stride := ![1, 8, 1], inb := inb } z)) h (ix2 b l)
      = x (ix2 (⟨b.val * 8 + k.val, by omega⟩ : Fin 256) (⟨j.val * 128 + l.val, by omega⟩ : Fin 512)) := by
  have e : ∀ f : S1x32x128.Idx → EReal, shapeCast S32x128 f h (ix2 b l) = f (ix3 0 b l) := fun f => by pointwise
  refine (e _).trans ?_
  unfold plane
  refine congrArg x ?_
  refine congrArg₂ ix2 (Fin.ext ?_) (Fin.ext ?_)
  · show k.val + 8 * b.val = b.val * 8 + k.val
    omega
  · show (j.val + 1 * 0) * 128 + (0 + 1 * l.val) = j.val * 128 + l.val
    omega

/-- The state after the steps: its last rows, then the steps' own. -/
def shifted (x0 : Vec Ideal S30x32x512 .f32) (x1 : Vec Ideal S256x512 .f32) (y : S30x32x512.Idx) : EReal :=
  if h : (y 0).val + 8 < 30 then x0 (ix3 (⟨(y 0).val + 8, h⟩ : Fin 30) (y 1) (y 2))
  else x1 (ix2 (⟨(y 1).val * 8 + ((y 0).val - 22), by have h0 : (y 0).val < 30 := (y 0).isLt; have h1 : (y 1).val < 32 := (y 1).isLt; omega⟩ : Fin 256) (y 2))

/-- Step `k` of every row. -/
def stepRow (x1 : Vec Ideal S256x512 .f32) (k : Fin 8) (p : S32x512.Idx) : EReal :=
  x1 (ix2 (⟨(p 0).val * 8 + k.val, by have h0 : (p 0).val < 32 := (p 0).isLt; omega⟩ : Fin 256) (p 1))

/-- A step's rows, stored as the state's. -/
theorem stored (f : S32x512.Idx → EReal) (h : S32x512.ShapeCasts S1x32x512) (x0 : Vec Ideal S30x32x512 .f32) (x1 : Vec Ideal S256x512 .f32) (k : Fin 8)
    (inb : ∀ a, (![22 + k.val, 0, 0] : Fin 3 → ℕ) a + (![1, 32, 512] : Fin 3 → ℕ) a ≤ S30x32x512.size a)
    (hf : f = stepRow x1 k) (z : S1x32x512.Idx) :
    shapeCast S1x32x512 f h z = shifted x0 x1 ((Rect.unit (s := S30x32x512) ![22 + k.val, 0, 0] ![1, 32, 512] inb).emb z) := by
  obtain ⟨a, b, l, rfl⟩ : ∃ (a : Fin 1) (b : Fin 32) (l : Fin 512), z = ix3 a b l := ⟨z 0, z 1, z 2, eq_ix3 z⟩
  obtain rfl : a = 0 := by omega
  have e : (Rect.unit (s := S30x32x512) ![22 + k.val, 0, 0] ![1, 32, 512] inb).emb (ix3 0 b l) = ix3 ⟨22 + k.val, by omega⟩ b l := by
    funext a
    apply Fin.ext
    match a with
    | ⟨0, _⟩ => show 22 + k.val + 1 * 0 = 22 + k.val; omega
    | ⟨1, _⟩ => show 0 + 1 * b.val = b.val; omega
    | ⟨2, _⟩ => show 0 + 1 * l.val = l.val; omega
  have g : shapeCast S1x32x512 f h (ix3 0 b l) = f (ix2 b l) := by pointwise
  rw [e, g, hf]
  refine Eq.trans ?_ (dif_neg (show ¬ 22 + k.val + 8 < 30 by omega)).symm
  exact congrArg (fun i => x1 (ix2 i l)) (Fin.ext (by show b.val * 8 + k.val = b.val * 8 + (22 + k.val - 22); omega))

/-- A row of the old state, moved up. -/
theorem kept (x0 : Vec Ideal S30x32x512 .f32) (x1 : Vec Ideal S256x512 .f32) (r : ℕ) (hr : r + 8 < 30)
    (inb' : ∀ a, (![r + 8, 0, 0] : Fin 3 → ℕ) a + (![1, 32, 512] : Fin 3 → ℕ) a ≤ S30x32x512.size a)
    (inb : ∀ a, (![r, 0, 0] : Fin 3 → ℕ) a + (![1, 32, 512] : Fin 3 → ℕ) a ≤ S30x32x512.size a)
    (h : S32x512.ShapeCasts S1x32x512) (h' : S1x32x512.ShapeCasts S32x512) (z : S1x32x512.Idx) :
    shapeCast S1x32x512 (shapeCast S32x512 (View.ld x0 (Rect.unit (s := S30x32x512) ![r + 8, 0, 0] ![1, 32, 512] inb')) h') h z
      = shifted x0 x1 ((Rect.unit (s := S30x32x512) ![r, 0, 0] ![1, 32, 512] inb).emb z) := by
  obtain ⟨a, b, l, rfl⟩ : ∃ (a : Fin 1) (b : Fin 32) (l : Fin 512), z = ix3 a b l := ⟨z 0, z 1, z 2, eq_ix3 z⟩
  obtain rfl : a = 0 := by omega
  have e : (Rect.unit (s := S30x32x512) ![r, 0, 0] ![1, 32, 512] inb).emb (ix3 0 b l) = ix3 ⟨r, by omega⟩ b l := by
    funext a
    apply Fin.ext
    match a with
    | ⟨0, _⟩ => show r + 1 * 0 = r; omega
    | ⟨1, _⟩ => show 0 + 1 * b.val = b.val; omega
    | ⟨2, _⟩ => show 0 + 1 * l.val = l.val; omega
  have g : ∀ f : S1x32x512.Idx → EReal, shapeCast S1x32x512 (shapeCast S32x512 f h') h (ix3 0 b l) = f (ix3 0 b l) := fun f => by pointwise
  refine (g _).trans ?_
  rw [e]
  refine Eq.trans ?_ (dif_pos (show r + 8 < 30 from hr)).symm
  refine congrArg x0 (funext fun a => Fin.ext ?_)
  match a with
  | ⟨0, _⟩ => show r + 8 + 1 * 0 = r + 8; omega
  | ⟨1, _⟩ => show 0 + 1 * b.val = b.val; omega
  | ⟨2, _⟩ => show 0 + 1 * l.val = l.val; omega

/-- One of the slabs at one step, read back from the scratch. -/
theorem slabRead (v : View sig .tc .vmem S4x256x128 .f32) (x' x : Vec Ideal S256x512 .f32) (hx : x' = x) (j : Fin 4) (k : Fin 8)
    (inb : ∀ (a : Fin 3), (![1, 32, 128] : Fin 3 → ℕ) a = 0 ∨ (![j.val, k.val, 0] : Fin 3 → ℕ) a + (![1, 8, 1] : Fin 3 → ℕ) a * ((![1, 32, 128] : Fin 3 → ℕ) a - 1) < S4x256x128.size a)
    (h : S1x32x128.ShapeCasts S32x128) (b : Fin 32) (l : Fin 128) :
    shapeCast S32x128 (v.readCov (Val := Elt Ideal)
      [⟨Rect.unit (s := S4x256x128) ![3, 0, 0] ![1, 256, 128] inb_S4x256x128_S1x256x128_3_0_0, shapeCast S1x256x128 (extractStridedSlice S256x128 ![0, 384] x' slices_S256x512_o0_384_S256x128) shapeCasts_S256x128_S1x256x128⟩,
       ⟨Rect.unit (s := S4x256x128) ![2, 0, 0] ![1, 256, 128] inb_S4x256x128_S1x256x128_2_0_0, shapeCast S1x256x128 (extractStridedSlice S256x128 ![0, 256] x' slices_S256x512_o0_256_S256x128) shapeCasts_S256x128_S1x256x128⟩,
       ⟨Rect.unit (s := S4x256x128) ![1, 0, 0] ![1, 256, 128] inb_S4x256x128_S1x256x128_1_0_0, shapeCast S1x256x128 (extractStridedSlice S256x128 ![0, 128] x' slices_S256x512_o0_128_S256x128) shapeCasts_S256x128_S1x256x128⟩,
       ⟨Rect.unit (s := S4x256x128) ![0, 0, 0] ![1, 256, 128] inb_S4x256x128_S1x256x128_0_0_0, shapeCast S1x256x128 (extractStridedSlice S256x128 ![0, 0] x' slices_S256x512_o0_0_S256x128) shapeCasts_S256x128_S1x256x128⟩]
      { off := ![j.val, k.val, 0], size := ![1, 32, 128], stride := ![1, 8, 1], inb := inb }) h (ix2 b l)
      = stepRow x k (ix2 b (⟨j.val * 128 + l.val, by omega⟩ : Fin 512)) := by
  subst hx
  rw [slabs]
  exact lane v x' j k inb h b l

/-- What a grid point leaves in its block of the new state, of its blocks of the old state and of the steps. -/
theorem outSt (c : Dev nD) (i : grid0.Coords) (a1 : Memref sig .tc .vmem S30x32x512 .f32) (h1 : a1.IsWhole) (a2 : Memref sig .tc .vmem S256x512 .f32) (h2 : a2.IsWhole)
    (a3 : Memref sig .tc .vmem S31x512 .f32) (h3 : a3.IsWhole) (a4 : Memref sig .tc .vmem S1x512 .f32) (h4 : a4.IsWhole) (a5 : Memref sig .tc .vmem S1x512 .f32) (h5 : a5.IsWhole)
    (a6 : Memref sig .tc .vmem S1x512 .f32) (h6 : a6.IsWhole) (a7 : Memref sig .tc .vmem S256x512 .f32) (h7 : a7.IsWhole) (a8 : Memref sig .tc .vmem S30x32x512 .f32) (h8 : a8.IsWhole)
    (a9 : Memref sig .tc .vmem S4x256x128 .f32) (h9 : a9.IsWhole) (a10 : Memref sig .tc .vmem S4x256x128 .f32) (h10 : a10.IsWhole)
    (x0 : Vec Ideal S30x32x512 .f32) (x1 : Vec Ideal S256x512 .f32) (x2 : Vec Ideal S31x512 .f32) (x3 x4 x5 : Vec Ideal S1x512 .f32) :
    out0_A_7 c i a1 h1 a2 h2 a3 h3 a4 h4 a5 h5 a6 h6 a7 h7 a8 h8 a9 h9 a10 h10 x0 x1 x2 x3 x4 x5 = shifted x0 x1 := by
  funext y
  frame_open
  rw [View.read_writes_junk_eq_canon]
  refine View.canon_apply_of_pieces (Val := Elt Ideal) (e := .f32) (shifted x0 x1) _ ?_ y ?_
  case refine_2 => exact View.cover_of_tiled_head _ _ _ rfl y
  have hx : ∀ inb, View.ld (View.read (Elt Ideal) a2.view (h2.unread x1)) (Rect.unit (s := S256x512) ![0, 0] ![256, 512] inb) = x1 := fun inb =>
    (congrArg (fun x => View.ld x (Rect.unit (s := S256x512) ![0, 0] ![256, 512] inb)) (h2.read_unread x1)).trans (View.ld_unit_lit' inb x1 (by decide))
  simp only [View.readAt_eq_ld, h1.read_unread]
  simp only [List.forall_mem_cons]
  refine ⟨fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun _ h => absurd h List.not_mem_nil⟩
  · unfold_payloads
    refine stored _ _ x0 x1 7 inb_S30x32x512_S1x32x512_29_0_0 ?_ z
    refine lanes _ _ _ _ _ _ fun b l => ⟨?_, ?_, ?_, ?_⟩
    · exact slabRead _ _ _ (hx _) 0 7 _ _ b l
    · exact slabRead _ _ _ (hx _) 1 7 _ _ b l
    · exact slabRead _ _ _ (hx _) 2 7 _ _ b l
    · exact slabRead _ _ _ (hx _) 3 7 _ _ b l
  · unfold_payloads
    refine stored _ _ x0 x1 6 inb_S30x32x512_S1x32x512_28_0_0 ?_ z
    refine lanes _ _ _ _ _ _ fun b l => ⟨?_, ?_, ?_, ?_⟩
    · exact slabRead _ _ _ (hx _) 0 6 _ _ b l
    · exact slabRead _ _ _ (hx _) 1 6 _ _ b l
    · exact slabRead _ _ _ (hx _) 2 6 _ _ b l
    · exact slabRead _ _ _ (hx _) 3 6 _ _ b l
  · unfold_payloads
    refine stored _ _ x0 x1 5 inb_S30x32x512_S1x32x512_27_0_0 ?_ z
    refine lanes _ _ _ _ _ _ fun b l => ⟨?_, ?_, ?_, ?_⟩
    · exact slabRead _ _ _ (hx _) 0 5 _ _ b l
    · exact slabRead _ _ _ (hx _) 1 5 _ _ b l
    · exact slabRead _ _ _ (hx _) 2 5 _ _ b l
    · exact slabRead _ _ _ (hx _) 3 5 _ _ b l
  · unfold_payloads
    refine stored _ _ x0 x1 4 inb_S30x32x512_S1x32x512_26_0_0 ?_ z
    refine lanes _ _ _ _ _ _ fun b l => ⟨?_, ?_, ?_, ?_⟩
    · exact slabRead _ _ _ (hx _) 0 4 _ _ b l
    · exact slabRead _ _ _ (hx _) 1 4 _ _ b l
    · exact slabRead _ _ _ (hx _) 2 4 _ _ b l
    · exact slabRead _ _ _ (hx _) 3 4 _ _ b l
  · unfold_payloads
    refine stored _ _ x0 x1 3 inb_S30x32x512_S1x32x512_25_0_0 ?_ z
    refine lanes _ _ _ _ _ _ fun b l => ⟨?_, ?_, ?_, ?_⟩
    · exact slabRead _ _ _ (hx _) 0 3 _ _ b l
    · exact slabRead _ _ _ (hx _) 1 3 _ _ b l
    · exact slabRead _ _ _ (hx _) 2 3 _ _ b l
    · exact slabRead _ _ _ (hx _) 3 3 _ _ b l
  · unfold_payloads
    refine stored _ _ x0 x1 2 inb_S30x32x512_S1x32x512_24_0_0 ?_ z
    refine lanes _ _ _ _ _ _ fun b l => ⟨?_, ?_, ?_, ?_⟩
    · exact slabRead _ _ _ (hx _) 0 2 _ _ b l
    · exact slabRead _ _ _ (hx _) 1 2 _ _ b l
    · exact slabRead _ _ _ (hx _) 2 2 _ _ b l
    · exact slabRead _ _ _ (hx _) 3 2 _ _ b l
  · unfold_payloads
    refine stored _ _ x0 x1 1 inb_S30x32x512_S1x32x512_23_0_0 ?_ z
    refine lanes _ _ _ _ _ _ fun b l => ⟨?_, ?_, ?_, ?_⟩
    · exact slabRead _ _ _ (hx _) 0 1 _ _ b l
    · exact slabRead _ _ _ (hx _) 1 1 _ _ b l
    · exact slabRead _ _ _ (hx _) 2 1 _ _ b l
    · exact slabRead _ _ _ (hx _) 3 1 _ _ b l
  · unfold_payloads
    refine stored _ _ x0 x1 0 inb_S30x32x512_S1x32x512_22_0_0 ?_ z
    refine lanes _ _ _ _ _ _ fun b l => ⟨?_, ?_, ?_, ?_⟩
    · exact slabRead _ _ _ (hx _) 0 0 _ _ b l
    · exact slabRead _ _ _ (hx _) 1 0 _ _ b l
    · exact slabRead _ _ _ (hx _) 2 0 _ _ b l
    · exact slabRead _ _ _ (hx _) 3 0 _ _ b l
  · unfold_payloads
    exact kept x0 x1 21 (by decide) _ inb_S30x32x512_S1x32x512_21_0_0 _ _ z
  · unfold_payloads
    exact kept x0 x1 20 (by decide) _ inb_S30x32x512_S1x32x512_20_0_0 _ _ z
  · unfold_payloads
    exact kept x0 x1 19 (by decide) _ inb_S30x32x512_S1x32x512_19_0_0 _ _ z
  · unfold_payloads
    exact kept x0 x1 18 (by decide) _ inb_S30x32x512_S1x32x512_18_0_0 _ _ z
  · unfold_payloads
    exact kept x0 x1 17 (by decide) _ inb_S30x32x512_S1x32x512_17_0_0 _ _ z
  · unfold_payloads
    exact kept x0 x1 16 (by decide) _ inb_S30x32x512_S1x32x512_16_0_0 _ _ z
  · unfold_payloads
    exact kept x0 x1 15 (by decide) _ inb_S30x32x512_S1x32x512_15_0_0 _ _ z
  · unfold_payloads
    exact kept x0 x1 14 (by decide) _ inb_S30x32x512_S1x32x512_14_0_0 _ _ z
  · unfold_payloads
    exact kept x0 x1 13 (by decide) _ inb_S30x32x512_S1x32x512_13_0_0 _ _ z
  · unfold_payloads
    exact kept x0 x1 12 (by decide) _ inb_S30x32x512_S1x32x512_12_0_0 _ _ z
  · unfold_payloads
    exact kept x0 x1 11 (by decide) _ inb_S30x32x512_S1x32x512_11_0_0 _ _ z
  · unfold_payloads
    exact kept x0 x1 10 (by decide) _ inb_S30x32x512_S1x32x512_10_0_0 _ _ z
  · unfold_payloads
    exact kept x0 x1 9 (by decide) _ inb_S30x32x512_S1x32x512_9_0_0 _ _ z
  · unfold_payloads
    exact kept x0 x1 8 (by decide) _ inb_S30x32x512_S1x32x512_8_0_0 _ _ z
  · unfold_payloads
    exact kept x0 x1 7 (by decide) _ inb_S30x32x512_S1x32x512_7_0_0 _ _ z
  · unfold_payloads
    exact kept x0 x1 6 (by decide) _ inb_S30x32x512_S1x32x512_6_0_0 _ _ z
  · unfold_payloads
    exact kept x0 x1 5 (by decide) _ inb_S30x32x512_S1x32x512_5_0_0 _ _ z
  · unfold_payloads
    exact kept x0 x1 4 (by decide) _ inb_S30x32x512_S1x32x512_4_0_0 _ _ z
  · unfold_payloads
    exact kept x0 x1 3 (by decide) _ inb_S30x32x512_S1x32x512_3_0_0 _ _ z
  · unfold_payloads
    exact kept x0 x1 2 (by decide) _ inb_S30x32x512_S1x32x512_2_0_0 _ _ z
  · unfold_payloads
    exact kept x0 x1 1 (by decide) _ inb_S30x32x512_S1x32x512_1_0_0 _ _ z
  · unfold_payloads
    exact kept x0 x1 0 (by decide) _ inb_S30x32x512_S1x32x512_0_0_0 _ _ z

/-- What the reference returns: the old state and the steps' rows one after the other, without the oldest rows. -/
theorem ref_apply (x0 : (⟨S128x30x512, .f32⟩ : BufTy).Contents (Elt Ideal)) (x1 : (⟨S1024x512, .f32⟩ : BufTy).Contents (Elt Ideal)) (i : Fin 30) (b : Fin 128) (l : Fin 512) :
    SampleConvRefIdeal.Read.val_main_v3 (F := Ideal) x0 x1 (ix3 i b l)
      = if h : i.val + 8 < 30 then x0 (ix3 b ⟨i.val + 8, h⟩ l) else x1 (ix2 ⟨b.val * 8 + (i.val - 22), by omega⟩ l) := by
  pointwise [SampleConvRefIdeal.Read.val_main_v3, SampleConvRefIdeal.Read.val_main_v2, SampleConvRefIdeal.Read.val_main_v1, SampleConvRefIdeal.Read.val_main_v0]
  by_cases h : i.val + 8 < 30
  · rw [dif_pos h, dif_pos (show 8 + i.val < 30 by omega)]
    exact congrArg (fun j => x0 (ix3 b j l)) (Fin.ext (Nat.add_comm _ _))
  · rw [dif_neg h, dif_neg (show ¬ 8 + i.val < 30 by omega)]
    exact congrArg (fun j => x1 (ix2 j l)) (Fin.ext (by show b.val * 8 + (8 + i.val - 30) = b.val * 8 + (i.val - 22); omega))

variable (m : (ℓ : Loc nD τ sig) → Buf (Elt Ideal) ℓ)

/-- Which block of its array each window takes at a grid point. -/
theorem idx : ∀ t : Fin cfg0.N, win0_0.index t = ![0, t.val, 0] ∧ win0_1.index t = ![t.val, 0] ∧ win0_7.index t = ![0, t.val, 0] :=
  (by decide +kernel : ∀ t : Fin grid0.N, _)

/-- What a grid point leaves in its block of the new state. -/
theorem outs_snd (c : Dev nD) (t : Fin cfg0.N) : (outsAt0 m c t).2 = shifted (iblk m c 0 t) (iblk m c 1 t) := by
  unfold outsAt0
  dsimp only
  rw [outSt]

/-- The new state is the reference's, of the arguments. -/
theorem final (c : Dev nD) : (dats m 0 c).arrAt 7 cfg0.N
    = SampleConvRefIdeal.Read.val_main_v3 (F := Ideal) (m ((c.tc : Thread nD τ).loc main_arg0)) (m ((c.tc : Thread nD τ).loc main_arg1)) := by
  refine (dats m 0 c).arrAt_eq_of_covers 7 _ (by decide +kernel) fun t hf y => ?_
  blk_simp
  have hidx := idx t
  have hN : t.val < 4 := t.isLt
  obtain ⟨i, b, l, rfl⟩ : ∃ (i : Fin 30) (b : Fin 32) (l : Fin 512), y = ix3 i b l := ⟨y 0, y 1, y 2, eq_ix3 y⟩
  have e : (win0_7.blk t).view.emb (ix3 i b l) = ix3 i (⟨t.val * 32 + b.val, by omega⟩ : Fin 128) l := by blk_ext [idx t]
  rw [after0_7, outs_snd, e, ref_apply]
  by_cases h : i.val + 8 < 30
  · rw [dif_pos h]
    refine (dif_pos h).trans ?_
    have e0 : (win0_0.blk t).view.emb (ix3 (⟨i.val + 8, h⟩ : Fin 30) b l) = ix3 (⟨i.val + 8, h⟩ : Fin 30) (⟨t.val * 32 + b.val, by omega⟩ : Fin 128) l := by blk_ext [idx t]
    have e1 : iblk m c 0 t (ix3 (⟨i.val + 8, h⟩ : Fin 30) b l) = V m c main_v0 (ix3 (⟨i.val + 8, h⟩ : Fin 30) (⟨t.val * 32 + b.val, by omega⟩ : Fin 128) l) := congrArg (V m c main_v0) e0
    refine Eq.trans e1 ?_
    entry_read
    pointwise
  · rw [dif_neg h]
    refine (dif_neg h).trans ?_
    have e0 : (win0_1.blk t).view.emb (ix2 (⟨b.val * 8 + (i.val - 22), by omega⟩ : Fin 256) l) = ix2 (⟨(t.val * 32 + b.val) * 8 + (i.val - 22), by omega⟩ : Fin 1024) l := by blk_ext [idx t]
    have e1 : iblk m c 1 t (ix2 (⟨b.val * 8 + (i.val - 22), by omega⟩ : Fin 256) l) = V m c main_arg1 (ix2 (⟨(t.val * 32 + b.val) * 8 + (i.val - 22), by omega⟩ : Fin 1024) l) := congrArg (V m c main_arg1) e0
    refine Eq.trans e1 ?_
    entry_read
    rfl

/-- The value claim of the samples' convolution: its new state is the reference's. -/
theorem algebraic : algebraic_SampleConvIdeal_SampleConvRefIdeal := by
  intro m g m' g' _ hargs
  refine ⟨fun c => SampleConvRefIdeal.Read.val_main_v3 (F := Ideal) (m' ((c.tc : Thread nD τ).loc SampleConvRefIdeal.main_arg0)) (m' ((c.tc : Thread nD τ).loc SampleConvRefIdeal.main_arg1)), ?_, ?_⟩
  · refine (θ_run defs _ _).mono (fun r h c => ⟨(h c).2.1.trans ((final m c).trans ?_), (h c).2.2⟩) (Value.run_blocks m g)
    obtain ⟨h0, h1, h2, h3, h4, h5⟩ := hargs c
    exact congrArg₂ _ h0.symm h1.symm
  · exact (θ_run SampleConvRefIdeal.defs _ _).mono (fun r h c => ⟨(h c).1.trans (SampleConvRefIdeal.Read.val_main_v3_eq _ _), (h c).2⟩) (SampleConvRefIdeal.Value.run m' g')

/-- The reference's frame: its run, read at the arguments; it has no semaphore. -/
theorem frame_ref : quiescent_SampleConvRefIdeal := fun m g _ =>
  (θ_run SampleConvRefIdeal.defs _ _).mono (fun r h => ⟨fun c => (h c).2, sem_eq_zero_of_no_sems (by decide) r.2⟩)
    (SampleConvRefIdeal.Value.run m g)

end Cert.SampleConvIdeal.Val
end
-- ==== Proof.lean ====
module

public import proofs.«01_k».proof.Defs
public import proofs.«01_k».proof.Proof.Gen.SampleFfn
public import proofs.«01_k».proof.Proof.Gen.SampleFfn.Skeleton
public import proofs.«01_k».proof.Proof.Gen.SampleFfn.Launch
public import proofs.«01_k».proof.Proof.Gen.SampleFfn.Points
public import proofs.«01_k».proof.Proof.Gen.SampleFfn.Frame
public import proofs.«01_k».proof.Proof.Gen.SampleFfnIdeal
public import proofs.«01_k».proof.Proof.Gen.SampleFfnIdeal.Skeleton
public import proofs.«01_k».proof.Proof.Gen.SampleFfnIdeal.Launch
public import proofs.«01_k».proof.Proof.Gen.SampleFfnIdeal.Points
public import proofs.«01_k».proof.Proof.Gen.SampleFfnIdeal.Frame
public import proofs.«01_k».proof.Proof.Gen.SampleFfnRefIdeal
public import proofs.«01_k».proof.Proof.SampleFfn
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.InProj
public import proofs.«01_k».proof.Proof.Gen.PromptFfn
public import proofs.«01_k».proof.Proof.Gen.PromptFfnIdeal
public import proofs.«01_k».proof.Proof.Gen.PromptFfnRefIdeal
public import proofs.«01_k».proof.Proof.PfSame
public import proofs.«01_k».proof.Proof.PromptFfn
public import proofs.«01_k».proof.Proof.Gen.SampleConv
public import proofs.«01_k».proof.Proof.Gen.SampleConv.Skeleton
public import proofs.«01_k».proof.Proof.Gen.SampleConv.Launch
public import proofs.«01_k».proof.Proof.Gen.SampleConv.Points
public import proofs.«01_k».proof.Proof.Gen.SampleConv.Frame
public import proofs.«01_k».proof.Proof.Gen.SampleConvIdeal
public import proofs.«01_k».proof.Proof.Gen.SampleConvIdeal.Skeleton
public import proofs.«01_k».proof.Proof.Gen.SampleConvIdeal.Launch
public import proofs.«01_k».proof.Proof.Gen.SampleConvIdeal.Points
public import proofs.«01_k».proof.Proof.Gen.SampleConvIdeal.Frame
public import proofs.«01_k».proof.Proof.Gen.SampleConvRefIdeal
public import proofs.«01_k».proof.Proof.SampleConv
public import Idealize.ShloMosaic.Adequacy
public import Idealize.ShloMosaic.Init

@[expose] public section

noncomputable section

namespace Cert.Proof

open Idealize.ShloMosaic Idealize.SL.Sem

theorem claim : Cert.Claim :=
  ⟨Cert.SampleFfn.Gen.facts, Cert.SampleFfnIdeal.Gen.facts, Cert.SampleFfnRefIdeal.Gen.facts,
    Cert.InProj.Gen.facts, Cert.InProjIdeal.Gen.facts, Cert.InProjRefIdeal.Gen.facts,
    Cert.PromptFfn.Gen.facts, Cert.PromptFfnIdeal.Gen.facts, Cert.PromptFfnRefIdeal.Gen.facts,
    Cert.SampleConv.Gen.facts, Cert.SampleConvIdeal.Gen.facts, Cert.SampleConvRefIdeal.Gen.facts,
    fun m ρ _ => Cert.SampleFfn.Gen.frame m ρ, fun m ρ _ => Cert.SampleFfnIdeal.Gen.frame m ρ, Cert.SampleFfnIdeal.Val.frame_ref,
    fun m ρ _ => Cert.InProj.Gen.frame m ρ, fun m ρ _ => Cert.InProjIdeal.Gen.frame m ρ, Cert.InProjIdeal.Val.frame_ref,
    Cert.PromptFfnIdeal.Feed.frame_kernel, Cert.PromptFfnIdeal.Feed.frame_ideal, Cert.PromptFfnIdeal.Feed.frame_ref,
    fun m ρ _ => Cert.SampleConv.Gen.frame m ρ, fun m ρ _ => Cert.SampleConvIdeal.Gen.frame m ρ, Cert.SampleConvIdeal.Val.frame_ref,
    trivial, Cert.SampleFfnIdeal.Val.algebraic,
    IdealRules.named_const.statement _ _ _ _ _ rfl, Cert.InProjIdeal.Val.algebraic,
    trivial, Cert.PromptFfnIdeal.Feed.algebraic,
    trivial, Cert.SampleConvIdeal.Val.algebraic⟩

end Cert.Proof

end
